-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v69_0)) (v1 : (c : Dev Cert.Kernel2Ideal.nD) → Buf (Elt Ideal) ((c.tc : Thread Cert.Kernel2Ideal.nD Cert.Kernel2Ideal.τ).loc Cert.Kernel2Ideal.main_v69_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v69_0) = v0 c
          ∧ r.2.mem ((c.tc : Thread Cert.Kernel2Ideal.nD Cert.Kernel2Ideal.τ).loc Cert.Kernel2Ideal.main_v69_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v145) = v0 c
          ∧ r.2.mem ((c.tc : Thread Cert.Reference2Ideal.nD Cert.Reference2Ideal.τ).loc Cert.Reference2Ideal.main_v147) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v46)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v46) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v97) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S4x4096x4x2x64 : Shape := ⟨5, ![4, 4096, 4, 2, 64]⟩
abbrev S4x4096x4x128 : Shape := ⟨4, ![4, 4096, 4, 128]⟩
abbrev S4x4096x1536 : Shape := ⟨3, ![4, 4096, 1536]⟩
abbrev S1x64 : Shape := ⟨2, ![1, 64]⟩
abbrev S1x128 : Shape := ⟨2, ![1, 128]⟩
abbrev S_ : Shape := ⟨0, ![]⟩

class Facts : Prop where
  bcast_S_S4x4096x4x2x64 : S_.BroadcastsInDim S4x4096x4x2x64 (![] : Fin 0 → Fin S4x4096x4x2x64.rank)
  reducesTo_S4x4096x4x2x64_S_d0_1_2_3_4 : S4x4096x4x2x64.ReducesTo [0, 1, 2, 3, 4] S_
  h_S_ : 0 < S_.numel
  bcast_S_S4x4096x4x128 : S_.BroadcastsInDim S4x4096x4x128 (![] : Fin 0 → Fin S4x4096x4x128.rank)
  reducesTo_S4x4096x4x128_S_d0_1_2_3 : S4x4096x4x128.ReducesTo [0, 1, 2, 3] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg5 : FVec F S1x64 .f32) (main_arg6 : FVec F S1x64 .f32) (main_arg7 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg5
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg6
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg7
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S4x4096x4x2x64 .f32) (main_arg1 : FVec F S4x4096x4x2x64 .f32) (main_arg2 : FVec F S4x4096x4x128 .f32) (main_arg3 : FVec F S4x4096x1536 .f32) (main_arg4 : FVec F S1x64 .f32) (main_arg5 : FVec F S1x64 .f32) (main_arg6 : FVec F S1x64 .f32) (main_arg7 : FVec F S1x64 .f32) (main_arg8 : FVec F S1x128 .f32) : IVec S_ 1 :=
  let main_v0 : FVec F S4x4096x4x2x64 .f32 := Host.absf main_arg0
  let main_cst : FVec F S_ .f32 := constant S_ .f32 0x7F800000#32
  let main_v1 : FVec F S4x4096x4x2x64 .f32 := broadcastInDim S4x4096x4x2x64 ![] bcast_S_S4x4096x4x2x64 main_cst
  let main_v2 : IVec S4x4096x4x2x64 1 := cmpf .olt main_v0 main_v1
  let main_c : IVec S_ 1 := constantI S_ 1 1#1
  let main_v3 : IVec S_ 1 := (fun x v => Host.reduce IntOp.andi x v reducesTo_S4x4096x4x2x64_S_d0_1_2_3_4 h_S_) main_v2 main_c
  let main_v4 : FVec F S4x4096x4x2x64 .f32 := Host.absf main_arg1
  let main_cst_0 : FVec F S_ .f32 := constant S_ .f32 0x7F800000#32
  let main_v5 : FVec F S4x4096x4x2x64 .f32 := broadcastInDim S4x4096x4x2x64 ![] bcast_S_S4x4096x4x2x64 main_cst_0
  let main_v6 : IVec S4x4096x4x2x64 1 := cmpf .olt main_v4 main_v5
  let main_c_1 : IVec S_ 1 := constantI S_ 1 1#1
  let main_v7 : IVec S_ 1 := (fun x v => Host.reduce IntOp.andi x v reducesTo_S4x4096x4x2x64_S_d0_1_2_3_4 h_S_) main_v6 main_c_1
  let main_v8 : IVec S_ 1 := andi main_v3 main_v7
  let main_v9 : FVec F S4x4096x4x128 .f32 := Host.absf main_arg2
  let main_cst_2 : FVec F S_ .f32 := constant S_ .f32 0x7F800000#32
  let main_v10 : FVec F S4x4096x4x128 .f32 := broadcastInDim S4x4096x4x128 ![] bcast_S_S4x4096x4x128 main_cst_2
  let main_v11 : IVec S4x4096x4x128 1 := cmpf .olt main_v9 main_v10
  let main_c_3 : IVec S_ 1 := constantI S_ 1 1#1
  let main_v12 : IVec S_ 1 := (fun x v => Host.reduce IntOp.andi x v reducesTo_S4x4096x4x128_S_d0_1_2_3 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg5 main_arg6 main_arg7 main_v13 main_v16
-- ==== Pre_finite4.lean ====
abbrev S4x4096x512 : Shape := ⟨3, ![4, 4096, 512]⟩
abbrev S4x4096x16x32 : Shape := ⟨4, ![4, 4096, 16, 32]⟩
abbrev S1x16x15x31 : Shape := ⟨4, ![1, 16, 15, 31]⟩
abbrev S_ : Shape := ⟨0, ![]⟩

class Facts : Prop where
  bcast_S_S4x4096x16x32 : S_.BroadcastsInDim S4x4096x16x32 (![] : Fin 0 → Fin S4x4096x16x32.rank)
  reducesTo_S4x4096x16x32_S_d0_1_2_3 : S4x4096x16x32.ReducesTo [0, 1, 2, 3] S_
  h_S_ : 0 < S_.numel
  bcast_S_S1x16x15x31 : S_.BroadcastsInDim S1x16x15x31 (![] : Fin 0 → Fin S1x16x15x31.rank)
  reducesTo_S1x16x15x31_S_d0_1_2_3 : S1x16x15x31.ReducesTo [0, 1, 2, 3] S_

variable [Facts]

def fn {F : FTy → Type} [FloatOps F] (main_arg0 : FVec F S4x4096x512 .f32) (main_arg1 : FVec F S4x4096x16x32 .f32) (main_arg2 : FVec F S4x4096x16x32 .f32) (main_arg3 : FVec F S4x4096x16x32 .f32) (main_arg4 : FVec F S1x16x15x31 .f32) : IVec S_ 1 :=
  let main_v0 : FVec F S4x4096x16x32 .f32 := Host.absf main_arg1
  let main_cst : FVec F S_ .f32 := constant S_ .f32 0x7F800000#32
  let main_v1 : FVec F S4x4096x16x32 .f32 := broadcastInDim S4x4096x16x32 ![] bcast_S_S4x4096x16x32 main_cst
  let main_v2 : IVec S4x4096x16x32 1 := cmpf .olt main_v0 main_v1
  let main_c : IVec S_ 1 := constantI S_ 1 1#1
  let main_v3 : IVec S_ 1 := (fun x v => Host.reduce IntOp.andi x v reducesTo_S4x4096x16x32_S_d0_1_2_3 h_S_) main_v2 main_c
  let main_v4 : FVec F S4x4096x16x32 .f32 := Host.absf main_arg2
  let main_cst_0 : FVec F S_ .f32 := constant S_ .f32 0x7F800000#32
  let main_v5 : FVec F S4x4096x16x32 .f32 := broadcastInDim S4x4096x16x32 ![] bcast_S_S4x4096x16x32 main_cst_0
  let main_v6 : IVec S4x4096x16x32 1 := cmpf .olt main_v4 main_v5
  let main_c_1 : IVec S_ 1 := constantI S_ 1 1#1
  let main_v7 : IVec S_ 1 := (fun x v => Host.reduce IntOp.andi x v reducesTo_S4x4096x16x32_S_d0_1_2_3 h_S_) main_v6 main_c_1
  let main_v8 : IVec S_ 1 := andi main_v3 main_v7
  let main_v9 : FVec F S1x16x15x31 .f32 := Host.absf main_arg4
  let main_cst_2 : FVec F S_ .f32 := constant S_ .f32 0x7F800000#32
  let main_v10 : FVec F S1x16x15x31 .f32 := broadcastInDim S1x16x15x31 ![] bcast_S_S1x16x15x31 main_cst_2
  let main_v11 : IVec S1x16x15x31 1 := cmpf .olt main_v9 main_v10
  let main_c_3 : IVec S_ 1 := constantI S_ 1 1#1
  let main_v12 : IVec S_ 1 := (fun x v => Host.reduce IntOp.andi x v reducesTo_S1x16x15x31_S_d0_1_2_3 h_S_) main_v11 main_c_3
  let main_v13 : IVec S_ 1 := andi main_v8 main_v12
  main_v13
-- ==== Kernel.lean ====
abbrev S4x4096x4x2x64 : Shape := ⟨5, ![4, 4096, 4, 2, 64]⟩
abbrev S4x4096x4x128 : Shape := ⟨4, ![4, 4096, 4, 128]⟩
abbrev S4x4096x1536 : Shape := ⟨3, ![4, 4096, 1536]⟩
abbrev S1x64 : Shape := ⟨2, ![1, 64]⟩
abbrev S1x128 : Shape := ⟨2, ![1, 128]⟩
abbrev S4x4096x512 : Shape := ⟨3, ![4, 4096, 512]⟩
abbrev S4x4096x1024 : Shape := ⟨3, ![4, 4096, 1024]⟩
abbrev S4x1024x4096 : Shape := ⟨3, ![4, 1024, 4096]⟩
abbrev S4x4096x2048 : Shape := ⟨3, ![4, 4096, 2048]⟩
abbrev S64 : Shape := ⟨1, ![64]⟩
abbrev S4x64 : Shape := ⟨2, ![4, 64]⟩
abbrev S128 : Shape := ⟨1, ![128]⟩
abbrev S1x128x4096 : Shape := ⟨3, ![1, 128, 4096]⟩
abbrev S1x4096x128 : Shape := ⟨3, ![1, 4096, 128]⟩
abbrev S4096x256 : Shape := ⟨2, ![4096, 256]⟩
abbrev S1 : Shape := ⟨1, ![1]⟩
abbrev S1x1 : Shape := ⟨2, ![1, 1]⟩
abbrev S128x128 : Shape := ⟨2, ![128, 128]⟩
abbrev S1x128x128 : Shape := ⟨3, ![1, 128, 128]⟩
abbrev S128x256 : Shape := ⟨2, ![128, 256]⟩
abbrev S1x512x128 : Shape := ⟨3, ![1, 512, 128]⟩
abbrev S512x128 : Shape := ⟨2, ![512, 128]⟩
abbrev S512x256 : Shape := ⟨2, ![512, 256]⟩
abbrev S256 : Shape := ⟨1, ![256]⟩
abbrev S1x256 : Shape := ⟨2, ![1, 256]⟩
abbrev S1x128x512 : Shape := ⟨3, ![1, 128, 512]⟩
abbrev S128x512 : Shape := ⟨2, ![128, 512]⟩

abbrev nBuf : Space → Nat
  | .hbm => 29
  | .vmem => 12
  | .smem => 0
  | _ => 0

abbrev bufTy : (tb : Table) → Fin (tcTables nBuf tb) → BufTy
  | .hbm, ⟨0, _⟩ => ⟨S4x4096x4x2x64, .f32⟩
  | .hbm, ⟨1, _⟩ => ⟨S4x4096x4x2x64, .f32⟩
  | .hbm, ⟨2, _⟩ => ⟨S4x4096x4x128, .f32⟩
  | .hbm, ⟨3, _⟩ => ⟨S4x4096x1536, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x128, .f32⟩
  | .hbm, ⟨9, _⟩ => ⟨S4x4096x512, .f32⟩
  | .hbm, ⟨10, _⟩ => ⟨S4x4096x512, .f32⟩
  | .hbm, ⟨11, _⟩ => ⟨S4x4096x1024, .f32⟩
  | .hbm, ⟨12, _⟩ => ⟨S4x1024x4096, .f32⟩
  | .hbm, ⟨13, _⟩ => ⟨S4x1024x4096, .bf16⟩
  | .hbm, ⟨14, _⟩ => ⟨S4x4096x512, .f32⟩
  | .hbm, ⟨15, _⟩ => ⟨S4x4096x2048, .f32⟩
  | .hbm, ⟨16, _⟩ => ⟨S4x4096x2048, .bf16⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S4x64, .f32⟩
  | .hbm, ⟨26, _⟩ => ⟨S128, .f32⟩
  | .hbm, ⟨27, _⟩ => ⟨S1x128, .f32⟩
  | .hbm, ⟨28, _⟩ => ⟨S4x4096x512, .bf16⟩
  | .local _ .vmem, ⟨0, _⟩ => ⟨S4x64, .f32⟩
  | .local _ .vmem, ⟨1, _⟩ => ⟨S1x128, .f32⟩
  | .local _ .vmem, ⟨2, _⟩ => ⟨S1x128x4096, .bf16⟩
  | .local _ .vmem, ⟨3, _⟩ => ⟨S1x128x4096, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x128x4096, .bf16⟩
  | .local _ .vmem, ⟨7, _⟩ => ⟨S1x128x4096, .bf16⟩
  | .local _ .vmem, ⟨8, _⟩ => ⟨S1x4096x128, .bf16⟩
  | .local _ .vmem, ⟨9, _⟩ => ⟨S1x4096x128, .bf16⟩
  | .local _ .vmem, ⟨10, _⟩ => ⟨S4096x256, .f32⟩
  | .local _ .vmem, ⟨11, _⟩ => ⟨S4096x256, .f32⟩
  | _, _ => ⟨S4x4096x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  c0_i32
@[reducible] def k0_t1_loop : Scf.Loop 32 :=
  let c0_i32_60 : BitVec 32 := 0#32
  let c4_i32 : BitVec 32 := 4#32
  let v107 : BitVec 32 := Scalar.addi c0_i32_60 c4_i32
  let c1_i32 : BitVec 32 := 1#32
  ⟨c0_i32_60, v107, c1_i32⟩
def k0_mult2 (k0_t1 : Fin k0_t1_loop.trips) : BitVec 32 :=
  let c2_i32 : BitVec 32 := 2#32
  let c4_i32_62 : BitVec 32 := 4#32
  let c0_i32_60 : BitVec 32 := 0#32
  let c1_i32 : BitVec 32 := 1#32
  let arg10 : BitVec 32 := Scf.iv c0_i32_60 c1_i32 k0_t1
  let v109 : BitVec 32 := Scalar.muli c4_i32_62 arg10
  let c0_i32_63 : BitVec 32 := 0#32
  let v110 : BitVec 32 := Scalar.addi v109 c0_i32_63
  let v111 : BitVec 32 := Scalar.muli c2_i32 v110
  let c1_i32_64 : BitVec 32 := 1#32
  let v112 : BitVec 32 := Scalar.addi v111 c1_i32_64
  let c128_i32 : BitVec 32 := 128#32
  let v113 : BitVec 32 := Scalar.muli v112 c128_i32
  v113
def k0_off1 (k0_t1 : Fin k0_t1_loop.trips) (c0_i32_63 : BitVec 32) : Fin 3 → Nat :=
  let c0_65 : Index := 0#32
  let c0_66 : Index := 0#32
  let c2_i32 : BitVec 32 := 2#32
  let c4_i32_62 : BitVec 32 := 4#32
  let c0_i32_60 : BitVec 32 := 0#32
  let c1_i32 : BitVec 32 := 1#32
  let arg10 : BitVec 32 := Scf.iv c0_i32_60 c1_i32 k0_t1
  let v109 : BitVec 32 := Scalar.muli c4_i32_62 arg10
  let v110 : BitVec 32 := Scalar.addi v109 c0_i32_63
  let v111 : BitVec 32 := Scalar.muli c2_i32 v110
  let c1_i32_64 : BitVec 32 := 1#32
  let v112 : BitVec 32 := Scalar.addi v111 c1_i32_64
  let c128_i32 : BitVec 32 := 128#32
  let v113 : BitVec 32 := Scalar.muli v112 c128_i32
  let v114 : BitVec 32 := v113
  let v115 : Index := Scalar.indexCast v114
  ![0, 0, v115.toNat]
def k0_mult3 (k0_t1 : Fin k0_t1_loop.trips) : BitVec 32 :=
  let c2_i32 : BitVec 32 := 2#32
  let c4_i32_62 : BitVec 32 := 4#32
  let c0_i32_60 : BitVec 32 := 0#32
  let c1_i32 : BitVec 32 := 1#32
  let arg10 : BitVec 32 := Scf.iv c0_i32_60 c1_i32 k0_t1
  let v109 : BitVec 32 := Scalar.muli c4_i32_62 arg10
  let c0_i32_63 : BitVec 32 := 0#32
  let v110 : BitVec 32 := Scalar.addi v109 c0_i32_63
  let v111 : BitVec 32 := Scalar.muli c2_i32 v110
  let c128_i32_190 : BitVec 32 := 128#32
  let v320 : BitVec 32 := Scalar.muli v111 c128_i32_190
  v320
def k0_off2 (k0_t1 : Fin k0_t1_loop.trips) (c0_i32_63 : BitVec 32) : Fin 3 → Nat :=
  let c0_193 : Index := 0#32
  let c2_i32 : BitVec 32 := 2#32
  let c4_i32_62 : BitVec 32 := 4#32
  let c0_i32_60 : BitVec 32 := 0#32
  let c1_i32 : BitVec 32 := 1#32
  let arg10 : BitVec 32 := Scf.iv c0_i32_60 c1_i32 k0_t1
  let v109 : BitVec 32 := Scalar.muli c4_i32_62 arg10
  let v110 : BitVec 32 := Scalar.addi v109 c0_i32_63
  let v111 : BitVec 32 := Scalar.muli c2_i32 v110
  let c128_i32_190 : BitVec 32 := 128#32
  let v320 : BitVec 32 := Scalar.muli v111 c128_i32_190
  let v321 : BitVec 32 := v320
  let v328 : Index := Scalar.indexCast v321
  let c0_194 : Index := 0#32
  ![0, v328.toNat, 0]
def k0_mult4 (k0_t1 : Fin k0_t1_loop.trips) : BitVec 32 :=
  let c2_i32 : BitVec 32 := 2#32
  let c4_i32_62 : BitVec 32 := 4#32
  let c0_i32_60 : BitVec 32 := 0#32
  let c1_i32 : BitVec 32 := 1#32
  let arg10 : BitVec 32 := Scf.iv c0_i32_60 c1_i32 k0_t1
  let v109 : BitVec 32 := Scalar.muli c4_i32_62 arg10
  let c0_i32_63 : BitVec 32 := 0#32
  let v110 : BitVec 32 := Scalar.addi v109 c0_i32_63
  let v111 : BitVec 32 := Scalar.muli c2_i32 v110
  let c2_i32_195 : BitVec 32 := 2#32
  let v332 : BitVec 32 := Scalar.addi v111 c2_i32_195
  let c31_i32 : BitVec 32 := 31#32
  let v333 : BitVec 32 := Scalar.minsi v332 c31_i32
  let c128_i32_196 : BitVec 32 := 128#32
  let v334 : BitVec 32 := Scalar.muli v333 c128_i32_196
  v334
def k0_off3 (k0_t1 : Fin k0_t1_loop.trips) (c0_i32_63 : BitVec 32) : Fin 3 → Nat :=
  let c0_197 : Index := 0#32
  let c0_198 : Index := 0#32
  let c2_i32 : BitVec 32 := 2#32
  let c4_i32_62 : BitVec 32 := 4#32
  let c0_i32_60 : BitVec 32 := 0#32
  let c1_i32 : BitVec 32 := 1#32
  let arg10 : BitVec 32 := Scf.iv c0_i32_60 c1_i32 k0_t1
  let v109 : BitVec 32 := Scalar.muli c4_i32_62 arg10
  let v110 : BitVec 32 := Scalar.addi v109 c0_i32_63
  let v111 : BitVec 32 := Scalar.muli c2_i32 v110
  let c2_i32_195 : BitVec 32 := 2#32
  let v332 : BitVec 32 := Scalar.addi v111 c2_i32_195
  let c31_i32 : BitVec 32 := 31#32
  let v333 : BitVec 32 := Scalar.minsi v332 c31_i32
  let c128_i32_196 : BitVec 32 := 128#32
  let v334 : BitVec 32 := Scalar.muli v333 c128_i32_196
  let v335 : BitVec 32 := v334
  let v336 : Index := Scalar.indexCast v335
  ![0, 0, v336.toNat]
def k0_mult5 (k0_t1 : Fin k0_t1_loop.trips) : BitVec 32 :=
  let c2_i32 : BitVec 32 := 2#32
  let c4_i32_62 : BitVec 32 := 4#32
  let c0_i32_60 : BitVec 32 := 0#32
  let c1_i32 : BitVec 32 := 1#32
  let arg10 : BitVec 32 := Scf.iv c0_i32_60 c1_i32 k0_t1
  let v109 : BitVec 32 := Scalar.muli c4_i32_62 arg10
  let c0_i32_63 : BitVec 32 := 0#32
  let v110 : BitVec 32 := Scalar.addi v109 c0_i32_63
  let v111 : BitVec 32 := Scalar.muli c2_i32 v110
  let c1_i32_259 : BitVec 32 := 1#32
  let v422 : BitVec 32 := Scalar.addi v111 c1_i32_259
  let c128_i32_323 : BitVec 32 := 128#32
  let v542 : BitVec 32 := Scalar.muli v422 c128_i32_323
  v542
def k0_off4 (k0_t1 : Fin k0_t1_loop.trips) (c0_i32_63 : BitVec 32) : Fin 3 → Nat :=
  let c0_326 : Index := 0#32
  let c2_i32 : BitVec 32 := 2#32
  let c4_i32_62 : BitVec 32 := 4#32
  let c0_i32_60 : BitVec 32 := 0#32
  let c1_i32 : BitVec 32 := 1#32
  let arg10 : BitVec 32 := Scf.iv c0_i32_60 c1_i32 k0_t1
  let v109 : BitVec 32 := Scalar.muli c4_i32_62 arg10
  let v110 : BitVec 32 := Scalar.addi v109 c0_i32_63
  let v111 : BitVec 32 := Scalar.muli c2_i32 v110
  let c1_i32_259 : BitVec 32 := 1#32
  let v422 : BitVec 32 := Scalar.addi v111 c1_i32_259
  let c128_i32_323 : BitVec 32 := 128#32
  let v542 : BitVec 32 := Scalar.muli v422 c128_i32_323
  let v543 : BitVec 32 := v542
  let v550 : Index := Scalar.indexCast v543
  let c0_327 : Index := 0#32
  ![0, v550.toNat, 0]
def k0_mult6 (k0_t1 : Fin k0_t1_loop.trips) : BitVec 32 :=
  let c2_i32_330 : BitVec 32 := 2#32
  let c4_i32_328 : BitVec 32 := 4#32
  let c0_i32_60 : BitVec 32 := 0#32
  let c1_i32 : BitVec 32 := 1#32
  let arg10 : BitVec 32 := Scf.iv c0_i32_60 c1_i32 k0_t1
  let v554 : BitVec 32 := Scalar.muli c4_i32_328 arg10
  let c1_i32_329 : BitVec 32 := 1#32
  let v555 : BitVec 32 := Scalar.addi v554 c1_i32_329
  let v556 : BitVec 32 := Scalar.muli c2_i32_330 v555
  let c1_i32_331 : BitVec 32 := 1#32
  let v557 : BitVec 32 := Scalar.addi v556 c1_i32_331
  let c128_i32_332 : BitVec 32 := 128#32
  let v558 : BitVec 32 := Scalar.muli v557 c128_i32_332
  v558
def k0_mult7 (k0_t1 : Fin k0_t1_loop.trips) : BitVec 32 :=
  let c2_i32_330 : BitVec 32 := 2#32
  let c4_i32_328 : BitVec 32 := 4#32
  let c0_i32_60 : BitVec 32 := 0#32
  let c1_i32 : BitVec 32 := 1#32
  let arg10 : BitVec 32 := Scf.iv c0_i32_60 c1_i32 k0_t1
  let v554 : BitVec 32 := Scalar.muli c4_i32_328 arg10
  let c1_i32_329 : BitVec 32 := 1#32
  let v555 : BitVec 32 := Scalar.addi v554 c1_i32_329
  let v556 : BitVec 32 := Scalar.muli c2_i32_330 v555
  let c128_i32_458 : BitVec 32 := 128#32
  let v765 : BitVec 32 := Scalar.muli v556 c128_i32_458
  v765
def k0_mult8 (k0_t1 : Fin k0_t1_loop.trips) : BitVec 32 :=
  let c2_i32_330 : BitVec 32 := 2#32
  let c4_i32_328 : BitVec 32 := 4#32
  let c0_i32_60 : BitVec 32 := 0#32
  let c1_i32 : BitVec 32 := 1#32
  let arg10 : BitVec 32 := Scf.iv c0_i32_60 c1_i32 k0_t1
  let v554 : BitVec 32 := Scalar.muli c4_i32_328 arg10
  let c1_i32_329 : BitVec 32 := 1#32
  let v555 : BitVec 32 := Scalar.addi v554 c1_i32_329
  let v556 : BitVec 32 := Scalar.muli c2_i32_330 v555
  let c2_i32_463 : BitVec 32 := 2#32
  let v777 : BitVec 32 := Scalar.addi v556 c2_i32_463
  let c31_i32_464 : BitVec 32 := 31#32
  let v778 : BitVec 32 := Scalar.minsi v777 c31_i32_464
  let c128_i32_465 : BitVec 32 := 128#32
  let v779 : BitVec 32 := Scalar.muli v778 c128_i32_465
  v779
def k0_mult9 (k0_t1 : Fin k0_t1_loop.trips) : BitVec 32 :=
  let c2_i32_330 : BitVec 32 := 2#32
  let c4_i32_328 : BitVec 32 := 4#32
  let c0_i32_60 : BitVec 32 := 0#32
  let c1_i32 : BitVec 32 := 1#32
  let arg10 : BitVec 32 := Scf.iv c0_i32_60 c1_i32 k0_t1
  let v554 : BitVec 32 := Scalar.muli c4_i32_328 arg10
  let c1_i32_329 : BitVec 32 := 1#32
  let v555 : BitVec 32 := Scalar.addi v554 c1_i32_329
  let v556 : BitVec 32 := Scalar.muli c2_i32_330 v555
  let c1_i32_528 : BitVec 32 := 1#32
  let v867 : BitVec 32 := Scalar.addi v556 c1_i32_528
  let c128_i32_592 : BitVec 32 := 128#32
  let v987 : BitVec 32 := Scalar.muli v867 c128_i32_592
  v987
def k0_mult10 (k0_t1 : Fin k0_t1_loop.trips) : BitVec 32 :=
  let c2_i32_599 : BitVec 32 := 2#32
  let c4_i32_597 : BitVec 32 := 4#32
  let c0_i32_60 : BitVec 32 := 0#32
  let c1_i32 : BitVec 32 := 1#32
  let arg10 : BitVec 32 := Scf.iv c0_i32_60 c1_i32 k0_t1
  let v999 : BitVec 32 := Scalar.muli c4_i32_597 arg10
  let c2_i32_598 : BitVec 32 := 2#32
  let v1000 : BitVec 32 := Scalar.addi v999 c2_i32_598
  let v1001 : BitVec 32 := Scalar.muli c2_i32_599 v1000
  let c1_i32_600 : BitVec 32 := 1#32
  let v1002 : BitVec 32 := Scalar.addi v1001 c1_i32_600
  let c128_i32_601 : BitVec 32 := 128#32
  let v1003 : BitVec 32 := Scalar.muli v1002 c128_i32_601
  v1003
def k0_mult11 (k0_t1 : Fin k0_t1_loop.trips) : BitVec 32 :=
  let c2_i32_599 : BitVec 32 := 2#32
  let c4_i32_597 : BitVec 32 := 4#32
  let c0_i32_60 : BitVec 32 := 0#32
  let c1_i32 : BitVec 32 := 1#32
  let arg10 : BitVec 32 := Scf.iv c0_i32_60 c1_i32 k0_t1
  let v999 : BitVec 32 := Scalar.muli c4_i32_597 arg10
  let c2_i32_598 : BitVec 32 := 2#32
  let v1000 : BitVec 32 := Scalar.addi v999 c2_i32_598
  let v1001 : BitVec 32 := Scalar.muli c2_i32_599 v1000
  let c128_i32_727 : BitVec 32 := 128#32
  let v1210 : BitVec 32 := Scalar.muli v1001 c128_i32_727
  v1210
def k0_mult12 (k0_t1 : Fin k0_t1_loop.trips) : BitVec 32 :=
  let c2_i32_599 : BitVec 32 := 2#32
  let c4_i32_597 : BitVec 32 := 4#32
  let c0_i32_60 : BitVec 32 := 0#32
  let c1_i32 : BitVec 32 := 1#32
  let arg10 : BitVec 32 := Scf.iv c0_i32_60 c1_i32 k0_t1
  let v999 : BitVec 32 := Scalar.muli c4_i32_597 arg10
  let c2_i32_598 : BitVec 32 := 2#32
  let v1000 : BitVec 32 := Scalar.addi v999 c2_i32_598
  let v1001 : BitVec 32 := Scalar.muli c2_i32_599 v1000
  let c2_i32_732 : BitVec 32 := 2#32
  let v1222 : BitVec 32 := Scalar.addi v1001 c2_i32_732
  let c31_i32_733 : BitVec 32 := 31#32
  let v1223 : BitVec 32 := Scalar.minsi v1222 c31_i32_733
  let c128_i32_734 : BitVec 32 := 128#32
  let v1224 : BitVec 32 := Scalar.muli v1223 c128_i32_734
  v1224
def k0_mult13 (k0_t1 : Fin k0_t1_loop.trips) : BitVec 32 :=
  let c2_i32_599 : BitVec 32 := 2#32
  let c4_i32_597 : BitVec 32 := 4#32
  let c0_i32_60 : BitVec 32 := 0#32
  let c1_i32 : BitVec 32 := 1#32
  let arg10 : BitVec 32 := Scf.iv c0_i32_60 c1_i32 k0_t1
  let v999 : BitVec 32 := Scalar.muli c4_i32_597 arg10
  let c2_i32_598 : BitVec 32 := 2#32
  let v1000 : BitVec 32 := Scalar.addi v999 c2_i32_598
  let v1001 : BitVec 32 := Scalar.muli c2_i32_599 v1000
  let c1_i32_797 : BitVec 32 := 1#32
  let v1312 : BitVec 32 := Scalar.addi v1001 c1_i32_797
  let c128_i32_861 : BitVec 32 := 128#32
  let v1432 : BitVec 32 := Scalar.muli v1312 c128_i32_861
  v1432
def k0_mult14 (k0_t1 : Fin k0_t1_loop.trips) : BitVec 32 :=
  let c2_i32_867 : BitVec 32 := 2#32
  let c4_i32_866 : BitVec 32 := 4#32
  let c0_i32_60 : BitVec 32 := 0#32
  let c1_i32 : BitVec 32 := 1#32
  let arg10 : BitVec 32 := Scf.iv c0_i32_60 c1_i32 k0_t1
  let v1444 : BitVec 32 := Scalar.muli c4_i32_866 arg10
  let c3_i32 : BitVec 32 := 3#32
  let v1445 : BitVec 32 := Scalar.addi v1444 c3_i32
  let v1446 : BitVec 32 := Scalar.muli c2_i32_867 v1445
  let c1_i32_868 : BitVec 32 := 1#32
  let v1447 : BitVec 32 := Scalar.addi v1446 c1_i32_868
  let c128_i32_869 : BitVec 32 := 128#32
  let v1448 : BitVec 32 := Scalar.muli v1447 c128_i32_869
  v1448
def k0_mult15 (k0_t1 : Fin k0_t1_loop.trips) : BitVec 32 :=
  let c2_i32_867 : BitVec 32 := 2#32
  let c4_i32_866 : BitVec 32 := 4#32
  let c0_i32_60 : BitVec 32 := 0#32
  let c1_i32 : BitVec 32 := 1#32
  let arg10 : BitVec 32 := Scf.iv c0_i32_60 c1_i32 k0_t1
  let v1444 : BitVec 32 := Scalar.muli c4_i32_866 arg10
  let c3_i32 : BitVec 32 := 3#32
  let v1445 : BitVec 32 := Scalar.addi v1444 c3_i32
  let v1446 : BitVec 32 := Scalar.muli c2_i32_867 v1445
  let c128_i32_995 : BitVec 32 := 128#32
  let v1655 : BitVec 32 := Scalar.muli v1446 c128_i32_995
  v1655
def k0_mult16 (k0_t1 : Fin k0_t1_loop.trips) : BitVec 32 :=
  let c2_i32_867 : BitVec 32 := 2#32
  let c4_i32_866 : BitVec 32 := 4#32
  let c0_i32_60 : BitVec 32 := 0#32
  let c1_i32 : BitVec 32 := 1#32
  let arg10 : BitVec 32 := Scf.iv c0_i32_60 c1_i32 k0_t1
  let v1444 : BitVec 32 := Scalar.muli c4_i32_866 arg10
  let c3_i32 : BitVec 32 := 3#32
  let v1445 : BitVec 32 := Scalar.addi v1444 c3_i32
  let v1446 : BitVec 32 := Scalar.muli c2_i32_867 v1445
  let c2_i32_1000 : BitVec 32 := 2#32
  let v1667 : BitVec 32 := Scalar.addi v1446 c2_i32_1000
  let c31_i32_1001 : BitVec 32 := 31#32
  let v1668 : BitVec 32 := Scalar.minsi v1667 c31_i32_1001
  let c128_i32_1002 : BitVec 32 := 128#32
  let v1669 : BitVec 32 := Scalar.muli v1668 c128_i32_1002
  v1669
def k0_mult17 (k0_t1 : Fin k0_t1_loop.trips) : BitVec 32 :=
  let c2_i32_867 : BitVec 32 := 2#32
  let c4_i32_866 : BitVec 32 := 4#32
  let c0_i32_60 : BitVec 32 := 0#32
  let c1_i32 : BitVec 32 := 1#32
  let arg10 : BitVec 32 := Scf.iv c0_i32_60 c1_i32 k0_t1
  let v1444 : BitVec 32 := Scalar.muli c4_i32_866 arg10
  let c3_i32 : BitVec 32 := 3#32
  let v1445 : BitVec 32 := Scalar.addi v1444 c3_i32
  let v1446 : BitVec 32 := Scalar.muli c2_i32_867 v1445
  let c1_i32_1065 : BitVec 32 := 1#32
  let v1757 : BitVec 32 := Scalar.addi v1446 c1_i32_1065
  let c128_i32_1129 : BitVec 32 := 128#32
  let v1877 : BitVec 32 := Scalar.muli v1757 c128_i32_1129
  v1877
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "qscale" => some ((8⁻¹ * (Real.log 2)⁻¹ : ℝ) : EReal)
  | _ => none
-- ==== ReferenceIdeal.lean ====
abbrev S4x4096x4x2x64 : Shape := ⟨5, ![4, 4096, 4, 2, 64]⟩
abbrev S4x4096x4x128 : Shape := ⟨4, ![4, 4096, 4, 128]⟩
abbrev S4x4096x1536 : Shape := ⟨3, ![4, 4096, 1536]⟩
abbrev S1x64 : Shape := ⟨2, ![1, 64]⟩
abbrev S1x128 : Shape := ⟨2, ![1, 128]⟩
abbrev S64 : Shape := ⟨1, ![64]⟩
abbrev S_ : Shape := ⟨0, ![]⟩
abbrev S4x4x4096x2x64 : Shape := ⟨5, ![4, 4, 4096, 2, 64]⟩
abbrev S4x4x4096x128 : Shape := ⟨4, ![4, 4, 4096, 128]⟩
abbrev S4x4x4096x1x64 : Shape := ⟨5, ![4, 4, 4096, 1, 64]⟩
abbrev S4x4x4096x64 : Shape := ⟨4, ![4, 4, 4096, 64]⟩
abbrev S4x4x4096x4096 : Shape := ⟨4, ![4, 4, 4096, 4096]⟩
abbrev S4x4x4096 : Shape := ⟨3, ![4, 4, 4096]⟩
abbrev S4x4x4096x1 : Shape := ⟨4, ![4, 4, 4096, 1]⟩
abbrev S4x4096x4 : Shape := ⟨3, ![4, 4096, 4]⟩
abbrev S4x4096x4x1 : Shape := ⟨4, ![4, 4096, 4, 1]⟩
abbrev S128 : Shape := ⟨1, ![128]⟩
abbrev S1x1x1x128 : Shape := ⟨4, ![1, 1, 1, 128]⟩
abbrev S4x4096x512 : Shape := ⟨3, ![4, 4096, 512]⟩

abbrev nBuf : Space → Nat
  | .hbm => 98
  | .vmem => 0
  | .smem => 0
  | _ => 0

abbrev bufTy : (tb : Table) → Fin (tcTables nBuf tb) → BufTy
  | .hbm, ⟨0, _⟩ => ⟨S4x4096x4x2x64, .f32⟩
  | .hbm, ⟨1, _⟩ => ⟨S4x4096x4x2x64, .f32⟩
  | .hbm, ⟨2, _⟩ => ⟨S4x4096x4x128, .f32⟩
  | .hbm, ⟨3, _⟩ => ⟨S4x4096x1536, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x128, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x4x4096x2x64, .f32⟩
  | .hbm, ⟨25, _⟩ => ⟨S4x4x4096x2x64, .f32⟩
  | .hbm, ⟨26, _⟩ => ⟨S4x4x4096x128, .f32⟩
  | .hbm, ⟨27, _⟩ => ⟨S4x4x4096x1x64, .f32⟩
  | .hbm, ⟨28, _⟩ => ⟨S4x4x4096x64, .f32⟩
  | .hbm, ⟨29, _⟩ => ⟨S4x4x4096x1x64, .f32⟩
  | .hbm, ⟨30, _⟩ => ⟨S4x4x4096x64, .f32⟩
  | .hbm, ⟨31, _⟩ => ⟨S4x4x4096x4096, .f32⟩
  | .hbm, ⟨32, _⟩ => ⟨S_, .f32⟩
  | .hbm, ⟨33, _⟩ => ⟨S4x4x4096x4096, .f32⟩
  | .hbm, ⟨34, _⟩ => ⟨S4x4x4096x4096, .f32⟩
  | .hbm, ⟨35, _⟩ => ⟨S4x4x4096x1x64, .f32⟩
  | .hbm, ⟨36, _⟩ => ⟨S4x4x4096x64, .f32⟩
  | .hbm, ⟨37, _⟩ => ⟨S4x4x4096x1x64, .f32⟩
  | .hbm, ⟨38, _⟩ => ⟨S4x4x4096x64, .f32⟩
  | .hbm, ⟨39, _⟩ => ⟨S4x4x4096x4096, .f32⟩
  | .hbm, ⟨40, _⟩ => ⟨S_, .f32⟩
  | .hbm, ⟨41, _⟩ => ⟨S4x4x4096x4096, .f32⟩
  | .hbm, ⟨42, _⟩ => ⟨S4x4x4096x4096, .f32⟩
  | .hbm, ⟨43, _⟩ => ⟨S_, .f32⟩
  | .hbm, ⟨44, _⟩ => ⟨S4x4x4096, .f32⟩
  | .hbm, ⟨45, _⟩ => ⟨S_, .f32⟩
  | .hbm, ⟨46, _⟩ => ⟨S4x4x4096, .f32⟩
  | .hbm, ⟨47, _⟩ => ⟨S4x4x4096, .f32⟩
  | .hbm, ⟨48, _⟩ => ⟨S4x4x4096x1, .f32⟩
  | .hbm, ⟨49, _⟩ => ⟨S4x4x4096x4096, .f32⟩
  | .hbm, ⟨50, _⟩ => ⟨S4x4x4096x4096, .f32⟩
  | .hbm, ⟨51, _⟩ => ⟨S4x4x4096x4096, .f32⟩
  | .hbm, ⟨52, _⟩ => ⟨S_, .f32⟩
  | .hbm, ⟨53, _⟩ => ⟨S4x4x4096, .f32⟩
  | .hbm, ⟨54, _⟩ => ⟨S4x4x4096x1, .f32⟩
  | .hbm, ⟨55, _⟩ => ⟨S4x4x4096x4096, .f32⟩
  | .hbm, ⟨56, _⟩ => ⟨S4x4x4096x4096, .f32⟩
  | .hbm, ⟨57, _⟩ => ⟨S_, .f32⟩
  | .hbm, ⟨58, _⟩ => ⟨S4x4x4096, .f32⟩
  | .hbm, ⟨59, _⟩ => ⟨S_, .f32⟩
  | .hbm, ⟨60, _⟩ => ⟨S4x4x4096, .f32⟩
  | .hbm, ⟨61, _⟩ => ⟨S4x4x4096, .f32⟩
  | .hbm, ⟨62, _⟩ => ⟨S4x4x4096x1, .f32⟩
  | .hbm, ⟨63, _⟩ => ⟨S4x4x4096x4096, .f32⟩
  | .hbm, ⟨64, _⟩ => ⟨S4x4x4096x4096, .f32⟩
  | .hbm, ⟨65, _⟩ => ⟨S4x4x4096x4096, .f32⟩
  | .hbm, ⟨66, _⟩ => ⟨S_, .f32⟩
  | .hbm, ⟨67, _⟩ => ⟨S4x4x4096, .f32⟩
  | .hbm, ⟨68, _⟩ => ⟨S4x4x4096x1, .f32⟩
  | .hbm, ⟨69, _⟩ => ⟨S4x4x4096x4096, .f32⟩
  | .hbm, ⟨70, _⟩ => ⟨S4x4x4096x4096, .f32⟩
  | .hbm, ⟨71, _⟩ => ⟨S4x4x4096x4096, .f32⟩
  | .hbm, ⟨72, _⟩ => ⟨S4x4x4096x4096, .f32⟩
  | .hbm, ⟨73, _⟩ => ⟨S4x4x4096x4096, .f32⟩
  | .hbm, ⟨74, _⟩ => ⟨S4x4x4096x128, .f32⟩
  | .hbm, ⟨75, _⟩ => ⟨S4x4096x4x128, .f32⟩
  | .hbm, ⟨76, _⟩ => ⟨S4x4096x4x128, .f32⟩
  | .hbm, ⟨77, _⟩ => ⟨S_, .f32⟩
  | .hbm, ⟨78, _⟩ => ⟨S4x4096x4, .f32⟩
  | .hbm, ⟨79, _⟩ => ⟨S4x4096x4x1, .f32⟩
  | .hbm, ⟨80, _⟩ => ⟨S_, .f32⟩
  | .hbm, ⟨81, _⟩ => ⟨S4x4096x4x1, .f32⟩
  | .hbm, ⟨82, _⟩ => ⟨S4x4096x4x1, .f32⟩
  | .hbm, ⟨83, _⟩ => ⟨S_, .f32⟩
  | .hbm, ⟨84, _⟩ => ⟨S4x4096x4x1, .f32⟩
  | .hbm, ⟨85, _⟩ => ⟨S4x4096x4x1, .f32⟩
  | .hbm, ⟨86, _⟩ => ⟨S4x4096x4x1, .f32⟩
  | .hbm, ⟨87, _⟩ => ⟨S4x4096x4x128, .f32⟩
  | .hbm, ⟨88, _⟩ => ⟨S4x4096x4x128, .f32⟩
  | .hbm, ⟨89, _⟩ => ⟨S128, .f32⟩
  | .hbm, ⟨90, _⟩ => ⟨S1x1x1x128, .f32⟩
  | .hbm, ⟨91, _⟩ => ⟨S4x4096x4x128, .f32⟩
  | .hbm, ⟨92, _⟩ => ⟨S4x4096x4x128, .f32⟩
  | .hbm, ⟨93, _⟩ => ⟨S_, .f32⟩
  | .hbm, ⟨94, _⟩ => ⟨S4x4096x4x128, .f32⟩
  | .hbm, ⟨95, _⟩ => ⟨S4x4096x4x128, .f32⟩
  | .hbm, ⟨96, _⟩ => ⟨S4x4096x512, .f32⟩
  | .hbm, ⟨97, _⟩ => ⟨S4x4096x512, .bf16⟩
  | _, _ => ⟨S4x4096x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== Kernel2.lean ====
abbrev S4x4096x1024 : Shape := ⟨3, ![4, 4096, 1024]⟩
abbrev S1x1024 : Shape := ⟨2, ![1, 1024]⟩
abbrev S1x1024x3072 : Shape := ⟨3, ![1, 1024, 3072]⟩
abbrev S1x64 : Shape := ⟨2, ![1, 64]⟩
abbrev S1x32 : Shape := ⟨2, ![1, 32]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S8x8 : Shape := ⟨2, ![8, 8]⟩
abbrev S32x32 : Shape := ⟨2, ![32, 32]⟩
abbrev S8x1x8x1 : Shape := ⟨4, ![8, 1, 8, 1]⟩
abbrev S1x32x1x32 : Shape := ⟨4, ![1, 32, 1, 32]⟩
abbrev S8x32x8x32 : Shape := ⟨4, ![8, 32, 8, 32]⟩
abbrev S32 : Shape := ⟨1, ![32]⟩
abbrev S4096 : Shape := ⟨1, ![4096]⟩
abbrev S4096x1 : Shape := ⟨2, ![4096, 1]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S64 : Shape := ⟨1, ![64]⟩
abbrev S8x64 : Shape := ⟨2, ![8, 64]⟩
abbrev S512 : Shape := ⟨1, ![512]⟩
abbrev S16x32 : Shape := ⟨2, ![16, 32]⟩
abbrev S1x512 : Shape := ⟨2, ![1, 512]⟩
abbrev S4x512 : Shape := ⟨2, ![4, 512]⟩
abbrev S16384x1024 : Shape := ⟨2, ![16384, 1024]⟩
abbrev S1024 : Shape := ⟨1, ![1024]⟩
abbrev S1024x3072 : Shape := ⟨2, ![1024, 3072]⟩
abbrev S16384x2048 : Shape := ⟨2, ![16384, 2048]⟩
abbrev S4x1024x4096 : Shape := ⟨3, ![4, 1024, 4096]⟩
abbrev S1024x1024 : Shape := ⟨2, ![1024, 1024]⟩
abbrev S1024x128 : Shape := ⟨2, ![1024, 128]⟩
abbrev S1024x2048 : Shape := ⟨2, ![1024, 2048]⟩
abbrev S1x1024x1024 : Shape := ⟨3, ![1, 1024, 1024]⟩
abbrev S1024x1 : Shape := ⟨2, ![1024, 1]⟩
abbrev S1024x512 : Shape := ⟨2, ![1024, 512]⟩
abbrev S1024x256 : Shape := ⟨2, ![1024, 256]⟩
abbrev S128x1024 : Shape := ⟨2, ![128, 1024]⟩
abbrev S1x128x1024 : Shape := ⟨3, ![1, 128, 1024]⟩

abbrev nBuf : Space → Nat
  | .hbm => 96
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3072, .f32⟩
  | .hbm, ⟨3, _⟩ => ⟨S1x64, .f32⟩
  | .hbm, ⟨4, _⟩ => ⟨S1x64, .f32⟩
  | .hbm, ⟨5, _⟩ => ⟨S1x32, .f32⟩
  | .hbm, ⟨6, _⟩ => ⟨S1x32, .f32⟩
  | .hbm, ⟨7, _⟩ => ⟨S4x4, .i32⟩
  | .hbm, ⟨8, _⟩ => ⟨S4x4, .i32⟩
  | .hbm, ⟨9, _⟩ => ⟨S_, .i32⟩
  | .hbm, ⟨10, _⟩ => ⟨S4x4, .i32⟩
  | .hbm, ⟨11, _⟩ => ⟨S4x4, .i32⟩
  | .hbm, ⟨12, _⟩ => ⟨S4x4, .i1⟩
  | .hbm, ⟨13, _⟩ => ⟨S4x4, .f32⟩
  | .hbm, ⟨14, _⟩ => ⟨S_, .f32⟩
  | .hbm, ⟨15, _⟩ => ⟨S64x64, .f32⟩
  | .hbm, ⟨16, _⟩ => ⟨S4x1x4x1, .f32⟩
  | .hbm, ⟨17, _⟩ => ⟨S1x64x1x64, .f32⟩
  | .hbm, ⟨18, _⟩ => ⟨S4x64x4x64, .f32⟩
  | .hbm, ⟨19, _⟩ => ⟨S4x64x4x64, .f32⟩
  | .hbm, ⟨20, _⟩ => ⟨S4x64x4x64, .f32⟩
  | .hbm, ⟨21, _⟩ => ⟨S256x256, .f32⟩
  | .hbm, ⟨22, _⟩ => ⟨S256x256, .bf16⟩
  | .hbm, ⟨23, _⟩ => ⟨S8x8, .i32⟩
  | .hbm, ⟨24, _⟩ => ⟨S8x8, .i32⟩
  | .hbm, ⟨25, _⟩ => ⟨S_, .i32⟩
  | .hbm, ⟨26, _⟩ => ⟨S8x8, .i32⟩
  | .hbm, ⟨27, _⟩ => ⟨S8x8, .i32⟩
  | .hbm, ⟨28, _⟩ => ⟨S8x8, .i1⟩
  | .hbm, ⟨29, _⟩ => ⟨S8x8, .f32⟩
  | .hbm, ⟨30, _⟩ => ⟨S_, .f32⟩
  | .hbm, ⟨31, _⟩ => ⟨S32x32, .f32⟩
  | .hbm, ⟨32, _⟩ => ⟨S8x1x8x1, .f32⟩
  | .hbm, ⟨33, _⟩ => ⟨S1x32x1x32, .f32⟩
  | .hbm, ⟨34, _⟩ => ⟨S8x32x8x32, .f32⟩
  | .hbm, ⟨35, _⟩ => ⟨S8x32x8x32, .f32⟩
  | .hbm, ⟨36, _⟩ => ⟨S8x32x8x32, .f32⟩
  | .hbm, ⟨37, _⟩ => ⟨S256x256, .f32⟩
  | .hbm, ⟨38, _⟩ => ⟨S256x256, .bf16⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S4096, .f32⟩
  | .hbm, ⟨54, _⟩ => ⟨S4096x1, .f32⟩
  | .hbm, ⟨55, _⟩ => ⟨S1x32, .f32⟩
  | .hbm, ⟨56, _⟩ => ⟨S4096x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x32, .f32⟩
  | .hbm, ⟨61, _⟩ => ⟨S1x4096x1x32, .f32⟩
  | .hbm, ⟨62, _⟩ => ⟨S1x4096x4x32, .f32⟩
  | .hbm, ⟨63, _⟩ => ⟨S4096x128, .f32⟩
  | .hbm, ⟨64, _⟩ => ⟨S4096x32, .f32⟩
  | .hbm, ⟨65, _⟩ => ⟨S4096x64, .f32⟩
  | .hbm, ⟨66, _⟩ => ⟨S1x4096x1x64, .f32⟩
  | .hbm, ⟨67, _⟩ => ⟨S1x4096x2x64, .f32⟩
  | .hbm, ⟨68, _⟩ => ⟨S4096x128, .f32⟩
  | .hbm, ⟨69, _⟩ => ⟨S64, .f32⟩
  | .hbm, ⟨70, _⟩ => ⟨S1x64, .f32⟩
  | .hbm, ⟨71, _⟩ => ⟨S8x64, .f32⟩
  | .hbm, ⟨72, _⟩ => ⟨S512, .f32⟩
  | .hbm, ⟨73, _⟩ => ⟨S64, .f32⟩
  | .hbm, ⟨74, _⟩ => ⟨S1x64, .f32⟩
  | .hbm, ⟨75, _⟩ => ⟨S8x64, .f32⟩
  | .hbm, ⟨76, _⟩ => ⟨S512, .f32⟩
  | .hbm, ⟨77, _⟩ => ⟨S32, .f32⟩
  | .hbm, ⟨78, _⟩ => ⟨S1x32, .f32⟩
  | .hbm, ⟨79, _⟩ => ⟨S16x32, .f32⟩
  | .hbm, ⟨80, _⟩ => ⟨S512, .f32⟩
  | .hbm, ⟨81, _⟩ => ⟨S32, .f32⟩
  | .hbm, ⟨82, _⟩ => ⟨S1x32, .f32⟩
  | .hbm, ⟨83, _⟩ => ⟨S16x32, .f32⟩
  | .hbm, ⟨84, _⟩ => ⟨S512, .f32⟩
  | .hbm, ⟨85, _⟩ => ⟨S1x512, .f32⟩
  | .hbm, ⟨86, _⟩ => ⟨S1x512, .f32⟩
  | .hbm, ⟨87, _⟩ => ⟨S1x512, .f32⟩
  | .hbm, ⟨88, _⟩ => ⟨S1x512, .f32⟩
  | .hbm, ⟨89, _⟩ => ⟨S4x512, .f32⟩
  | .hbm, ⟨90, _⟩ => ⟨S16384x1024, .f32⟩
  | .hbm, ⟨91, _⟩ => ⟨S1024, .f32⟩
  | .hbm, ⟨92, _⟩ => ⟨S1x1024, .f32⟩
  | .hbm, ⟨93, _⟩ => ⟨S1024x3072, .f32⟩
  | .hbm, ⟨94, _⟩ => ⟨S16384x2048, .bf16⟩
  | .hbm, ⟨95, _⟩ => ⟨S4x1024x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .f32⟩
  | .local _ .vmem, ⟨4, _⟩ => ⟨S256x256, .bf16⟩
  | .local _ .vmem, ⟨5, _⟩ => ⟨S256x256, .bf16⟩
  | .local _ .vmem, ⟨6, _⟩ => ⟨S4x512, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x2048, .bf16⟩
  | .local _ .vmem, ⟨12, _⟩ => ⟨S1024x2048, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1024x3072, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69_0 : Ref sig .tc := ⟨.hbm, 94, rfl⟩
abbrev main_v69_1 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4x4096x1024 : Shape := ⟨3, ![4, 4096, 1024]⟩
abbrev S1x1024 : Shape := ⟨2, ![1, 1024]⟩
abbrev S1x1024x3072 : Shape := ⟨3, ![1, 1024, 3072]⟩
abbrev S1x64 : Shape := ⟨2, ![1, 64]⟩
abbrev S1x32 : Shape := ⟨2, ![1, 32]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3072 : Shape := ⟨2, ![1024, 3072]⟩
abbrev S4x4096x3072 : Shape := ⟨3, ![4, 4096, 3072]⟩
abbrev S4x4096x512 : Shape := ⟨3, ![4, 4096, 512]⟩
abbrev S32 : Shape := ⟨1, ![32]⟩
abbrev S4096 : Shape := ⟨1, ![4096]⟩
abbrev S4096x1 : Shape := ⟨2, ![4096, 1]⟩
abbrev S4096x32 : Shape := ⟨2, ![4096, 32]⟩
abbrev S4x4096x4x2x64 : Shape := ⟨5, ![4, 4096, 4, 2, 64]⟩
abbrev S64 : Shape := ⟨1, ![64]⟩
abbrev S4x4096x4x2 : Shape := ⟨4, ![4, 4096, 4, 2]⟩
abbrev S4x4096x4x2x1 : Shape := ⟨5, ![4, 4096, 4, 2, 1]⟩
abbrev S1x1x1x1x64 : Shape := ⟨5, ![1, 1, 1, 1, 64]⟩
abbrev S4096x1x1x32 : Shape := ⟨4, ![4096, 1, 1, 32]⟩
abbrev S4x4096x4x2x32 : Shape := ⟨5, ![4, 4096, 4, 2, 32]⟩
abbrev S1x4096x1x1x32 : Shape := ⟨5, ![1, 4096, 1, 1, 32]⟩
abbrev S4x4096x16x32 : Shape := ⟨4, ![4, 4096, 16, 32]⟩
abbrev S4x4096x16 : Shape := ⟨3, ![4, 4096, 16]⟩
abbrev S4x4096x16x1 : Shape := ⟨4, ![4, 4096, 16, 1]⟩
abbrev S1x1x1x32 : Shape := ⟨4, ![1, 1, 1, 32]⟩
abbrev S4x4096x2048 : Shape := ⟨3, ![4, 4096, 2048]⟩
abbrev S16384x2048 : Shape := ⟨2, ![16384, 2048]⟩
abbrev S4x1024x4096 : Shape := ⟨3, ![4, 1024, 4096]⟩

abbrev nBuf : Space → Nat
  | .hbm => 174
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x3072, .f32⟩
  | 3 => ⟨S1x64, .f32⟩
  | 4 => ⟨S1x64, .f32⟩
  | 5 => ⟨S1x32, .f32⟩
  | 6 => ⟨S1x32, .f32⟩
  | 7 => ⟨S1024, .f32⟩
  | 8 => ⟨S4x4096x1024, .f32⟩
  | 9 => ⟨S_, .f32⟩
  | 10 => ⟨S4x4096, .f32⟩
  | 11 => ⟨S4x4096x1, .f32⟩
  | 12 => ⟨S_, .f32⟩
  | 13 => ⟨S4x4096x1, .f32⟩
  | 14 => ⟨S4x4096x1, .f32⟩
  | 15 => ⟨S_, .f32⟩
  | 16 => ⟨S4x4096x1, .f32⟩
  | 17 => ⟨S4x4096x1, .f32⟩
  | 18 => ⟨S4x4096x1, .f32⟩
  | 19 => ⟨S4x4096x1024, .f32⟩
  | 20 => ⟨S4x4096x1024, .f32⟩
  | 21 => ⟨S1x1x1024, .f32⟩
  | 22 => ⟨S4x4096x1024, .f32⟩
  | 23 => ⟨S4x4096x1024, .f32⟩
  | 24 => ⟨S1024x3072, .f32⟩
  | 25 => ⟨S4x4096x3072, .f32⟩
  | 26 => ⟨S4x4096x512, .f32⟩
  | 27 => ⟨S4x4096x512, .f32⟩
  | 28 => ⟨S4x4096x512, .f32⟩
  | 29 => ⟨S4x4096x512, .f32⟩
  | 30 => ⟨S4x4096x512, .f32⟩
  | 31 => ⟨S4x4096x512, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S4096, .f32⟩
  | 47 => ⟨S4096x1, .f32⟩
  | 48 => ⟨S1x32, .f32⟩
  | 49 => ⟨S4096x32, .f32⟩
  | 50 => ⟨S4096x32, .f32⟩
  | 51 => ⟨S4096x32, .f32⟩
  | 52 => ⟨S4096x32, .f32⟩
  | 53 => ⟨S4096x32, .f32⟩
  | 54 => ⟨S4x4096x4x2x64, .f32⟩
  | 55 => ⟨S64, .f32⟩
  | 56 => ⟨S4x4096x4x2x64, .f32⟩
  | 57 => ⟨S_, .f32⟩
  | 58 => ⟨S4x4096x4x2, .f32⟩
  | 59 => ⟨S4x4096x4x2x1, .f32⟩
  | 60 => ⟨S_, .f32⟩
  | 61 => ⟨S4x4096x4x2x1, .f32⟩
  | 62 => ⟨S4x4096x4x2x1, .f32⟩
  | 63 => ⟨S_, .f32⟩
  | 64 => ⟨S4x4096x4x2x1, .f32⟩
  | 65 => ⟨S4x4096x4x2x1, .f32⟩
  | 66 => ⟨S4x4096x4x2x1, .f32⟩
  | 67 => ⟨S4x4096x4x2x64, .f32⟩
  | 68 => ⟨S4x4096x4x2x64, .f32⟩
  | 69 => ⟨S1x1x1x1x64, .f32⟩
  | 70 => ⟨S4x4096x4x2x64, .f32⟩
  | 71 => ⟨S4x4096x4x2x64, .f32⟩
  | 72 => ⟨S4096x1x1x32, .f32⟩
  | 73 => ⟨S4096x1x1x32, .f32⟩
  | 74 => ⟨S4x4096x4x2x32, .f32⟩
  | 75 => ⟨S4x4096x4x2x32, .f32⟩
  | 76 => ⟨S1x4096x1x1x32, .f32⟩
  | 77 => ⟨S4x4096x4x2x32, .f32⟩
  | 78 => ⟨S4x4096x4x2x32, .f32⟩
  | 79 => ⟨S1x4096x1x1x32, .f32⟩
  | 80 => ⟨S4x4096x4x2x32, .f32⟩
  | 81 => ⟨S4x4096x4x2x32, .f32⟩
  | 82 => ⟨S4x4096x4x2x32, .f32⟩
  | 83 => ⟨S1x4096x1x1x32, .f32⟩
  | 84 => ⟨S4x4096x4x2x32, .f32⟩
  | 85 => ⟨S4x4096x4x2x32, .f32⟩
  | 86 => ⟨S1x4096x1x1x32, .f32⟩
  | 87 => ⟨S4x4096x4x2x32, .f32⟩
  | 88 => ⟨S4x4096x4x2x32, .f32⟩
  | 89 => ⟨S4x4096x4x2x32, .f32⟩
  | 90 => ⟨S4x4096x4x2x64, .f32⟩
  | 91 => ⟨S4x4096x4x2x64, .f32⟩
  | 92 => ⟨S64, .f32⟩
  | 93 => ⟨S4x4096x4x2x64, .f32⟩
  | 94 => ⟨S_, .f32⟩
  | 95 => ⟨S4x4096x4x2, .f32⟩
  | 96 => ⟨S4x4096x4x2x1, .f32⟩
  | 97 => ⟨S_, .f32⟩
  | 98 => ⟨S4x4096x4x2x1, .f32⟩
  | 99 => ⟨S4x4096x4x2x1, .f32⟩
  | 100 => ⟨S_, .f32⟩
  | 101 => ⟨S4x4096x4x2x1, .f32⟩
  | 102 => ⟨S4x4096x4x2x1, .f32⟩
  | 103 => ⟨S4x4096x4x2x1, .f32⟩
  | 104 => ⟨S4x4096x4x2x64, .f32⟩
  | 105 => ⟨S4x4096x4x2x64, .f32⟩
  | 106 => ⟨S1x1x1x1x64, .f32⟩
  | 107 => ⟨S4x4096x4x2x64, .f32⟩
  | 108 => ⟨S4x4096x4x2x64, .f32⟩
  | 109 => ⟨S4096x1x1x32, .f32⟩
  | 110 => ⟨S4096x1x1x32, .f32⟩
  | 111 => ⟨S4x4096x4x2x32, .f32⟩
  | 112 => ⟨S4x4096x4x2x32, .f32⟩
  | 113 => ⟨S1x4096x1x1x32, .f32⟩
  | 114 => ⟨S4x4096x4x2x32, .f32⟩
  | 115 => ⟨S4x4096x4x2x32, .f32⟩
  | 116 => ⟨S1x4096x1x1x32, .f32⟩
  | 117 => ⟨S4x4096x4x2x32, .f32⟩
  | 118 => ⟨S4x4096x4x2x32, .f32⟩
  | 119 => ⟨S4x4096x4x2x32, .f32⟩
  | 120 => ⟨S1x4096x1x1x32, .f32⟩
  | 121 => ⟨S4x4096x4x2x32, .f32⟩
  | 122 => ⟨S4x4096x4x2x32, .f32⟩
  | 123 => ⟨S1x4096x1x1x32, .f32⟩
  | 124 => ⟨S4x4096x4x2x32, .f32⟩
  | 125 => ⟨S4x4096x4x2x32, .f32⟩
  | 126 => ⟨S4x4096x4x2x32, .f32⟩
  | 127 => ⟨S4x4096x4x2x64, .f32⟩
  | _ => ⟨S4x4096x1024, .f32⟩

abbrev hbmTy0_1 (i : Nat) : BufTy := match i % 128 with
  | 0 => ⟨S4x4096x16x32, .f32⟩
  | 1 => ⟨S32, .f32⟩
  | 2 => ⟨S4x4096x16x32, .f32⟩
  | 3 => ⟨S_, .f32⟩
  | 4 => ⟨S4x4096x16, .f32⟩
  | 5 => ⟨S4x4096x16x1, .f32⟩
  | 6 => ⟨S_, .f32⟩
  | 7 => ⟨S4x4096x16x1, .f32⟩
  | 8 => ⟨S4x4096x16x1, .f32⟩
  | 9 => ⟨S_, .f32⟩
  | 10 => ⟨S4x4096x16x1, .f32⟩
  | 11 => ⟨S4x4096x16x1, .f32⟩
  | 12 => ⟨S4x4096x16x1, .f32⟩
  | 13 => ⟨S4x4096x16x32, .f32⟩
  | 14 => ⟨S4x4096x16x32, .f32⟩
  | 15 => ⟨S1x1x1x32, .f32⟩
  | 16 => ⟨S4x4096x16x32, .f32⟩
  | 17 => ⟨S4x4096x16x32, .f32⟩
  | 18 => ⟨S4x4096x16x32, .f32⟩
  | 19 => ⟨S32, .f32⟩
  | 20 => ⟨S4x4096x16x32, .f32⟩
  | 21 => ⟨S_, .f32⟩
  | 22 => ⟨S4x4096x16, .f32⟩
  | 23 => ⟨S4x4096x16x1, .f32⟩
  | 24 => ⟨S_, .f32⟩
  | 25 => ⟨S4x4096x16x1, .f32⟩
  | 26 => ⟨S4x4096x16x1, .f32⟩
  | 27 => ⟨S_, .f32⟩
  | 28 => ⟨S4x4096x16x1, .f32⟩
  | 29 => ⟨S4x4096x16x1, .f32⟩
  | 30 => ⟨S4x4096x16x1, .f32⟩
  | 31 => ⟨S4x4096x16x32, .f32⟩
  | 32 => ⟨S4x4096x16x32, .f32⟩
  | 33 => ⟨S1x1x1x32, .f32⟩
  | 34 => ⟨S4x4096x16x32, .f32⟩
  | 35 => ⟨S4x4096x16x32, .f32⟩
  | 36 => ⟨S4x4096x512, .f32⟩
  | 37 => ⟨S4x4096x512, .f32⟩
  | 38 => ⟨S4x4096x512, .f32⟩
  | 39 => ⟨S4x4096x2048, .f32⟩
  | 40 => ⟨S4x4096x512, .f32⟩
  | 41 => ⟨S4x4096x1024, .f32⟩
  | 42 => ⟨S16384x2048, .f32⟩
  | 43 => ⟨S16384x2048, .bf16⟩
  | 44 => ⟨S4x1024x4096, .f32⟩
  | 45 => ⟨S4x1024x4096, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_9 : Ref sig .tc := ⟨.hbm, 94, rfl⟩
abbrev main_v77 : Ref sig .tc := ⟨.hbm, 95, rfl⟩
abbrev main_v78 : Ref sig .tc := ⟨.hbm, 96, rfl⟩
abbrev main_cst_10 : Ref sig .tc := ⟨.hbm, 97, rfl⟩
abbrev main_v79 : Ref sig .tc := ⟨.hbm, 98, rfl⟩
abbrev main_v80 : Ref sig .tc := ⟨.hbm, 99, rfl⟩
abbrev main_cst_11 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_cst_12 : Ref sig .tc := ⟨.hbm, 131, rfl⟩
abbrev main_v111 : Ref sig .tc := ⟨.hbm, 132, rfl⟩
abbrev main_v112 : Ref sig .tc := ⟨.hbm, 133, rfl⟩
abbrev main_cst_13 : Ref sig .tc := ⟨.hbm, 134, rfl⟩
abbrev main_v113 : Ref sig .tc := ⟨.hbm, 135, rfl⟩
abbrev main_v114 : Ref sig .tc := ⟨.hbm, 136, rfl⟩
abbrev main_cst_14 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_cst_15 : Ref sig .tc := ⟨.hbm, 149, rfl⟩
abbrev main_v126 : Ref sig .tc := ⟨.hbm, 150, rfl⟩
abbrev main_v127 : Ref sig .tc := ⟨.hbm, 151, rfl⟩
abbrev main_cst_16 : Ref sig .tc := ⟨.hbm, 152, rfl⟩
abbrev main_v128 : Ref sig .tc := ⟨.hbm, 153, rfl⟩
abbrev main_v129 : Ref sig .tc := ⟨.hbm, 154, rfl⟩
abbrev main_cst_17 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩

abbrev nD : Nat := 1
abbrev τ : Topo := Topo.v7x

variable {F : FTy → Type} [FloatOps F]
-- ==== Kernel3.lean ====
abbrev S16384x1024 : Shape := ⟨2, ![16384, 1024]⟩
abbrev S16384x128 : Shape := ⟨2, ![16384, 128]⟩
abbrev S1x4x4096x256 : Shape := ⟨4, ![1, 4, 4096, 256]⟩
abbrev S1x256x1024 : Shape := ⟨3, ![1, 256, 1024]⟩
abbrev S1x1024 : Shape := ⟨2, ![1, 1024]⟩
abbrev S1x1024x1024 : Shape := ⟨3, ![1, 1024, 1024]⟩
abbrev S135168x128 : Shape := ⟨2, ![135168, 128]⟩
abbrev S4x4096x256 : Shape := ⟨3, ![4, 4096, 256]⟩
abbrev S16384x256 : Shape := ⟨2, ![16384, 256]⟩
abbrev S256x1024 : Shape := ⟨2, ![256, 1024]⟩
abbrev S1024 : Shape := ⟨1, ![1024]⟩
abbrev S1024x1024 : Shape := ⟨2, ![1024, 1024]⟩
abbrev S1024x128 : Shape := ⟨2, ![1024, 128]⟩
abbrev S1024x256 : Shape := ⟨2, ![1024, 256]⟩
abbrev S4096x128 : Shape := ⟨2, ![4096, 128]⟩
abbrev S1024x1 : Shape := ⟨2, ![1024, 1]⟩
abbrev S1024x512 : Shape := ⟨2, ![1024, 512]⟩

abbrev nBuf : Space → Nat
  | .hbm => 17
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S1x4x4096x256, .f32⟩
  | .hbm, ⟨3, _⟩ => ⟨S1x256x1024, .f32⟩
  | .hbm, ⟨4, _⟩ => ⟨S1x1024, .f32⟩
  | .hbm, ⟨5, _⟩ => ⟨S1x1024, .f32⟩
  | .hbm, ⟨6, _⟩ => ⟨S1x1024x1024, .f32⟩
  | .hbm, ⟨7, _⟩ => ⟨S135168x128, .i32⟩
  | .hbm, ⟨8, _⟩ => ⟨S4x4096x256, .f32⟩
  | .hbm, ⟨9, _⟩ => ⟨S16384x256, .f32⟩
  | .hbm, ⟨10, _⟩ => ⟨S256x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024x1024, .f32⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x256, .f32⟩
  | .local _ .vmem, ⟨5, _⟩ => ⟨S1024x256, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S4096x128, .i32⟩
  | .local _ .vmem, ⟨11, _⟩ => ⟨S4096x128, .i32⟩
  | .local _ .vmem, ⟨12, _⟩ => ⟨S4096x128, .i32⟩
  | .local _ .vmem, ⟨13, _⟩ => ⟨S4096x128, .i32⟩
  | .local _ .vmem, ⟨14, _⟩ => ⟨S1024x1024, .f32⟩
  | .local _ .vmem, ⟨15, _⟩ => ⟨S1024x1024, .f32⟩
  | .local _ .vmem, ⟨16, _⟩ => ⟨S256x1024, .bf16⟩
  | .local _ .vmem, ⟨17, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S16384x128 : Shape := ⟨2, ![16384, 128]⟩
abbrev S1x4x4096x256 : Shape := ⟨4, ![1, 4, 4096, 256]⟩
abbrev S1x256x1024 : Shape := ⟨3, ![1, 256, 1024]⟩
abbrev S1x1024 : Shape := ⟨2, ![1, 1024]⟩
abbrev S1x1024x1024 : Shape := ⟨3, ![1, 1024, 1024]⟩
abbrev S135168x128 : Shape := ⟨2, ![135168, 128]⟩
abbrev S131072x128 : Shape := ⟨2, ![131072, 128]⟩
abbrev S2x16384x512 : Shape := ⟨3, ![2, 16384, 512]⟩
abbrev S2x16384x512x2 : Shape := ⟨4, ![2, 16384, 512, 2]⟩
abbrev S2x16384x2x512 : Shape := ⟨4, ![2, 16384, 2, 512]⟩
abbrev S2x16384x1024 : Shape := ⟨3, ![2, 16384, 1024]⟩
abbrev S16384x1 : Shape := ⟨2, ![16384, 1]⟩
abbrev S1x16384x1024 : Shape := ⟨3, ![1, 16384, 1024]⟩
abbrev S4x4096x256 : Shape := ⟨3, ![4, 4096, 256]⟩
abbrev S16384x256 : Shape := ⟨2, ![16384, 256]⟩
abbrev S256x1024 : Shape := ⟨2, ![256, 1024]⟩
abbrev S1024 : Shape := ⟨1, ![1024]⟩
abbrev S_ : Shape := ⟨0, ![]⟩
abbrev S16384 : Shape := ⟨1, ![16384]⟩
abbrev S1024x1024 : Shape := ⟨2, ![1024, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S1x4x4096x256, .f32⟩
  | .hbm, ⟨3, _⟩ => ⟨S1x256x1024, .f32⟩
  | .hbm, ⟨4, _⟩ => ⟨S1x1024, .f32⟩
  | .hbm, ⟨5, _⟩ => ⟨S1x1024, .f32⟩
  | .hbm, ⟨6, _⟩ => ⟨S1x1024x1024, .f32⟩
  | .hbm, ⟨7, _⟩ => ⟨S135168x128, .i32⟩
  | .hbm, ⟨8, _⟩ => ⟨S131072x128, .i32⟩
  | .hbm, ⟨9, _⟩ => ⟨S2x16384x512, .i32⟩
  | .hbm, ⟨10, _⟩ => ⟨S2x16384x512x2, .bf16⟩
  | .hbm, ⟨11, _⟩ => ⟨S2x16384x2x512, .bf16⟩
  | .hbm, ⟨12, _⟩ => ⟨S2x16384x1024, .bf16⟩
  | .hbm, ⟨13, _⟩ => ⟨S2x16384x1024, .f32⟩
  | .hbm, ⟨14, _⟩ => ⟨S16384x1, .f32⟩
  | .hbm, ⟨15, _⟩ => ⟨S1x16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1, .f32⟩
  | .hbm, ⟨20, _⟩ => ⟨S1x16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S4x4096x256, .f32⟩
  | .hbm, ⟨27, _⟩ => ⟨S16384x256, .f32⟩
  | .hbm, ⟨28, _⟩ => ⟨S256x1024, .f32⟩
  | .hbm, ⟨29, _⟩ => ⟨S16384x1024, .f32⟩
  | .hbm, ⟨30, _⟩ => ⟨S1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S1024x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Kernel4.lean ====
abbrev S4x4096x512 : Shape := ⟨3, ![4, 4096, 512]⟩
abbrev S4x4096x16x32 : Shape := ⟨4, ![4, 4096, 16, 32]⟩
abbrev S1x16x15x31 : Shape := ⟨4, ![1, 16, 15, 31]⟩
abbrev S_ : Shape := ⟨0, ![]⟩
abbrev S4x4096x2048 : Shape := ⟨3, ![4, 4096, 2048]⟩
abbrev S16x15x31 : Shape := ⟨3, ![16, 15, 31]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S16x15x64x64 : Shape := ⟨4, ![16, 15, 64, 64]⟩
abbrev S4x4x15x64x64 : Shape := ⟨5, ![4, 4, 15, 64, 64]⟩
abbrev S4x4x14x64x64 : Shape := ⟨5, ![4, 4, 14, 64, 64]⟩
abbrev S1x4x4x14x64x64 : Shape := ⟨6, ![1, 4, 4, 14, 64, 64]⟩
abbrev S2x4x4x14x64x64 : Shape := ⟨6, ![2, 4, 4, 14, 64, 64]⟩
abbrev S4x14x4x64x2x64 : Shape := ⟨6, ![4, 14, 4, 64, 2, 64]⟩
abbrev S4x14x256x128 : Shape := ⟨4, ![4, 14, 256, 128]⟩
abbrev S1x14x256x128 : Shape := ⟨4, ![1, 14, 256, 128]⟩
abbrev S1x4096x128 : Shape := ⟨3, ![1, 4096, 128]⟩
abbrev S64x128 : Shape := ⟨2, ![64, 128]⟩
abbrev S1x64x128 : Shape := ⟨3, ![1, 64, 128]⟩
abbrev S256x128 : Shape := ⟨2, ![256, 128]⟩
abbrev S1x512x128 : Shape := ⟨3, ![1, 512, 128]⟩
abbrev S512x128 : Shape := ⟨2, ![512, 128]⟩
abbrev S256x512 : Shape := ⟨2, ![256, 512]⟩
abbrev S1x1x256x128 : Shape := ⟨4, ![1, 1, 256, 128]⟩
abbrev S256 : Shape := ⟨1, ![256]⟩
abbrev S256x1 : Shape := ⟨2, ![256, 1]⟩
abbrev S512x256 : Shape := ⟨2, ![512, 256]⟩
abbrev S256x256 : Shape := ⟨2, ![256, 256]⟩

abbrev nBuf : Space → Nat
  | .hbm => 76
  | .vmem => 10
  | .smem => 0
  | _ => 0

abbrev bufTy : (tb : Table) → Fin (tcTables nBuf tb) → BufTy
  | .hbm, ⟨0, _⟩ => ⟨S4x4096x512, .f32⟩
  | .hbm, ⟨1, _⟩ => ⟨S4x4096x16x32, .f32⟩
  | .hbm, ⟨2, _⟩ => ⟨S4x4096x16x32, .f32⟩
  | .hbm, ⟨3, _⟩ => ⟨S4x4096x16x32, .f32⟩
  | .hbm, ⟨4, _⟩ => ⟨S1x16x15x31, .f32⟩
  | .hbm, ⟨5, _⟩ => ⟨S_, .f32⟩
  | .hbm, ⟨6, _⟩ => ⟨S4x4096x16x32, .f32⟩
  | .hbm, ⟨7, _⟩ => ⟨S4x4096x16x32, .f32⟩
  | .hbm, ⟨8, _⟩ => ⟨S4x4096x512, .f32⟩
  | .hbm, ⟨9, _⟩ => ⟨S4x4096x512, .f32⟩
  | .hbm, ⟨10, _⟩ => ⟨S4x4096x512, .f32⟩
  | .hbm, ⟨11, _⟩ => ⟨S4x4096x2048, .f32⟩
  | .hbm, ⟨12, _⟩ => ⟨S4x4096x2048, .bf16⟩
  | .hbm, ⟨13, _⟩ => ⟨S16x15x31, .f32⟩
  | .hbm, ⟨14, _⟩ => ⟨S64, .i32⟩
  | .hbm, ⟨15, _⟩ => ⟨S64x1, .i32⟩
  | .hbm, ⟨16, _⟩ => ⟨S64, .i32⟩
  | .hbm, ⟨17, _⟩ => ⟨S1x64, .i32⟩
  | .hbm, ⟨18, _⟩ => ⟨S_, .i32⟩
  | .hbm, ⟨19, _⟩ => ⟨S64x1, .i32⟩
  | .hbm, ⟨20, _⟩ => ⟨S64x1, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S_, .i32⟩
  | .hbm, ⟨27, _⟩ => ⟨S64x1, .i32⟩
  | .hbm, ⟨28, _⟩ => ⟨S64x1, .i32⟩
  | .hbm, ⟨29, _⟩ => ⟨S64x64, .i32⟩
  | .hbm, ⟨30, _⟩ => ⟨S64x64, .i32⟩
  | .hbm, ⟨31, _⟩ => ⟨S64x64, .i1⟩
  | .hbm, ⟨32, _⟩ => ⟨S_, .i32⟩
  | .hbm, ⟨33, _⟩ => ⟨S64x1, .i32⟩
  | .hbm, ⟨34, _⟩ => ⟨S64x1, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S64x64, .i1⟩
  | .hbm, ⟨39, _⟩ => ⟨S64x64, .i32⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S64x64, .i32⟩
  | .hbm, ⟨49, _⟩ => ⟨S64x64, .i32⟩
  | .hbm, ⟨50, _⟩ => ⟨S_, .i32⟩
  | .hbm, ⟨51, _⟩ => ⟨S64x64, .i32⟩
  | .hbm, ⟨52, _⟩ => ⟨S64x64, .i32⟩
  | .hbm, ⟨53, _⟩ => ⟨S_, .i32⟩
  | .hbm, ⟨54, _⟩ => ⟨S64x64, .i32⟩
  | .hbm, ⟨55, _⟩ => ⟨S64x64, .i1⟩
  | .hbm, ⟨56, _⟩ => ⟨S_, .i32⟩
  | .hbm, ⟨57, _⟩ => ⟨S64x64, .i32⟩
  | .hbm, ⟨58, _⟩ => ⟨S64x64, .i32⟩
  | .hbm, ⟨59, _⟩ => ⟨S64x64, .i32⟩
  | .hbm, ⟨60, _⟩ => ⟨S64x64x1, .i32⟩
  | .hbm, ⟨61, _⟩ => ⟨S16x15x64x64, .f32⟩
  | .hbm, ⟨62, _⟩ => ⟨S_, .f32⟩
  | .hbm, ⟨63, _⟩ => ⟨S_, .f32⟩
  | .hbm, ⟨64, _⟩ => ⟨S16x15x64x64, .i1⟩
  | .hbm, ⟨65, _⟩ => ⟨S16x15x64x64, .f32⟩
  | .hbm, ⟨66, _⟩ => ⟨S16x15x64x64, .f32⟩
  | .hbm, ⟨67, _⟩ => ⟨S4x4x15x64x64, .f32⟩
  | .hbm, ⟨68, _⟩ => ⟨S4x4x14x64x64, .f32⟩
  | .hbm, ⟨69, _⟩ => ⟨S4x4x14x64x64, .f32⟩
  | .hbm, ⟨70, _⟩ => ⟨S1x4x4x14x64x64, .f32⟩
  | .hbm, ⟨71, _⟩ => ⟨S1x4x4x14x64x64, .f32⟩
  | .hbm, ⟨72, _⟩ => ⟨S2x4x4x14x64x64, .f32⟩
  | .hbm, ⟨73, _⟩ => ⟨S4x14x4x64x2x64, .f32⟩
  | .hbm, ⟨74, _⟩ => ⟨S4x14x256x128, .f32⟩
  | .hbm, ⟨75, _⟩ => ⟨S4x4096x512, .bf16⟩
  | .local _ .vmem, ⟨0, _⟩ => ⟨S1x14x256x128, .f32⟩
  | .local _ .vmem, ⟨1, _⟩ => ⟨S1x14x256x128, .f32⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_c_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_mult1 : BitVec 32 :=
  let c0_i32_4 : BitVec 32 := 0#32
  let c64_i32 : BitVec 32 := 64#32
  let v30 : BitVec 32 := Scalar.muli c0_i32_4 c64_i32
  v30
def k0_mult2 : BitVec 32 :=
  let c56_i32 : BitVec 32 := 56#32
  let c0_i32_5 : BitVec 32 := 0#32
  let c0_i32_4 : BitVec 32 := 0#32
  let c4_i32 : BitVec 32 := 4#32
  let v25 : BitVec 32 := Scalar.subi c0_i32_4 c4_i32
  let v26 : BitVec 32 := Scalar.maxsi c0_i32_5 v25
  let v27 : BitVec 32 := Scalar.minsi c56_i32 v26
  let c64_i32_6 : BitVec 32 := 64#32
  let v32 : BitVec 32 := Scalar.muli v27 c64_i32_6
  v32
def k0_off1 (c0_i32_4 : BitVec 32) : Fin 3 → Nat :=
  let c0 : Index := 0#32
  let c64_i32 : BitVec 32 := 64#32
  let v30 : BitVec 32 := Scalar.muli c0_i32_4 c64_i32
  let v31 : BitVec 32 := v30
  let v34 : Index := Scalar.indexCast v31
  let c0_7 : Index := 0#32
  ![0, v34.toNat, 0]
def k0_off2 (c0_i32_4 : BitVec 32) : Fin 3 → Nat :=
  let c0_10 : Index := 0#32
  let c56_i32 : BitVec 32 := 56#32
  let c0_i32_5 : BitVec 32 := 0#32
  let c4_i32 : BitVec 32 := 4#32
  let v25 : BitVec 32 := Scalar.subi c0_i32_4 c4_i32
  let v26 : BitVec 32 := Scalar.maxsi c0_i32_5 v25
  let v27 : BitVec 32 := Scalar.minsi c56_i32 v26
  let c64_i32_6 : BitVec 32 := 64#32
  let v32 : BitVec 32 := Scalar.muli v27 c64_i32_6
  let v33 : BitVec 32 := v32
  let v51 : Index := Scalar.indexCast v33
  let c0_11 : Index := 0#32
  ![0, v51.toNat, 0]
def k0_off3 (c0_i32_4 : BitVec 32) (c0_i32_15 : BitVec 32) : Fin 4 → Nat :=
  let c0_16 : Index := 0#32
  let c56_i32 : BitVec 32 := 56#32
  let c0_i32_5 : BitVec 32 := 0#32
  let c4_i32 : BitVec 32 := 4#32
  let v25 : BitVec 32 := Scalar.subi c0_i32_4 c4_i32
  let v26 : BitVec 32 := Scalar.maxsi c0_i32_5 v25
  let v27 : BitVec 32 := Scalar.minsi c56_i32 v26
  let v28 : BitVec 32 := Scalar.subi v27 c0_i32_4
  let c7_i32 : BitVec 32 := 7#32
  let v29 : BitVec 32 := Scalar.addi v28 c7_i32
  let v58 : BitVec 32 := Scalar.addi v29 c0_i32_15
  let v59 : Index := Scalar.indexCast v58
  let c0_17 : Index := 0#32
  let c0_18 : Index := 0#32
  ![0, v59.toNat, 0, 0]
def k0_mult3 : BitVec 32 :=
  let c1_i32_45 : BitVec 32 := 1#32
  let c64_i32_50 : BitVec 32 := 64#32
  let v125 : BitVec 32 := Scalar.muli c1_i32_45 c64_i32_50
  v125
def k0_mult4 : BitVec 32 :=
  let c56_i32_48 : BitVec 32 := 56#32
  let c0_i32_47 : BitVec 32 := 0#32
  let c1_i32_45 : BitVec 32 := 1#32
  let c4_i32_46 : BitVec 32 := 4#32
  let v120 : BitVec 32 := Scalar.subi c1_i32_45 c4_i32_46
  let v121 : BitVec 32 := Scalar.maxsi c0_i32_47 v120
  let v122 : BitVec 32 := Scalar.minsi c56_i32_48 v121
  let c64_i32_51 : BitVec 32 := 64#32
  let v127 : BitVec 32 := Scalar.muli v122 c64_i32_51
  v127
def k0_mult5 : BitVec 32 :=
  let c2_i32_95 : BitVec 32 := 2#32
  let c64_i32_100 : BitVec 32 := 64#32
  let v220 : BitVec 32 := Scalar.muli c2_i32_95 c64_i32_100
  v220
def k0_mult6 : BitVec 32 :=
  let c56_i32_98 : BitVec 32 := 56#32
  let c0_i32_97 : BitVec 32 := 0#32
  let c2_i32_95 : BitVec 32 := 2#32
  let c4_i32_96 : BitVec 32 := 4#32
  let v215 : BitVec 32 := Scalar.subi c2_i32_95 c4_i32_96
  let v216 : BitVec 32 := Scalar.maxsi c0_i32_97 v215
  let v217 : BitVec 32 := Scalar.minsi c56_i32_98 v216
  let c64_i32_101 : BitVec 32 := 64#32
  let v222 : BitVec 32 := Scalar.muli v217 c64_i32_101
  v222
def k0_mult7 : BitVec 32 :=
  let c3_i32_145 : BitVec 32 := 3#32
  let c64_i32_150 : BitVec 32 := 64#32
  let v315 : BitVec 32 := Scalar.muli c3_i32_145 c64_i32_150
  v315
def k0_mult8 : BitVec 32 :=
  let c56_i32_148 : BitVec 32 := 56#32
  let c0_i32_147 : BitVec 32 := 0#32
  let c3_i32_145 : BitVec 32 := 3#32
  let c4_i32_146 : BitVec 32 := 4#32
  let v310 : BitVec 32 := Scalar.subi c3_i32_145 c4_i32_146
  let v311 : BitVec 32 := Scalar.maxsi c0_i32_147 v310
  let v312 : BitVec 32 := Scalar.minsi c56_i32_148 v311
  let c64_i32_151 : BitVec 32 := 64#32
  let v317 : BitVec 32 := Scalar.muli v312 c64_i32_151
  v317
def k0_mult9 : BitVec 32 :=
  let c4_i32_195 : BitVec 32 := 4#32
  let c64_i32_200 : BitVec 32 := 64#32
  let v410 : BitVec 32 := Scalar.muli c4_i32_195 c64_i32_200
  v410
def k0_mult10 : BitVec 32 :=
  let c56_i32_198 : BitVec 32 := 56#32
  let c0_i32_197 : BitVec 32 := 0#32
  let c4_i32_195 : BitVec 32 := 4#32
  let c4_i32_196 : BitVec 32 := 4#32
  let v405 : BitVec 32 := Scalar.subi c4_i32_195 c4_i32_196
  let v406 : BitVec 32 := Scalar.maxsi c0_i32_197 v405
  let v407 : BitVec 32 := Scalar.minsi c56_i32_198 v406
  let c64_i32_201 : BitVec 32 := 64#32
  let v412 : BitVec 32 := Scalar.muli v407 c64_i32_201
  v412
def k0_mult11 : BitVec 32 :=
  let c5_i32 : BitVec 32 := 5#32
  let c64_i32_249 : BitVec 32 := 64#32
  let v505 : BitVec 32 := Scalar.muli c5_i32 c64_i32_249
  v505
def k0_mult12 : BitVec 32 :=
  let c56_i32_247 : BitVec 32 := 56#32
  let c0_i32_246 : BitVec 32 := 0#32
  let c5_i32 : BitVec 32 := 5#32
  let c4_i32_245 : BitVec 32 := 4#32
  let v500 : BitVec 32 := Scalar.subi c5_i32 c4_i32_245
  let v501 : BitVec 32 := Scalar.maxsi c0_i32_246 v500
  let v502 : BitVec 32 := Scalar.minsi c56_i32_247 v501
  let c64_i32_250 : BitVec 32 := 64#32
  let v507 : BitVec 32 := Scalar.muli v502 c64_i32_250
  v507
def k0_mult13 : BitVec 32 :=
  let c6_i32_294 : BitVec 32 := 6#32
  let c64_i32_299 : BitVec 32 := 64#32
  let v600 : BitVec 32 := Scalar.muli c6_i32_294 c64_i32_299
  v600
def k0_mult14 : BitVec 32 :=
  let c56_i32_297 : BitVec 32 := 56#32
  let c0_i32_296 : BitVec 32 := 0#32
  let c6_i32_294 : BitVec 32 := 6#32
  let c4_i32_295 : BitVec 32 := 4#32
  let v595 : BitVec 32 := Scalar.subi c6_i32_294 c4_i32_295
  let v596 : BitVec 32 := Scalar.maxsi c0_i32_296 v595
  let v597 : BitVec 32 := Scalar.minsi c56_i32_297 v596
  let c64_i32_300 : BitVec 32 := 64#32
  let v602 : BitVec 32 := Scalar.muli v597 c64_i32_300
  v602
def k0_mult15 : BitVec 32 :=
  let c7_i32_344 : BitVec 32 := 7#32
  let c64_i32_349 : BitVec 32 := 64#32
  let v695 : BitVec 32 := Scalar.muli c7_i32_344 c64_i32_349
  v695
def k0_mult16 : BitVec 32 :=
  let c56_i32_347 : BitVec 32 := 56#32
  let c0_i32_346 : BitVec 32 := 0#32
  let c7_i32_344 : BitVec 32 := 7#32
  let c4_i32_345 : BitVec 32 := 4#32
  let v690 : BitVec 32 := Scalar.subi c7_i32_344 c4_i32_345
  let v691 : BitVec 32 := Scalar.maxsi c0_i32_346 v690
  let v692 : BitVec 32 := Scalar.minsi c56_i32_347 v691
  let c64_i32_350 : BitVec 32 := 64#32
  let v697 : BitVec 32 := Scalar.muli v692 c64_i32_350
  v697
def k0_mult17 : BitVec 32 :=
  let c8_i32 : BitVec 32 := 8#32
  let c64_i32_398 : BitVec 32 := 64#32
  let v790 : BitVec 32 := Scalar.muli c8_i32 c64_i32_398
  v790
def k0_mult18 : BitVec 32 :=
  let c56_i32_396 : BitVec 32 := 56#32
  let c0_i32_395 : BitVec 32 := 0#32
  let c8_i32 : BitVec 32 := 8#32
  let c4_i32_394 : BitVec 32 := 4#32
  let v785 : BitVec 32 := Scalar.subi c8_i32 c4_i32_394
  let v786 : BitVec 32 := Scalar.maxsi c0_i32_395 v785
  let v787 : BitVec 32 := Scalar.minsi c56_i32_396 v786
  let c64_i32_399 : BitVec 32 := 64#32
  let v792 : BitVec 32 := Scalar.muli v787 c64_i32_399
  v792
def k0_mult19 : BitVec 32 :=
  let c9_i32 : BitVec 32 := 9#32
  let c64_i32_447 : BitVec 32 := 64#32
  let v885 : BitVec 32 := Scalar.muli c9_i32 c64_i32_447
  v885
def k0_mult20 : BitVec 32 :=
  let c56_i32_445 : BitVec 32 := 56#32
  let c0_i32_444 : BitVec 32 := 0#32
  let c9_i32 : BitVec 32 := 9#32
  let c4_i32_443 : BitVec 32 := 4#32
  let v880 : BitVec 32 := Scalar.subi c9_i32 c4_i32_443
  let v881 : BitVec 32 := Scalar.maxsi c0_i32_444 v880
  let v882 : BitVec 32 := Scalar.minsi c56_i32_445 v881
  let c64_i32_448 : BitVec 32 := 64#32
  let v887 : BitVec 32 := Scalar.muli v882 c64_i32_448
  v887
def k0_mult21 : BitVec 32 :=
  let c10_i32 : BitVec 32 := 10#32
  let c64_i32_496 : BitVec 32 := 64#32
  let v980 : BitVec 32 := Scalar.muli c10_i32 c64_i32_496
  v980
def k0_mult22 : BitVec 32 :=
  let c56_i32_494 : BitVec 32 := 56#32
  let c0_i32_493 : BitVec 32 := 0#32
  let c10_i32 : BitVec 32 := 10#32
  let c4_i32_492 : BitVec 32 := 4#32
  let v975 : BitVec 32 := Scalar.subi c10_i32 c4_i32_492
  let v976 : BitVec 32 := Scalar.maxsi c0_i32_493 v975
  let v977 : BitVec 32 := Scalar.minsi c56_i32_494 v976
  let c64_i32_497 : BitVec 32 := 64#32
  let v982 : BitVec 32 := Scalar.muli v977 c64_i32_497
  v982
def k0_mult23 : BitVec 32 :=
  let c11_i32 : BitVec 32 := 11#32
  let c64_i32_545 : BitVec 32 := 64#32
  let v1075 : BitVec 32 := Scalar.muli c11_i32 c64_i32_545
  v1075
def k0_mult24 : BitVec 32 :=
  let c56_i32_543 : BitVec 32 := 56#32
  let c0_i32_542 : BitVec 32 := 0#32
  let c11_i32 : BitVec 32 := 11#32
  let c4_i32_541 : BitVec 32 := 4#32
  let v1070 : BitVec 32 := Scalar.subi c11_i32 c4_i32_541
  let v1071 : BitVec 32 := Scalar.maxsi c0_i32_542 v1070
  let v1072 : BitVec 32 := Scalar.minsi c56_i32_543 v1071
  let c64_i32_546 : BitVec 32 := 64#32
  let v1077 : BitVec 32 := Scalar.muli v1072 c64_i32_546
  v1077
def k0_mult25 : BitVec 32 :=
  let c12_i32 : BitVec 32 := 12#32
  let c64_i32_594 : BitVec 32 := 64#32
  let v1170 : BitVec 32 := Scalar.muli c12_i32 c64_i32_594
  v1170
def k0_mult26 : BitVec 32 :=
  let c56_i32_592 : BitVec 32 := 56#32
  let c0_i32_591 : BitVec 32 := 0#32
  let c12_i32 : BitVec 32 := 12#32
  let c4_i32_590 : BitVec 32 := 4#32
  let v1165 : BitVec 32 := Scalar.subi c12_i32 c4_i32_590
  let v1166 : BitVec 32 := Scalar.maxsi c0_i32_591 v1165
  let v1167 : BitVec 32 := Scalar.minsi c56_i32_592 v1166
  let c64_i32_595 : BitVec 32 := 64#32
  let v1172 : BitVec 32 := Scalar.muli v1167 c64_i32_595
  v1172
def k0_mult27 : BitVec 32 :=
  let c13_i32 : BitVec 32 := 13#32
  let c64_i32_643 : BitVec 32 := 64#32
  let v1265 : BitVec 32 := Scalar.muli c13_i32 c64_i32_643
  v1265
def k0_mult28 : BitVec 32 :=
  let c56_i32_641 : BitVec 32 := 56#32
  let c0_i32_640 : BitVec 32 := 0#32
  let c13_i32 : BitVec 32 := 13#32
  let c4_i32_639 : BitVec 32 := 4#32
  let v1260 : BitVec 32 := Scalar.subi c13_i32 c4_i32_639
  let v1261 : BitVec 32 := Scalar.maxsi c0_i32_640 v1260
  let v1262 : BitVec 32 := Scalar.minsi c56_i32_641 v1261
  let c64_i32_644 : BitVec 32 := 64#32
  let v1267 : BitVec 32 := Scalar.muli v1262 c64_i32_644
  v1267
def k0_mult29 : BitVec 32 :=
  let c14_i32 : BitVec 32 := 14#32
  let c64_i32_692 : BitVec 32 := 64#32
  let v1360 : BitVec 32 := Scalar.muli c14_i32 c64_i32_692
  v1360
def k0_mult30 : BitVec 32 :=
  let c56_i32_690 : BitVec 32 := 56#32
  let c0_i32_689 : BitVec 32 := 0#32
  let c14_i32 : BitVec 32 := 14#32
  let c4_i32_688 : BitVec 32 := 4#32
  let v1355 : BitVec 32 := Scalar.subi c14_i32 c4_i32_688
  let v1356 : BitVec 32 := Scalar.maxsi c0_i32_689 v1355
  let v1357 : BitVec 32 := Scalar.minsi c56_i32_690 v1356
  let c64_i32_693 : BitVec 32 := 64#32
  let v1362 : BitVec 32 := Scalar.muli v1357 c64_i32_693
  v1362
def k0_mult31 : BitVec 32 :=
  let c15_i32 : BitVec 32 := 15#32
  let c64_i32_741 : BitVec 32 := 64#32
  let v1455 : BitVec 32 := Scalar.muli c15_i32 c64_i32_741
  v1455
def k0_mult32 : BitVec 32 :=
  let c56_i32_739 : BitVec 32 := 56#32
  let c0_i32_738 : BitVec 32 := 0#32
  let c15_i32 : BitVec 32 := 15#32
  let c4_i32_737 : BitVec 32 := 4#32
  let v1450 : BitVec 32 := Scalar.subi c15_i32 c4_i32_737
  let v1451 : BitVec 32 := Scalar.maxsi c0_i32_738 v1450
  let v1452 : BitVec 32 := Scalar.minsi c56_i32_739 v1451
  let c64_i32_742 : BitVec 32 := 64#32
  let v1457 : BitVec 32 := Scalar.muli v1452 c64_i32_742
  v1457
def k0_mult33 : BitVec 32 :=
  let c16_i32 : BitVec 32 := 16#32
  let c64_i32_790 : BitVec 32 := 64#32
  let v1550 : BitVec 32 := Scalar.muli c16_i32 c64_i32_790
  v1550
def k0_mult34 : BitVec 32 :=
  let c56_i32_788 : BitVec 32 := 56#32
  let c0_i32_787 : BitVec 32 := 0#32
  let c16_i32 : BitVec 32 := 16#32
  let c4_i32_786 : BitVec 32 := 4#32
  let v1545 : BitVec 32 := Scalar.subi c16_i32 c4_i32_786
  let v1546 : BitVec 32 := Scalar.maxsi c0_i32_787 v1545
  let v1547 : BitVec 32 := Scalar.minsi c56_i32_788 v1546
  let c64_i32_791 : BitVec 32 := 64#32
  let v1552 : BitVec 32 := Scalar.muli v1547 c64_i32_791
  v1552
def k0_mult35 : BitVec 32 :=
  let c17_i32 : BitVec 32 := 17#32
  let c64_i32_839 : BitVec 32 := 64#32
  let v1645 : BitVec 32 := Scalar.muli c17_i32 c64_i32_839
  v1645
def k0_mult36 : BitVec 32 :=
  let c56_i32_837 : BitVec 32 := 56#32
  let c0_i32_836 : BitVec 32 := 0#32
  let c17_i32 : BitVec 32 := 17#32
  let c4_i32_835 : BitVec 32 := 4#32
  let v1640 : BitVec 32 := Scalar.subi c17_i32 c4_i32_835
  let v1641 : BitVec 32 := Scalar.maxsi c0_i32_836 v1640
  let v1642 : BitVec 32 := Scalar.minsi c56_i32_837 v1641
  let c64_i32_840 : BitVec 32 := 64#32
  let v1647 : BitVec 32 := Scalar.muli v1642 c64_i32_840
  v1647
def k0_mult37 : BitVec 32 :=
  let c18_i32 : BitVec 32 := 18#32
  let c64_i32_888 : BitVec 32 := 64#32
  let v1740 : BitVec 32 := Scalar.muli c18_i32 c64_i32_888
  v1740
def k0_mult38 : BitVec 32 :=
  let c56_i32_886 : BitVec 32 := 56#32
  let c0_i32_885 : BitVec 32 := 0#32
  let c18_i32 : BitVec 32 := 18#32
  let c4_i32_884 : BitVec 32 := 4#32
  let v1735 : BitVec 32 := Scalar.subi c18_i32 c4_i32_884
  let v1736 : BitVec 32 := Scalar.maxsi c0_i32_885 v1735
  let v1737 : BitVec 32 := Scalar.minsi c56_i32_886 v1736
  let c64_i32_889 : BitVec 32 := 64#32
  let v1742 : BitVec 32 := Scalar.muli v1737 c64_i32_889
  v1742
def k0_mult39 : BitVec 32 :=
  let c19_i32 : BitVec 32 := 19#32
  let c64_i32_937 : BitVec 32 := 64#32
  let v1835 : BitVec 32 := Scalar.muli c19_i32 c64_i32_937
  v1835
def k0_mult40 : BitVec 32 :=
  let c56_i32_935 : BitVec 32 := 56#32
  let c0_i32_934 : BitVec 32 := 0#32
  let c19_i32 : BitVec 32 := 19#32
  let c4_i32_933 : BitVec 32 := 4#32
  let v1830 : BitVec 32 := Scalar.subi c19_i32 c4_i32_933
  let v1831 : BitVec 32 := Scalar.maxsi c0_i32_934 v1830
  let v1832 : BitVec 32 := Scalar.minsi c56_i32_935 v1831
  let c64_i32_938 : BitVec 32 := 64#32
  let v1837 : BitVec 32 := Scalar.muli v1832 c64_i32_938
  v1837
def k0_mult41 : BitVec 32 :=
  let c20_i32 : BitVec 32 := 20#32
  let c64_i32_986 : BitVec 32 := 64#32
  let v1930 : BitVec 32 := Scalar.muli c20_i32 c64_i32_986
  v1930
def k0_mult42 : BitVec 32 :=
  let c56_i32_984 : BitVec 32 := 56#32
  let c0_i32_983 : BitVec 32 := 0#32
  let c20_i32 : BitVec 32 := 20#32
  let c4_i32_982 : BitVec 32 := 4#32
  let v1925 : BitVec 32 := Scalar.subi c20_i32 c4_i32_982
  let v1926 : BitVec 32 := Scalar.maxsi c0_i32_983 v1925
  let v1927 : BitVec 32 := Scalar.minsi c56_i32_984 v1926
  let c64_i32_987 : BitVec 32 := 64#32
  let v1932 : BitVec 32 := Scalar.muli v1927 c64_i32_987
  v1932
def k0_mult43 : BitVec 32 :=
  let c21_i32 : BitVec 32 := 21#32
  let c64_i32_1035 : BitVec 32 := 64#32
  let v2025 : BitVec 32 := Scalar.muli c21_i32 c64_i32_1035
  v2025
def k0_mult44 : BitVec 32 :=
  let c56_i32_1033 : BitVec 32 := 56#32
  let c0_i32_1032 : BitVec 32 := 0#32
  let c21_i32 : BitVec 32 := 21#32
  let c4_i32_1031 : BitVec 32 := 4#32
  let v2020 : BitVec 32 := Scalar.subi c21_i32 c4_i32_1031
  let v2021 : BitVec 32 := Scalar.maxsi c0_i32_1032 v2020
  let v2022 : BitVec 32 := Scalar.minsi c56_i32_1033 v2021
  let c64_i32_1036 : BitVec 32 := 64#32
  let v2027 : BitVec 32 := Scalar.muli v2022 c64_i32_1036
  v2027
def k0_mult45 : BitVec 32 :=
  let c22_i32 : BitVec 32 := 22#32
  let c64_i32_1084 : BitVec 32 := 64#32
  let v2120 : BitVec 32 := Scalar.muli c22_i32 c64_i32_1084
  v2120
def k0_mult46 : BitVec 32 :=
  let c56_i32_1082 : BitVec 32 := 56#32
  let c0_i32_1081 : BitVec 32 := 0#32
  let c22_i32 : BitVec 32 := 22#32
  let c4_i32_1080 : BitVec 32 := 4#32
  let v2115 : BitVec 32 := Scalar.subi c22_i32 c4_i32_1080
  let v2116 : BitVec 32 := Scalar.maxsi c0_i32_1081 v2115
  let v2117 : BitVec 32 := Scalar.minsi c56_i32_1082 v2116
  let c64_i32_1085 : BitVec 32 := 64#32
  let v2122 : BitVec 32 := Scalar.muli v2117 c64_i32_1085
  v2122
def k0_mult47 : BitVec 32 :=
  let c23_i32 : BitVec 32 := 23#32
  let c64_i32_1133 : BitVec 32 := 64#32
  let v2215 : BitVec 32 := Scalar.muli c23_i32 c64_i32_1133
  v2215
def k0_mult48 : BitVec 32 :=
  let c56_i32_1131 : BitVec 32 := 56#32
  let c0_i32_1130 : BitVec 32 := 0#32
  let c23_i32 : BitVec 32 := 23#32
  let c4_i32_1129 : BitVec 32 := 4#32
  let v2210 : BitVec 32 := Scalar.subi c23_i32 c4_i32_1129
  let v2211 : BitVec 32 := Scalar.maxsi c0_i32_1130 v2210
  let v2212 : BitVec 32 := Scalar.minsi c56_i32_1131 v2211
  let c64_i32_1134 : BitVec 32 := 64#32
  let v2217 : BitVec 32 := Scalar.muli v2212 c64_i32_1134
  v2217
def k0_mult49 : BitVec 32 :=
  let c24_i32 : BitVec 32 := 24#32
  let c64_i32_1182 : BitVec 32 := 64#32
  let v2310 : BitVec 32 := Scalar.muli c24_i32 c64_i32_1182
  v2310
def k0_mult50 : BitVec 32 :=
  let c56_i32_1180 : BitVec 32 := 56#32
  let c0_i32_1179 : BitVec 32 := 0#32
  let c24_i32 : BitVec 32 := 24#32
  let c4_i32_1178 : BitVec 32 := 4#32
  let v2305 : BitVec 32 := Scalar.subi c24_i32 c4_i32_1178
  let v2306 : BitVec 32 := Scalar.maxsi c0_i32_1179 v2305
  let v2307 : BitVec 32 := Scalar.minsi c56_i32_1180 v2306
  let c64_i32_1183 : BitVec 32 := 64#32
  let v2312 : BitVec 32 := Scalar.muli v2307 c64_i32_1183
  v2312
def k0_mult51 : BitVec 32 :=
  let c25_i32 : BitVec 32 := 25#32
  let c64_i32_1231 : BitVec 32 := 64#32
  let v2405 : BitVec 32 := Scalar.muli c25_i32 c64_i32_1231
  v2405
def k0_mult52 : BitVec 32 :=
  let c56_i32_1229 : BitVec 32 := 56#32
  let c0_i32_1228 : BitVec 32 := 0#32
  let c25_i32 : BitVec 32 := 25#32
  let c4_i32_1227 : BitVec 32 := 4#32
  let v2400 : BitVec 32 := Scalar.subi c25_i32 c4_i32_1227
  let v2401 : BitVec 32 := Scalar.maxsi c0_i32_1228 v2400
  let v2402 : BitVec 32 := Scalar.minsi c56_i32_1229 v2401
  let c64_i32_1232 : BitVec 32 := 64#32
  let v2407 : BitVec 32 := Scalar.muli v2402 c64_i32_1232
  v2407
def k0_mult53 : BitVec 32 :=
  let c26_i32 : BitVec 32 := 26#32
  let c64_i32_1280 : BitVec 32 := 64#32
  let v2500 : BitVec 32 := Scalar.muli c26_i32 c64_i32_1280
  v2500
def k0_mult54 : BitVec 32 :=
  let c56_i32_1278 : BitVec 32 := 56#32
  let c0_i32_1277 : BitVec 32 := 0#32
  let c26_i32 : BitVec 32 := 26#32
  let c4_i32_1276 : BitVec 32 := 4#32
  let v2495 : BitVec 32 := Scalar.subi c26_i32 c4_i32_1276
  let v2496 : BitVec 32 := Scalar.maxsi c0_i32_1277 v2495
  let v2497 : BitVec 32 := Scalar.minsi c56_i32_1278 v2496
  let c64_i32_1281 : BitVec 32 := 64#32
  let v2502 : BitVec 32 := Scalar.muli v2497 c64_i32_1281
  v2502
def k0_mult55 : BitVec 32 :=
  let c27_i32 : BitVec 32 := 27#32
  let c64_i32_1329 : BitVec 32 := 64#32
  let v2595 : BitVec 32 := Scalar.muli c27_i32 c64_i32_1329
  v2595
def k0_mult56 : BitVec 32 :=
  let c56_i32_1327 : BitVec 32 := 56#32
  let c0_i32_1326 : BitVec 32 := 0#32
  let c27_i32 : BitVec 32 := 27#32
  let c4_i32_1325 : BitVec 32 := 4#32
  let v2590 : BitVec 32 := Scalar.subi c27_i32 c4_i32_1325
  let v2591 : BitVec 32 := Scalar.maxsi c0_i32_1326 v2590
  let v2592 : BitVec 32 := Scalar.minsi c56_i32_1327 v2591
  let c64_i32_1330 : BitVec 32 := 64#32
  let v2597 : BitVec 32 := Scalar.muli v2592 c64_i32_1330
  v2597
def k0_mult57 : BitVec 32 :=
  let c28_i32 : BitVec 32 := 28#32
  let c64_i32_1378 : BitVec 32 := 64#32
  let v2690 : BitVec 32 := Scalar.muli c28_i32 c64_i32_1378
  v2690
def k0_mult58 : BitVec 32 :=
  let c56_i32_1376 : BitVec 32 := 56#32
  let c0_i32_1375 : BitVec 32 := 0#32
  let c28_i32 : BitVec 32 := 28#32
  let c4_i32_1374 : BitVec 32 := 4#32
  let v2685 : BitVec 32 := Scalar.subi c28_i32 c4_i32_1374
  let v2686 : BitVec 32 := Scalar.maxsi c0_i32_1375 v2685
  let v2687 : BitVec 32 := Scalar.minsi c56_i32_1376 v2686
  let c64_i32_1379 : BitVec 32 := 64#32
  let v2692 : BitVec 32 := Scalar.muli v2687 c64_i32_1379
  v2692
def k0_mult59 : BitVec 32 :=
  let c29_i32 : BitVec 32 := 29#32
  let c64_i32_1427 : BitVec 32 := 64#32
  let v2785 : BitVec 32 := Scalar.muli c29_i32 c64_i32_1427
  v2785
def k0_mult60 : BitVec 32 :=
  let c56_i32_1425 : BitVec 32 := 56#32
  let c0_i32_1424 : BitVec 32 := 0#32
  let c29_i32 : BitVec 32 := 29#32
  let c4_i32_1423 : BitVec 32 := 4#32
  let v2780 : BitVec 32 := Scalar.subi c29_i32 c4_i32_1423
  let v2781 : BitVec 32 := Scalar.maxsi c0_i32_1424 v2780
  let v2782 : BitVec 32 := Scalar.minsi c56_i32_1425 v2781
  let c64_i32_1428 : BitVec 32 := 64#32
  let v2787 : BitVec 32 := Scalar.muli v2782 c64_i32_1428
  v2787
def k0_mult61 : BitVec 32 :=
  let c30_i32 : BitVec 32 := 30#32
  let c64_i32_1476 : BitVec 32 := 64#32
  let v2880 : BitVec 32 := Scalar.muli c30_i32 c64_i32_1476
  v2880
def k0_mult62 : BitVec 32 :=
  let c56_i32_1474 : BitVec 32 := 56#32
  let c0_i32_1473 : BitVec 32 := 0#32
  let c30_i32 : BitVec 32 := 30#32
  let c4_i32_1472 : BitVec 32 := 4#32
  let v2875 : BitVec 32 := Scalar.subi c30_i32 c4_i32_1472
  let v2876 : BitVec 32 := Scalar.maxsi c0_i32_1473 v2875
  let v2877 : BitVec 32 := Scalar.minsi c56_i32_1474 v2876
  let c64_i32_1477 : BitVec 32 := 64#32
  let v2882 : BitVec 32 := Scalar.muli v2877 c64_i32_1477
  v2882
def k0_mult63 : BitVec 32 :=
  let c31_i32 : BitVec 32 := 31#32
  let c64_i32_1525 : BitVec 32 := 64#32
  let v2975 : BitVec 32 := Scalar.muli c31_i32 c64_i32_1525
  v2975
def k0_mult64 : BitVec 32 :=
  let c56_i32_1523 : BitVec 32 := 56#32
  let c0_i32_1522 : BitVec 32 := 0#32
  let c31_i32 : BitVec 32 := 31#32
  let c4_i32_1521 : BitVec 32 := 4#32
  let v2970 : BitVec 32 := Scalar.subi c31_i32 c4_i32_1521
  let v2971 : BitVec 32 := Scalar.maxsi c0_i32_1522 v2970
  let v2972 : BitVec 32 := Scalar.minsi c56_i32_1523 v2971
  let c64_i32_1526 : BitVec 32 := 64#32
  let v2977 : BitVec 32 := Scalar.muli v2972 c64_i32_1526
  v2977
def k0_mult65 : BitVec 32 :=
  let c32_i32_1570 : BitVec 32 := 32#32
  let c64_i32_1575 : BitVec 32 := 64#32
  let v3070 : BitVec 32 := Scalar.muli c32_i32_1570 c64_i32_1575
  v3070
def k0_mult66 : BitVec 32 :=
  let c56_i32_1573 : BitVec 32 := 56#32
  let c0_i32_1572 : BitVec 32 := 0#32
  let c32_i32_1570 : BitVec 32 := 32#32
  let c4_i32_1571 : BitVec 32 := 4#32
  let v3065 : BitVec 32 := Scalar.subi c32_i32_1570 c4_i32_1571
  let v3066 : BitVec 32 := Scalar.maxsi c0_i32_1572 v3065
  let v3067 : BitVec 32 := Scalar.minsi c56_i32_1573 v3066
  let c64_i32_1576 : BitVec 32 := 64#32
  let v3072 : BitVec 32 := Scalar.muli v3067 c64_i32_1576
  v3072
def k0_mult67 : BitVec 32 :=
  let c33_i32 : BitVec 32 := 33#32
  let c64_i32_1624 : BitVec 32 := 64#32
  let v3165 : BitVec 32 := Scalar.muli c33_i32 c64_i32_1624
  v3165
def k0_mult68 : BitVec 32 :=
  let c56_i32_1622 : BitVec 32 := 56#32
  let c0_i32_1621 : BitVec 32 := 0#32
  let c33_i32 : BitVec 32 := 33#32
  let c4_i32_1620 : BitVec 32 := 4#32
  let v3160 : BitVec 32 := Scalar.subi c33_i32 c4_i32_1620
  let v3161 : BitVec 32 := Scalar.maxsi c0_i32_1621 v3160
  let v3162 : BitVec 32 := Scalar.minsi c56_i32_1622 v3161
  let c64_i32_1625 : BitVec 32 := 64#32
  let v3167 : BitVec 32 := Scalar.muli v3162 c64_i32_1625
  v3167
def k0_mult69 : BitVec 32 :=
  let c34_i32 : BitVec 32 := 34#32
  let c64_i32_1673 : BitVec 32 := 64#32
  let v3260 : BitVec 32 := Scalar.muli c34_i32 c64_i32_1673
  v3260
def k0_mult70 : BitVec 32 :=
  let c56_i32_1671 : BitVec 32 := 56#32
  let c0_i32_1670 : BitVec 32 := 0#32
  let c34_i32 : BitVec 32 := 34#32
  let c4_i32_1669 : BitVec 32 := 4#32
  let v3255 : BitVec 32 := Scalar.subi c34_i32 c4_i32_1669
  let v3256 : BitVec 32 := Scalar.maxsi c0_i32_1670 v3255
  let v3257 : BitVec 32 := Scalar.minsi c56_i32_1671 v3256
  let c64_i32_1674 : BitVec 32 := 64#32
  let v3262 : BitVec 32 := Scalar.muli v3257 c64_i32_1674
  v3262
def k0_mult71 : BitVec 32 :=
  let c35_i32 : BitVec 32 := 35#32
  let c64_i32_1722 : BitVec 32 := 64#32
  let v3355 : BitVec 32 := Scalar.muli c35_i32 c64_i32_1722
  v3355
def k0_mult72 : BitVec 32 :=
  let c56_i32_1720 : BitVec 32 := 56#32
  let c0_i32_1719 : BitVec 32 := 0#32
  let c35_i32 : BitVec 32 := 35#32
  let c4_i32_1718 : BitVec 32 := 4#32
  let v3350 : BitVec 32 := Scalar.subi c35_i32 c4_i32_1718
  let v3351 : BitVec 32 := Scalar.maxsi c0_i32_1719 v3350
  let v3352 : BitVec 32 := Scalar.minsi c56_i32_1720 v3351
  let c64_i32_1723 : BitVec 32 := 64#32
  let v3357 : BitVec 32 := Scalar.muli v3352 c64_i32_1723
  v3357
def k0_mult73 : BitVec 32 :=
  let c36_i32 : BitVec 32 := 36#32
  let c64_i32_1771 : BitVec 32 := 64#32
  let v3450 : BitVec 32 := Scalar.muli c36_i32 c64_i32_1771
  v3450
def k0_mult74 : BitVec 32 :=
  let c56_i32_1769 : BitVec 32 := 56#32
  let c0_i32_1768 : BitVec 32 := 0#32
  let c36_i32 : BitVec 32 := 36#32
  let c4_i32_1767 : BitVec 32 := 4#32
  let v3445 : BitVec 32 := Scalar.subi c36_i32 c4_i32_1767
  let v3446 : BitVec 32 := Scalar.maxsi c0_i32_1768 v3445
  let v3447 : BitVec 32 := Scalar.minsi c56_i32_1769 v3446
  let c64_i32_1772 : BitVec 32 := 64#32
  let v3452 : BitVec 32 := Scalar.muli v3447 c64_i32_1772
  v3452
def k0_mult75 : BitVec 32 :=
  let c37_i32 : BitVec 32 := 37#32
  let c64_i32_1820 : BitVec 32 := 64#32
  let v3545 : BitVec 32 := Scalar.muli c37_i32 c64_i32_1820
  v3545
def k0_mult76 : BitVec 32 :=
  let c56_i32_1818 : BitVec 32 := 56#32
  let c0_i32_1817 : BitVec 32 := 0#32
  let c37_i32 : BitVec 32 := 37#32
  let c4_i32_1816 : BitVec 32 := 4#32
  let v3540 : BitVec 32 := Scalar.subi c37_i32 c4_i32_1816
  let v3541 : BitVec 32 := Scalar.maxsi c0_i32_1817 v3540
  let v3542 : BitVec 32 := Scalar.minsi c56_i32_1818 v3541
  let c64_i32_1821 : BitVec 32 := 64#32
  let v3547 : BitVec 32 := Scalar.muli v3542 c64_i32_1821
  v3547
def k0_mult77 : BitVec 32 :=
  let c38_i32 : BitVec 32 := 38#32
  let c64_i32_1869 : BitVec 32 := 64#32
  let v3640 : BitVec 32 := Scalar.muli c38_i32 c64_i32_1869
  v3640
def k0_mult78 : BitVec 32 :=
  let c56_i32_1867 : BitVec 32 := 56#32
  let c0_i32_1866 : BitVec 32 := 0#32
  let c38_i32 : BitVec 32 := 38#32
  let c4_i32_1865 : BitVec 32 := 4#32
  let v3635 : BitVec 32 := Scalar.subi c38_i32 c4_i32_1865
  let v3636 : BitVec 32 := Scalar.maxsi c0_i32_1866 v3635
  let v3637 : BitVec 32 := Scalar.minsi c56_i32_1867 v3636
  let c64_i32_1870 : BitVec 32 := 64#32
  let v3642 : BitVec 32 := Scalar.muli v3637 c64_i32_1870
  v3642
def k0_mult79 : BitVec 32 :=
  let c39_i32 : BitVec 32 := 39#32
  let c64_i32_1918 : BitVec 32 := 64#32
  let v3735 : BitVec 32 := Scalar.muli c39_i32 c64_i32_1918
  v3735
def k0_mult80 : BitVec 32 :=
  let c56_i32_1916 : BitVec 32 := 56#32
  let c0_i32_1915 : BitVec 32 := 0#32
  let c39_i32 : BitVec 32 := 39#32
  let c4_i32_1914 : BitVec 32 := 4#32
  let v3730 : BitVec 32 := Scalar.subi c39_i32 c4_i32_1914
  let v3731 : BitVec 32 := Scalar.maxsi c0_i32_1915 v3730
  let v3732 : BitVec 32 := Scalar.minsi c56_i32_1916 v3731
  let c64_i32_1919 : BitVec 32 := 64#32
  let v3737 : BitVec 32 := Scalar.muli v3732 c64_i32_1919
  v3737
def k0_mult81 : BitVec 32 :=
  let c40_i32 : BitVec 32 := 40#32
  let c64_i32_1967 : BitVec 32 := 64#32
  let v3830 : BitVec 32 := Scalar.muli c40_i32 c64_i32_1967
  v3830
def k0_mult82 : BitVec 32 :=
  let c56_i32_1965 : BitVec 32 := 56#32
  let c0_i32_1964 : BitVec 32 := 0#32
  let c40_i32 : BitVec 32 := 40#32
  let c4_i32_1963 : BitVec 32 := 4#32
  let v3825 : BitVec 32 := Scalar.subi c40_i32 c4_i32_1963
  let v3826 : BitVec 32 := Scalar.maxsi c0_i32_1964 v3825
  let v3827 : BitVec 32 := Scalar.minsi c56_i32_1965 v3826
  let c64_i32_1968 : BitVec 32 := 64#32
  let v3832 : BitVec 32 := Scalar.muli v3827 c64_i32_1968
  v3832
def k0_mult83 : BitVec 32 :=
  let c41_i32 : BitVec 32 := 41#32
  let c64_i32_2016 : BitVec 32 := 64#32
  let v3925 : BitVec 32 := Scalar.muli c41_i32 c64_i32_2016
  v3925
def k0_mult84 : BitVec 32 :=
  let c56_i32_2014 : BitVec 32 := 56#32
  let c0_i32_2013 : BitVec 32 := 0#32
  let c41_i32 : BitVec 32 := 41#32
  let c4_i32_2012 : BitVec 32 := 4#32
  let v3920 : BitVec 32 := Scalar.subi c41_i32 c4_i32_2012
  let v3921 : BitVec 32 := Scalar.maxsi c0_i32_2013 v3920
  let v3922 : BitVec 32 := Scalar.minsi c56_i32_2014 v3921
  let c64_i32_2017 : BitVec 32 := 64#32
  let v3927 : BitVec 32 := Scalar.muli v3922 c64_i32_2017
  v3927
def k0_mult85 : BitVec 32 :=
  let c42_i32 : BitVec 32 := 42#32
  let c64_i32_2065 : BitVec 32 := 64#32
  let v4020 : BitVec 32 := Scalar.muli c42_i32 c64_i32_2065
  v4020
def k0_mult86 : BitVec 32 :=
  let c56_i32_2063 : BitVec 32 := 56#32
  let c0_i32_2062 : BitVec 32 := 0#32
  let c42_i32 : BitVec 32 := 42#32
  let c4_i32_2061 : BitVec 32 := 4#32
  let v4015 : BitVec 32 := Scalar.subi c42_i32 c4_i32_2061
  let v4016 : BitVec 32 := Scalar.maxsi c0_i32_2062 v4015
  let v4017 : BitVec 32 := Scalar.minsi c56_i32_2063 v4016
  let c64_i32_2066 : BitVec 32 := 64#32
  let v4022 : BitVec 32 := Scalar.muli v4017 c64_i32_2066
  v4022
def k0_mult87 : BitVec 32 :=
  let c43_i32 : BitVec 32 := 43#32
  let c64_i32_2114 : BitVec 32 := 64#32
  let v4115 : BitVec 32 := Scalar.muli c43_i32 c64_i32_2114
  v4115
def k0_mult88 : BitVec 32 :=
  let c56_i32_2112 : BitVec 32 := 56#32
  let c0_i32_2111 : BitVec 32 := 0#32
  let c43_i32 : BitVec 32 := 43#32
  let c4_i32_2110 : BitVec 32 := 4#32
  let v4110 : BitVec 32 := Scalar.subi c43_i32 c4_i32_2110
  let v4111 : BitVec 32 := Scalar.maxsi c0_i32_2111 v4110
  let v4112 : BitVec 32 := Scalar.minsi c56_i32_2112 v4111
  let c64_i32_2115 : BitVec 32 := 64#32
  let v4117 : BitVec 32 := Scalar.muli v4112 c64_i32_2115
  v4117
def k0_mult89 : BitVec 32 :=
  let c44_i32 : BitVec 32 := 44#32
  let c64_i32_2163 : BitVec 32 := 64#32
  let v4210 : BitVec 32 := Scalar.muli c44_i32 c64_i32_2163
  v4210
def k0_mult90 : BitVec 32 :=
  let c56_i32_2161 : BitVec 32 := 56#32
  let c0_i32_2160 : BitVec 32 := 0#32
  let c44_i32 : BitVec 32 := 44#32
  let c4_i32_2159 : BitVec 32 := 4#32
  let v4205 : BitVec 32 := Scalar.subi c44_i32 c4_i32_2159
  let v4206 : BitVec 32 := Scalar.maxsi c0_i32_2160 v4205
  let v4207 : BitVec 32 := Scalar.minsi c56_i32_2161 v4206
  let c64_i32_2164 : BitVec 32 := 64#32
  let v4212 : BitVec 32 := Scalar.muli v4207 c64_i32_2164
  v4212
def k0_mult91 : BitVec 32 :=
  let c45_i32 : BitVec 32 := 45#32
  let c64_i32_2212 : BitVec 32 := 64#32
  let v4305 : BitVec 32 := Scalar.muli c45_i32 c64_i32_2212
  v4305
def k0_mult92 : BitVec 32 :=
  let c56_i32_2210 : BitVec 32 := 56#32
  let c0_i32_2209 : BitVec 32 := 0#32
  let c45_i32 : BitVec 32 := 45#32
  let c4_i32_2208 : BitVec 32 := 4#32
  let v4300 : BitVec 32 := Scalar.subi c45_i32 c4_i32_2208
  let v4301 : BitVec 32 := Scalar.maxsi c0_i32_2209 v4300
  let v4302 : BitVec 32 := Scalar.minsi c56_i32_2210 v4301
  let c64_i32_2213 : BitVec 32 := 64#32
  let v4307 : BitVec 32 := Scalar.muli v4302 c64_i32_2213
  v4307
def k0_mult93 : BitVec 32 :=
  let c46_i32 : BitVec 32 := 46#32
  let c64_i32_2261 : BitVec 32 := 64#32
  let v4400 : BitVec 32 := Scalar.muli c46_i32 c64_i32_2261
  v4400
def k0_mult94 : BitVec 32 :=
  let c56_i32_2259 : BitVec 32 := 56#32
  let c0_i32_2258 : BitVec 32 := 0#32
  let c46_i32 : BitVec 32 := 46#32
  let c4_i32_2257 : BitVec 32 := 4#32
  let v4395 : BitVec 32 := Scalar.subi c46_i32 c4_i32_2257
  let v4396 : BitVec 32 := Scalar.maxsi c0_i32_2258 v4395
  let v4397 : BitVec 32 := Scalar.minsi c56_i32_2259 v4396
  let c64_i32_2262 : BitVec 32 := 64#32
  let v4402 : BitVec 32 := Scalar.muli v4397 c64_i32_2262
  v4402
def k0_mult95 : BitVec 32 :=
  let c47_i32 : BitVec 32 := 47#32
  let c64_i32_2310 : BitVec 32 := 64#32
  let v4495 : BitVec 32 := Scalar.muli c47_i32 c64_i32_2310
  v4495
def k0_mult96 : BitVec 32 :=
  let c56_i32_2308 : BitVec 32 := 56#32
  let c0_i32_2307 : BitVec 32 := 0#32
  let c47_i32 : BitVec 32 := 47#32
  let c4_i32_2306 : BitVec 32 := 4#32
  let v4490 : BitVec 32 := Scalar.subi c47_i32 c4_i32_2306
  let v4491 : BitVec 32 := Scalar.maxsi c0_i32_2307 v4490
  let v4492 : BitVec 32 := Scalar.minsi c56_i32_2308 v4491
  let c64_i32_2311 : BitVec 32 := 64#32
  let v4497 : BitVec 32 := Scalar.muli v4492 c64_i32_2311
  v4497
def k0_mult97 : BitVec 32 :=
  let c48_i32 : BitVec 32 := 48#32
  let c64_i32_2359 : BitVec 32 := 64#32
  let v4590 : BitVec 32 := Scalar.muli c48_i32 c64_i32_2359
  v4590
def k0_mult98 : BitVec 32 :=
  let c56_i32_2357 : BitVec 32 := 56#32
  let c0_i32_2356 : BitVec 32 := 0#32
  let c48_i32 : BitVec 32 := 48#32
  let c4_i32_2355 : BitVec 32 := 4#32
  let v4585 : BitVec 32 := Scalar.subi c48_i32 c4_i32_2355
  let v4586 : BitVec 32 := Scalar.maxsi c0_i32_2356 v4585
  let v4587 : BitVec 32 := Scalar.minsi c56_i32_2357 v4586
  let c64_i32_2360 : BitVec 32 := 64#32
  let v4592 : BitVec 32 := Scalar.muli v4587 c64_i32_2360
  v4592
def k0_mult99 : BitVec 32 :=
  let c49_i32 : BitVec 32 := 49#32
  let c64_i32_2408 : BitVec 32 := 64#32
  let v4685 : BitVec 32 := Scalar.muli c49_i32 c64_i32_2408
  v4685
def k0_mult100 : BitVec 32 :=
  let c56_i32_2406 : BitVec 32 := 56#32
  let c0_i32_2405 : BitVec 32 := 0#32
  let c49_i32 : BitVec 32 := 49#32
  let c4_i32_2404 : BitVec 32 := 4#32
  let v4680 : BitVec 32 := Scalar.subi c49_i32 c4_i32_2404
  let v4681 : BitVec 32 := Scalar.maxsi c0_i32_2405 v4680
  let v4682 : BitVec 32 := Scalar.minsi c56_i32_2406 v4681
  let c64_i32_2409 : BitVec 32 := 64#32
  let v4687 : BitVec 32 := Scalar.muli v4682 c64_i32_2409
  v4687
def k0_mult101 : BitVec 32 :=
  let c50_i32 : BitVec 32 := 50#32
  let c64_i32_2457 : BitVec 32 := 64#32
  let v4780 : BitVec 32 := Scalar.muli c50_i32 c64_i32_2457
  v4780
def k0_mult102 : BitVec 32 :=
  let c56_i32_2455 : BitVec 32 := 56#32
  let c0_i32_2454 : BitVec 32 := 0#32
  let c50_i32 : BitVec 32 := 50#32
  let c4_i32_2453 : BitVec 32 := 4#32
  let v4775 : BitVec 32 := Scalar.subi c50_i32 c4_i32_2453
  let v4776 : BitVec 32 := Scalar.maxsi c0_i32_2454 v4775
  let v4777 : BitVec 32 := Scalar.minsi c56_i32_2455 v4776
  let c64_i32_2458 : BitVec 32 := 64#32
  let v4782 : BitVec 32 := Scalar.muli v4777 c64_i32_2458
  v4782
def k0_mult103 : BitVec 32 :=
  let c51_i32 : BitVec 32 := 51#32
  let c64_i32_2506 : BitVec 32 := 64#32
  let v4875 : BitVec 32 := Scalar.muli c51_i32 c64_i32_2506
  v4875
def k0_mult104 : BitVec 32 :=
  let c56_i32_2504 : BitVec 32 := 56#32
  let c0_i32_2503 : BitVec 32 := 0#32
  let c51_i32 : BitVec 32 := 51#32
  let c4_i32_2502 : BitVec 32 := 4#32
  let v4870 : BitVec 32 := Scalar.subi c51_i32 c4_i32_2502
  let v4871 : BitVec 32 := Scalar.maxsi c0_i32_2503 v4870
  let v4872 : BitVec 32 := Scalar.minsi c56_i32_2504 v4871
  let c64_i32_2507 : BitVec 32 := 64#32
  let v4877 : BitVec 32 := Scalar.muli v4872 c64_i32_2507
  v4877
def k0_mult105 : BitVec 32 :=
  let c52_i32 : BitVec 32 := 52#32
  let c64_i32_2555 : BitVec 32 := 64#32
  let v4970 : BitVec 32 := Scalar.muli c52_i32 c64_i32_2555
  v4970
def k0_mult106 : BitVec 32 :=
  let c56_i32_2553 : BitVec 32 := 56#32
  let c0_i32_2552 : BitVec 32 := 0#32
  let c52_i32 : BitVec 32 := 52#32
  let c4_i32_2551 : BitVec 32 := 4#32
  let v4965 : BitVec 32 := Scalar.subi c52_i32 c4_i32_2551
  let v4966 : BitVec 32 := Scalar.maxsi c0_i32_2552 v4965
  let v4967 : BitVec 32 := Scalar.minsi c56_i32_2553 v4966
  let c64_i32_2556 : BitVec 32 := 64#32
  let v4972 : BitVec 32 := Scalar.muli v4967 c64_i32_2556
  v4972
def k0_mult107 : BitVec 32 :=
  let c53_i32 : BitVec 32 := 53#32
  let c64_i32_2604 : BitVec 32 := 64#32
  let v5065 : BitVec 32 := Scalar.muli c53_i32 c64_i32_2604
  v5065
def k0_mult108 : BitVec 32 :=
  let c56_i32_2602 : BitVec 32 := 56#32
  let c0_i32_2601 : BitVec 32 := 0#32
  let c53_i32 : BitVec 32 := 53#32
  let c4_i32_2600 : BitVec 32 := 4#32
  let v5060 : BitVec 32 := Scalar.subi c53_i32 c4_i32_2600
  let v5061 : BitVec 32 := Scalar.maxsi c0_i32_2601 v5060
  let v5062 : BitVec 32 := Scalar.minsi c56_i32_2602 v5061
  let c64_i32_2605 : BitVec 32 := 64#32
  let v5067 : BitVec 32 := Scalar.muli v5062 c64_i32_2605
  v5067
def k0_mult109 : BitVec 32 :=
  let c54_i32 : BitVec 32 := 54#32
  let c64_i32_2653 : BitVec 32 := 64#32
  let v5160 : BitVec 32 := Scalar.muli c54_i32 c64_i32_2653
  v5160
def k0_mult110 : BitVec 32 :=
  let c56_i32_2651 : BitVec 32 := 56#32
  let c0_i32_2650 : BitVec 32 := 0#32
  let c54_i32 : BitVec 32 := 54#32
  let c4_i32_2649 : BitVec 32 := 4#32
  let v5155 : BitVec 32 := Scalar.subi c54_i32 c4_i32_2649
  let v5156 : BitVec 32 := Scalar.maxsi c0_i32_2650 v5155
  let v5157 : BitVec 32 := Scalar.minsi c56_i32_2651 v5156
  let c64_i32_2654 : BitVec 32 := 64#32
  let v5162 : BitVec 32 := Scalar.muli v5157 c64_i32_2654
  v5162
def k0_mult111 : BitVec 32 :=
  let c55_i32 : BitVec 32 := 55#32
  let c64_i32_2702 : BitVec 32 := 64#32
  let v5255 : BitVec 32 := Scalar.muli c55_i32 c64_i32_2702
  v5255
def k0_mult112 : BitVec 32 :=
  let c56_i32_2700 : BitVec 32 := 56#32
  let c0_i32_2699 : BitVec 32 := 0#32
  let c55_i32 : BitVec 32 := 55#32
  let c4_i32_2698 : BitVec 32 := 4#32
  let v5250 : BitVec 32 := Scalar.subi c55_i32 c4_i32_2698
  let v5251 : BitVec 32 := Scalar.maxsi c0_i32_2699 v5250
  let v5252 : BitVec 32 := Scalar.minsi c56_i32_2700 v5251
  let c64_i32_2703 : BitVec 32 := 64#32
  let v5257 : BitVec 32 := Scalar.muli v5252 c64_i32_2703
  v5257
def k0_mult113 : BitVec 32 :=
  let c56_i32_2747 : BitVec 32 := 56#32
  let c64_i32_2752 : BitVec 32 := 64#32
  let v5350 : BitVec 32 := Scalar.muli c56_i32_2747 c64_i32_2752
  v5350
def k0_mult114 : BitVec 32 :=
  let c56_i32_2750 : BitVec 32 := 56#32
  let c0_i32_2749 : BitVec 32 := 0#32
  let c56_i32_2747 : BitVec 32 := 56#32
  let c4_i32_2748 : BitVec 32 := 4#32
  let v5345 : BitVec 32 := Scalar.subi c56_i32_2747 c4_i32_2748
  let v5346 : BitVec 32 := Scalar.maxsi c0_i32_2749 v5345
  let v5347 : BitVec 32 := Scalar.minsi c56_i32_2750 v5346
  let c64_i32_2753 : BitVec 32 := 64#32
  let v5352 : BitVec 32 := Scalar.muli v5347 c64_i32_2753
  v5352
def k0_mult115 : BitVec 32 :=
  let c57_i32 : BitVec 32 := 57#32
  let c64_i32_2801 : BitVec 32 := 64#32
  let v5445 : BitVec 32 := Scalar.muli c57_i32 c64_i32_2801
  v5445
def k0_mult116 : BitVec 32 :=
  let c56_i32_2799 : BitVec 32 := 56#32
  let c0_i32_2798 : BitVec 32 := 0#32
  let c57_i32 : BitVec 32 := 57#32
  let c4_i32_2797 : BitVec 32 := 4#32
  let v5440 : BitVec 32 := Scalar.subi c57_i32 c4_i32_2797
  let v5441 : BitVec 32 := Scalar.maxsi c0_i32_2798 v5440
  let v5442 : BitVec 32 := Scalar.minsi c56_i32_2799 v5441
  let c64_i32_2802 : BitVec 32 := 64#32
  let v5447 : BitVec 32 := Scalar.muli v5442 c64_i32_2802
  v5447
def k0_mult117 : BitVec 32 :=
  let c58_i32 : BitVec 32 := 58#32
  let c64_i32_2850 : BitVec 32 := 64#32
  let v5540 : BitVec 32 := Scalar.muli c58_i32 c64_i32_2850
  v5540
def k0_mult118 : BitVec 32 :=
  let c56_i32_2848 : BitVec 32 := 56#32
  let c0_i32_2847 : BitVec 32 := 0#32
  let c58_i32 : BitVec 32 := 58#32
  let c4_i32_2846 : BitVec 32 := 4#32
  let v5535 : BitVec 32 := Scalar.subi c58_i32 c4_i32_2846
  let v5536 : BitVec 32 := Scalar.maxsi c0_i32_2847 v5535
  let v5537 : BitVec 32 := Scalar.minsi c56_i32_2848 v5536
  let c64_i32_2851 : BitVec 32 := 64#32
  let v5542 : BitVec 32 := Scalar.muli v5537 c64_i32_2851
  v5542
def k0_mult119 : BitVec 32 :=
  let c59_i32 : BitVec 32 := 59#32
  let c64_i32_2899 : BitVec 32 := 64#32
  let v5635 : BitVec 32 := Scalar.muli c59_i32 c64_i32_2899
  v5635
def k0_mult120 : BitVec 32 :=
  let c56_i32_2897 : BitVec 32 := 56#32
  let c0_i32_2896 : BitVec 32 := 0#32
  let c59_i32 : BitVec 32 := 59#32
  let c4_i32_2895 : BitVec 32 := 4#32
  let v5630 : BitVec 32 := Scalar.subi c59_i32 c4_i32_2895
  let v5631 : BitVec 32 := Scalar.maxsi c0_i32_2896 v5630
  let v5632 : BitVec 32 := Scalar.minsi c56_i32_2897 v5631
  let c64_i32_2900 : BitVec 32 := 64#32
  let v5637 : BitVec 32 := Scalar.muli v5632 c64_i32_2900
  v5637
def k0_mult121 : BitVec 32 :=
  let c60_i32 : BitVec 32 := 60#32
  let c64_i32_2948 : BitVec 32 := 64#32
  let v5730 : BitVec 32 := Scalar.muli c60_i32 c64_i32_2948
  v5730
def k0_mult122 : BitVec 32 :=
  let c56_i32_2946 : BitVec 32 := 56#32
  let c0_i32_2945 : BitVec 32 := 0#32
  let c60_i32 : BitVec 32 := 60#32
  let c4_i32_2944 : BitVec 32 := 4#32
  let v5725 : BitVec 32 := Scalar.subi c60_i32 c4_i32_2944
  let v5726 : BitVec 32 := Scalar.maxsi c0_i32_2945 v5725
  let v5727 : BitVec 32 := Scalar.minsi c56_i32_2946 v5726
  let c64_i32_2949 : BitVec 32 := 64#32
  let v5732 : BitVec 32 := Scalar.muli v5727 c64_i32_2949
  v5732
def k0_mult123 : BitVec 32 :=
  let c61_i32 : BitVec 32 := 61#32
  let c64_i32_2997 : BitVec 32 := 64#32
  let v5825 : BitVec 32 := Scalar.muli c61_i32 c64_i32_2997
  v5825
def k0_mult124 : BitVec 32 :=
  let c56_i32_2995 : BitVec 32 := 56#32
  let c0_i32_2994 : BitVec 32 := 0#32
  let c61_i32 : BitVec 32 := 61#32
  let c4_i32_2993 : BitVec 32 := 4#32
  let v5820 : BitVec 32 := Scalar.subi c61_i32 c4_i32_2993
  let v5821 : BitVec 32 := Scalar.maxsi c0_i32_2994 v5820
  let v5822 : BitVec 32 := Scalar.minsi c56_i32_2995 v5821
  let c64_i32_2998 : BitVec 32 := 64#32
  let v5827 : BitVec 32 := Scalar.muli v5822 c64_i32_2998
  v5827
def k0_mult125 : BitVec 32 :=
  let c62_i32 : BitVec 32 := 62#32
  let c64_i32_3046 : BitVec 32 := 64#32
  let v5920 : BitVec 32 := Scalar.muli c62_i32 c64_i32_3046
  v5920
def k0_mult126 : BitVec 32 :=
  let c56_i32_3044 : BitVec 32 := 56#32
  let c0_i32_3043 : BitVec 32 := 0#32
  let c62_i32 : BitVec 32 := 62#32
  let c4_i32_3042 : BitVec 32 := 4#32
  let v5915 : BitVec 32 := Scalar.subi c62_i32 c4_i32_3042
  let v5916 : BitVec 32 := Scalar.maxsi c0_i32_3043 v5915
  let v5917 : BitVec 32 := Scalar.minsi c56_i32_3044 v5916
  let c64_i32_3047 : BitVec 32 := 64#32
  let v5922 : BitVec 32 := Scalar.muli v5917 c64_i32_3047
  v5922
def k0_mult127 : BitVec 32 :=
  let c63_i32 : BitVec 32 := 63#32
  let c64_i32_3095 : BitVec 32 := 64#32
  let v6015 : BitVec 32 := Scalar.muli c63_i32 c64_i32_3095
  v6015
def k0_mult128 : BitVec 32 :=
  let c56_i32_3093 : BitVec 32 := 56#32
  let c0_i32_3092 : BitVec 32 := 0#32
  let c63_i32 : BitVec 32 := 63#32
  let c4_i32_3091 : BitVec 32 := 4#32
  let v6010 : BitVec 32 := Scalar.subi c63_i32 c4_i32_3091
  let v6011 : BitVec 32 := Scalar.maxsi c0_i32_3092 v6010
  let v6012 : BitVec 32 := Scalar.minsi c56_i32_3093 v6011
  let c64_i32_3096 : BitVec 32 := 64#32
  let v6017 : BitVec 32 := Scalar.muli v6012 c64_i32_3096
  v6017
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x14x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4x4096x512 : Shape := ⟨3, ![4, 4096, 512]⟩
abbrev S4x4096x16x32 : Shape := ⟨4, ![4, 4096, 16, 32]⟩
abbrev S1x16x15x31 : Shape := ⟨4, ![1, 16, 15, 31]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S1x64 : Shape := ⟨2, ![1, 64]⟩
abbrev S64x64 : Shape := ⟨2, ![64, 64]⟩
abbrev S16x15x31 : Shape := ⟨3, ![16, 15, 31]⟩
abbrev S64x64x1 : Shape := ⟨3, ![64, 64, 1]⟩
abbrev S16x15x64x64 : Shape := ⟨4, ![16, 15, 64, 64]⟩
abbrev S64x8x1 : Shape := ⟨3, ![64, 8, 1]⟩
abbrev S16x64x8x64x64 : Shape := ⟨5, ![16, 64, 8, 64, 64]⟩
abbrev S16x64x64x8x64 : Shape := ⟨5, ![16, 64, 64, 8, 64]⟩
abbrev S16x64x64x512 : Shape := ⟨4, ![16, 64, 64, 512]⟩
abbrev S4x64x64x16x32 : Shape := ⟨5, ![4, 64, 64, 16, 32]⟩
abbrev S4x64x8x64x16x32 : Shape := ⟨6, ![4, 64, 8, 64, 16, 32]⟩
abbrev S4x64x512x16x32 : Shape := ⟨5, ![4, 64, 512, 16, 32]⟩
abbrev S4x16x64x64x512 : Shape := ⟨5, ![4, 16, 64, 64, 512]⟩
abbrev S1x16x64x64x512 : Shape := ⟨5, ![1, 16, 64, 64, 512]⟩
abbrev S4x16x64x64 : Shape := ⟨4, ![4, 16, 64, 64]⟩
abbrev S4x16x64x64x1 : Shape := ⟨5, ![4, 16, 64, 64, 1]⟩
abbrev S4x64x16x32x64 : Shape := ⟨5, ![4, 64, 16, 32, 64]⟩

abbrev nBuf : Space → Nat
  | .hbm => 145
  | .vmem => 0
  | .smem => 0
  | _ => 0

abbrev hbmTy0_0 (i : Nat) : BufTy := match i % 128 with
  | 0 => ⟨S4x4096x512, .f32⟩
  | 1 => ⟨S4x4096x16x32, .f32⟩
  | 2 => ⟨S4x4096x16x32, .f32⟩
  | 3 => ⟨S4x4096x16x32, .f32⟩
  | 4 => ⟨S1x16x15x31, .f32⟩
  | 5 => ⟨S64, .i32⟩
  | 6 => ⟨S_, .i32⟩
  | 7 => ⟨S64, .i32⟩
  | 8 => ⟨S64, .i32⟩
  | 9 => ⟨S_, .i32⟩
  | 10 => ⟨S_, .i32⟩
  | 11 => ⟨S_, .i32⟩
  | 12 => ⟨S64, .i32⟩
  | 13 => ⟨S64, .i32⟩
  | 14 => ⟨S_, .i32⟩
  | 15 => ⟨S64, .i32⟩
  | 16 => ⟨S64, .i32⟩
  | 17 => ⟨S64x1, .i32⟩
  | 18 => ⟨S8, .i32⟩
  | 19 => ⟨S1x8, .i32⟩
  | 20 => ⟨S64x8, .i32⟩
  | 21 => ⟨S64x8, .i32⟩
  | 22 => ⟨S64x8, .i32⟩
  | 23 => ⟨S64x1, .i32⟩
  | 24 => ⟨S64x8, .i32⟩
  | 25 => ⟨S64x8, .i32⟩
  | 26 => ⟨S_, .i32⟩
  | 27 => ⟨S64x8, .i32⟩
  | 28 => ⟨S64x8, .i32⟩
  | 29 => ⟨S64, .i32⟩
  | 30 => ⟨S_, .i32⟩
  | 31 => ⟨S64, .i32⟩
  | 32 => ⟨S64, .i32⟩
  | 33 => ⟨S_, .i32⟩
  | 34 => ⟨S_, .i32⟩
  | 35 => ⟨S_, .i32⟩
  | 36 => ⟨S64, .i32⟩
  | 37 => ⟨S64, .i32⟩
  | 38 => ⟨S_, .i32⟩
  | 39 => ⟨S64, .i32⟩
  | 40 => ⟨S64, .i32⟩
  | 41 => ⟨S1x64, .i32⟩
  | 42 => ⟨S64x1, .i32⟩
  | 43 => ⟨S64x64, .i32⟩
  | 44 => ⟨S64x64, .i32⟩
  | 45 => ⟨S64x64, .i1⟩
  | 46 => ⟨S1x64, .i32⟩
  | 47 => ⟨S64x1, .i32⟩
  | 48 => ⟨S_, .i32⟩
  | 49 => ⟨S64x1, .i32⟩
  | 50 => ⟨S64x1, .i32⟩
  | 51 => ⟨S64x64, .i32⟩
  | 52 => ⟨S64x64, .i32⟩
  | 53 => ⟨S64x64, .i1⟩
  | 54 => ⟨S64x64, .i1⟩
  | 55 => ⟨S1x64, .i32⟩
  | 56 => ⟨S64x1, .i32⟩
  | 57 => ⟨S64x64, .i32⟩
  | 58 => ⟨S64x64, .i32⟩
  | 59 => ⟨S64x64, .i32⟩
  | 60 => ⟨S_, .i32⟩
  | 61 => ⟨S64x64, .i32⟩
  | 62 => ⟨S64x64, .i32⟩
  | 63 => ⟨S_, .i32⟩
  | 64 => ⟨S_, .i32⟩
  | 65 => ⟨S_, .i32⟩
  | 66 => ⟨S64x64, .i32⟩
  | 67 => ⟨S64x64, .i32⟩
  | 68 => ⟨S_, .i32⟩
  | 69 => ⟨S64x64, .i32⟩
  | 70 => ⟨S64x64, .i32⟩
  | 71 => ⟨S16x15x31, .f32⟩
  | 72 => ⟨S_, .i32⟩
  | 73 => ⟨S64x64, .i32⟩
  | 74 => ⟨S64x64, .i1⟩
  | 75 => ⟨S_, .i32⟩
  | 76 => ⟨S64x64, .i32⟩
  | 77 => ⟨S64x64, .i32⟩
  | 78 => ⟨S64x64, .i32⟩
  | 79 => ⟨S64x64x1, .i32⟩
  | 80 => ⟨S16x15x64x64, .f32⟩
  | 81 => ⟨S_, .f32⟩
  | 82 => ⟨S_, .f32⟩
  | 83 => ⟨S16x15x64x64, .i1⟩
  | 84 => ⟨S16x15x64x64, .f32⟩
  | 85 => ⟨S16x15x64x64, .f32⟩
  | 86 => ⟨S_, .i32⟩
  | 87 => ⟨S64x8, .i32⟩
  | 88 => ⟨S64x8, .i1⟩
  | 89 => ⟨S_, .i32⟩
  | 90 => ⟨S64x8, .i32⟩
  | 91 => ⟨S64x8, .i32⟩
  | 92 => ⟨S64x8, .i32⟩
  | 93 => ⟨S64x8x1, .i32⟩
  | 94 => ⟨S16x64x8x64x64, .f32⟩
  | 95 => ⟨S16x64x64x8x64, .f32⟩
  | 96 => ⟨S16x64x64x512, .f32⟩
  | 97 => ⟨S4x64x64x16x32, .f32⟩
  | 98 => ⟨S4x64x64x16x32, .f32⟩
  | 99 => ⟨S_, .i32⟩
  | 100 => ⟨S64x8, .i32⟩
  | 101 => ⟨S64x8, .i1⟩
  | 102 => ⟨S_, .i32⟩
  | 103 => ⟨S64x8, .i32⟩
  | 104 => ⟨S64x8, .i32⟩
  | 105 => ⟨S64x8, .i32⟩
  | 106 => ⟨S64x8x1, .i32⟩
  | 107 => ⟨S4x64x8x64x16x32, .f32⟩
  | 108 => ⟨S4x64x512x16x32, .f32⟩
  | 109 => ⟨S4x64x64x16x32, .f32⟩
  | 110 => ⟨S_, .i32⟩
  | 111 => ⟨S64x8, .i32⟩
  | 112 => ⟨S64x8, .i1⟩
  | 113 => ⟨S_, .i32⟩
  | 114 => ⟨S64x8, .i32⟩
  | 115 => ⟨S64x8, .i32⟩
  | 116 => ⟨S64x8, .i32⟩
  | 117 => ⟨S64x8x1, .i32⟩
  | 118 => ⟨S4x64x8x64x16x32, .f32⟩
  | 119 => ⟨S4x64x512x16x32, .f32⟩
  | 120 => ⟨S4x16x64x64x512, .f32⟩
  | 121 => ⟨S_, .f32⟩
  | 122 => ⟨S4x16x64x64x512, .f32⟩
  | 123 => ⟨S4x16x64x64x512, .f32⟩
  | 124 => ⟨S1x16x64x64x512, .f32⟩
  | 125 => ⟨S4x16x64x64x512, .f32⟩
  | 126 => ⟨S4x16x64x64x512, .f32⟩
  | 127 => ⟨S_, .f32⟩
  | _ => ⟨S4x4096x512, .f32⟩

abbrev hbmTy0_1 (i : Nat) : BufTy := match i % 128 with
  | 0 => ⟨S4x16x64x64, .f32⟩
  | 1 => ⟨S_, .f32⟩
  | 2 => ⟨S4x16x64x64, .f32⟩
  | 3 => ⟨S4x16x64x64, .f32⟩
  | 4 => ⟨S4x16x64x64x1, .f32⟩
  | 5 => ⟨S4x16x64x64x512, .f32⟩
  | 6 => ⟨S4x16x64x64x512, .f32⟩
  | 7 => ⟨S4x16x64x64x512, .f32⟩
  | 8 => ⟨S_, .f32⟩
  | 9 => ⟨S4x16x64x64, .f32⟩
  | 10 => ⟨S4x16x64x64x1, .f32⟩
  | 11 => ⟨S4x16x64x64x512, .f32⟩
  | 12 => ⟨S4x16x64x64x512, .f32⟩
  | 13 => ⟨S4x64x16x32x64, .f32⟩
  | 14 => ⟨S4x64x64x16x32, .f32⟩
  | 15 => ⟨S4x4096x512, .f32⟩
  | 16 => ⟨S4x4096x512, .bf16⟩
  | _ => ⟨S4x4096x512, .f32⟩

abbrev hbmTy (i : Nat) : BufTy := match i / 128 with
  | 0 => hbmTy0_0 i
  | 1 => hbmTy0_1 i
  | _ => ⟨S4x4096x512, .f32⟩

abbrev bufTy : (tb : Table) → Fin (tcTables nBuf tb) → BufTy
  | .hbm, ⟨i, _⟩ => hbmTy i
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_c_5 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_c_9 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v39 : Ref sig .tc := ⟨.hbm, 70, rfl⟩
abbrev main_v40 : Ref sig .tc := ⟨.hbm, 71, rfl⟩
abbrev main_c_10 : Ref sig .tc := ⟨.hbm, 72, rfl⟩
abbrev main_v41 : Ref sig .tc := ⟨.hbm, 73, rfl⟩
abbrev main_v42 : Ref sig .tc := ⟨.hbm, 74, rfl⟩
abbrev main_c_11 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v48 : Ref sig .tc := ⟨.hbm, 85, rfl⟩
abbrev main_c_12 : Ref sig .tc := ⟨.hbm, 86, rfl⟩
abbrev main_v49 : Ref sig .tc := ⟨.hbm, 87, rfl⟩
abbrev main_v50 : Ref sig .tc := ⟨.hbm, 88, rfl⟩
abbrev main_c_13 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_c_14 : Ref sig .tc := ⟨.hbm, 99, rfl⟩
abbrev main_v60 : Ref sig .tc := ⟨.hbm, 100, rfl⟩
abbrev main_v61 : Ref sig .tc := ⟨.hbm, 101, rfl⟩
abbrev main_c_15 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_c_16 : Ref sig .tc := ⟨.hbm, 110, rfl⟩
abbrev main_v69 : Ref sig .tc := ⟨.hbm, 111, rfl⟩
abbrev main_v70 : Ref sig .tc := ⟨.hbm, 112, rfl⟩
abbrev main_c_17 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_18 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_19 : Ref sig .tc := ⟨.hbm, 127, rfl⟩
abbrev main_v83 : Ref sig .tc := ⟨.hbm, 128, rfl⟩
abbrev main_cst_20 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_21 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩

abbrev nD : Nat := 1
abbrev τ : Topo := Topo.v7x

variable {F : FTy → Type} [FloatOps F]
-- ==== Proof.Blocks.lean ====
module

public import proofs.«01_k».proof.Proof.Gen.KernelIdeal.Loops
public import Idealize.ShloMosaic.Lib.Pipeline.ReadBack

@[expose] public section

set_option maxRecDepth 16384

noncomputable section

/-! The arithmetic of one block of 128 queries, as functions of the vectors it reads: the scores of a chunk of 512
keys, the running maximum, the running sums, and the normalised difference of the two attentions. -/

namespace Cert.KernelIdeal.Att

open Idealize.ShloMosaic Idealize.ShloMosaic.TcCoe
open Cert.KernelIdeal Cert.KernelIdeal.Gen

variable {F : FTy → Type} [FloatOps F] [Named F]

/-- The scores of 512 keys against the 128 queries, once per component (128 columns each). -/
def score (v19 : IVec S128x128 32) (q : Vec F S1x128x128 .bf16) (kc : Vec F S1x512x128 .bf16) : FVec F S512x256 .f32 :=
  k0_pay6 v19 q kc

/-- The greatest score of each column of a chunk. -/
def colMax (s : FVec F S512x256 .f32) : FVec F S1x256 .f32 :=
  shapeCast S1x256 (multiReduction .maximumf [0] S256 s 0xFF800000#32 reduces_S512x256_S256 (.inl rfl) rfl) shapeCasts_S256_S1x256

/-- The greatest score of each column over the eight chunks. -/
def maxAll (v19 : IVec S128x128 32) (q : Vec F S1x128x128 .bf16) (kk : Fin 8 → Vec F S1x512x128 .bf16) : FVec F S1x256 .f32 :=
  maximumf (maximumf (maximumf (maximumf (maximumf (maximumf (maximumf (colMax (score v19 q (kk 0)))
    (colMax (score v19 q (kk 1)))) (colMax (score v19 q (kk 2)))) (colMax (score v19 q (kk 3))))
    (colMax (score v19 q (kk 4)))) (colMax (score v19 q (kk 5)))) (colMax (score v19 q (kk 6)))) (colMax (score v19 q (kk 7)))

/-- Two to the power of the scores less the column's greatest. -/
def ex (m : FVec F S1x256 .f32) (s : FVec F S512x256 .f32) : FVec F S512x256 .f32 :=
  exp2 (subf s (broadcastTo S512x256 m broadcasts_S1x256_S512x256))

/-- One chunk added to the sum of the weights. -/
def lStep (m l : FVec F S1x256 .f32) (s : FVec F S512x256 .f32) : FVec F S1x256 .f32 :=
  addf l (shapeCast S1x256 (multiReduction .add [0] S256 (ex m s) 0x00000000#32 reduces_S512x256_S256 (.inl rfl) rfl) shapeCasts_S256_S1x256)

/-- One chunk added to the weighted sum of the values. -/
def aStep (m : FVec F S1x256 .f32) (a : FVec F S128x256 .f32) (s : FVec F S512x256 .f32) (v : Vec F S1x128x512 .bf16) : FVec F S128x256 .f32 :=
  addf a (matmul dot_S128x512_S512x256_S128x256_1_0_0_1_n_n none (shapeCast S128x512 v shapeCasts_S1x128x512_S128x512)
    (truncf .bf16 (ex m s) bitsLt_bf16_f32) (constant S128x256 .f32 0x00000000#32))

/-- The sum of the weights over the eight chunks. -/
def lAll (m : FVec F S1x256 .f32) (s : Fin 8 → FVec F S512x256 .f32) : FVec F S1x256 .f32 :=
  lStep m (lStep m (lStep m (lStep m (lStep m (lStep m (lStep m (lStep m
    (broadcast S1x256 (FloatOps.ofBits .f32 0x00000000#32)) (s 0)) (s 1)) (s 2)) (s 3)) (s 4)) (s 5)) (s 6)) (s 7)

/-- The weighted sum of the values over the eight chunks. -/
def aAll (m : FVec F S1x256 .f32) (s : Fin 8 → FVec F S512x256 .f32) (v : Fin 8 → Vec F S1x128x512 .bf16) : FVec F S128x256 .f32 :=
  aStep m (aStep m (aStep m (aStep m (aStep m (aStep m (aStep m (aStep m
    (broadcast S128x256 (FloatOps.ofBits .f32 0x00000000#32)) (s 0) (v 0)) (s 1) (v 1)) (s 2) (v 2)) (s 3) (v 3)) (s 4) (v 4))
    (s 5) (v 5)) (s 6) (v 6)) (s 7) (v 7)

/-- The difference of the two attentions, features by queries. -/
def diff (lam : FVec F S1x1 .f32) (l : FVec F S1x256 .f32) (a : FVec F S128x256 .f32) : FVec F S128x128 .f32 :=
  have o : FVec F S128x256 .f32 := mulf a (broadcastTo S128x256 (divf (broadcast S1x256 (FloatOps.ofBits .f32 0x3F800000#32)) l) broadcasts_S1x256_S128x256)
  subf (extractStridedSlice S128x128 ![0, 0] o slices_S128x256_o0_0_S128x128)
    (mulf (broadcastTo S128x128 lam broadcasts_S1x1_S128x128) (extractStridedSlice S128x128 ![0, 128] o slices_S128x256_o0_128_S128x128))

/-- The block of the result: the difference divided by its root mean square over the features and scaled. -/
def normed (d : FVec F S128x128 .f32) (g : Vec F S1x128 .f32) : FVec F S1x128x128 .bf16 :=
  have ms : FVec F S1x128 .f32 := divf (shapeCast S1x128 (multiReduction .add [0] S128 (mulf d d) 0x00000000#32 reduces_S128x128_S128 (.inl rfl) rfl) shapeCasts_S128_S1x128)
    (broadcast S1x128 (FloatOps.ofBits .f32 1124073472#32))
  have r : FVec F S1x128 .f32 := rsqrt (addf ms (broadcast S1x128 (FloatOps.ofBits .f32 897988541#32)))
  have y : FVec F S128x128 .f32 := mulf (mulf d (broadcastTo S128x128 r broadcasts_S1x128_S128x128)) (broadcast S128x128 (FloatOps.ofBits .f32 1061997773#32))
  shapeCast S1x128x128 (truncf .bf16 (mulf (transpose S128x128 [1, 0] y transposes_S128x128_p1_0_S128x128)
    (broadcastTo S128x128 (shapeCast S1x128 g shapeCasts_S1x128_S1x128) broadcasts_S1x128_S128x128)) bitsLt_bf16_f32) shapeCasts_S128x128_S1x128x128

/-- The block of the result from the column maxima and the scores of the eight chunks. -/
def finish (lam : FVec F S1x1 .f32) (m : FVec F S1x256 .f32) (s : Fin 8 → FVec F S512x256 .f32) (v : Fin 8 → Vec F S1x128x512 .bf16)
    (g : Vec F S1x128 .f32) : FVec F S1x128x128 .bf16 :=
  normed (diff lam (lAll m s) (aAll m s v)) g

/-- A chunk of scores as it is stored. -/
def kept (v19 : IVec S128x128 32) (q : Vec F S1x128x128 .bf16) (kc : Vec F S1x512x128 .bf16) : FVec F S512x256 .f32 :=
  shapeCast S512x256 (score v19 q kc) shapeCasts_S512x256_S512x256

/-- The block of the result from what it reads. -/
def block (lam : FVec F S1x1 .f32) (v19 : IVec S128x128 32) (q : Vec F S1x128x128 .bf16) (kk : Fin 8 → Vec F S1x512x128 .bf16)
    (v : Fin 8 → Vec F S1x128x512 .bf16) (g : Vec F S1x128 .f32) : FVec F S1x128x128 .bf16 :=
  finish lam (maxAll v19 q kk) (fun j => kept v19 q (kk j)) v g

end Cert.KernelIdeal.Att

end
-- ==== Proof.Trip.lean ====
module

public import proofs.«01_k».proof.Proof.Blocks

@[expose] public section

set_option maxRecDepth 16384

noncomputable section

/-! What one trip of the loop over the query blocks stores and yields, as the arithmetic of Blocks.lean. -/

namespace Cert.KernelIdeal.Att

open Idealize.ShloMosaic Idealize.ShloMosaic.TcCoe Idealize.ShloMosaic.Tactic
open Cert.KernelIdeal Cert.KernelIdeal.Gen

variable {F : FTy → Type} [FloatOps F] [Named F]

theorem inb_q (n : Fin 32) : ∀ a, (![0, 0, 128 * n.val] : Fin 3 → ℕ) a + S1x128x128.size a ≤ S1x128x4096.size a := by
  revert n; decide
theorem inb_k (j : Fin 8) : ∀ a, (![0, 512 * j.val, 0] : Fin 3 → ℕ) a + S1x512x128.size a ≤ S1x4096x128.size a := by
  revert j; decide
theorem inb_v (j : Fin 8) : ∀ a, (![0, 0, 512 * j.val] : Fin 3 → ℕ) a + S1x128x512.size a ≤ S1x128x4096.size a := by
  revert j; decide
theorem inb_s (j : Fin 8) : ∀ a, (![512 * j.val, 0] : Fin 2 → ℕ) a + S512x256.size a ≤ S4096x256.size a := by
  revert j; decide

/-- The queries of block `n`, features by queries. -/
def qblk (arg4 : Memref sig .tc .vmem S1x128x4096 .bf16) (f : BufTy.Contents (Elt F) arg4.view.ty) (n : Fin 32) : Vec F S1x128x128 .bf16 :=
  View.readAt (Elt F) arg4.view (Rect.unit (s := S1x128x4096) ![0, 0, 128 * n.val] S1x128x128.size (inb_q n)).toLoadRect f
/-- The keys of chunk `j`. -/
def kchunk (arg5 : Memref sig .tc .vmem S1x4096x128 .bf16) (f : BufTy.Contents (Elt F) arg5.view.ty) (j : Fin 8) : Vec F S1x512x128 .bf16 :=
  View.readAt (Elt F) arg5.view (Rect.unit (s := S1x4096x128) ![0, 512 * j.val, 0] S1x512x128.size (inb_k j)).toLoadRect f
/-- The values of chunk `j`, features by keys. -/
def vchunk (arg6 : Memref sig .tc .vmem S1x128x4096 .bf16) (f : BufTy.Contents (Elt F) arg6.view.ty) (j : Fin 8) : Vec F S1x128x512 .bf16 :=
  View.readAt (Elt F) arg6.view (Rect.unit (s := S1x128x4096) ![0, 0, 512 * j.val] S1x128x512.size (inb_v j)).toLoadRect f
/-- The scores kept of chunk `j`. -/
def schunk (arg8 : Memref sig .tc .vmem S4096x256 .f32) (f : BufTy.Contents (Elt F) arg8.view.ty) (j : Fin 8) : Vec F S512x256 .f32 :=
  View.readAt (Elt F) arg8.view (Rect.unit (s := S4096x256) ![512 * j.val, 0] S512x256.size (inb_s j)).toLoadRect f
/-- The gains. -/
def gload (arg3 : Memref sig .tc .vmem S1x128 .f32) (f : BufTy.Contents (Elt F) arg3.view.ty) : Vec F S1x128 .f32 :=
  View.readAt (Elt F) arg3.view (Rect.unit (s := S1x128) ![0, 0] S1x128.size inb_S1x128_S1x128_0_0).toLoadRect f

/-- The store of chunk `j`'s scores. -/
def spiece (s : Fin 8 → Vec F S512x256 .f32) (j : Fin 8) : View.Piece (Elt F) S4096x256 .f32 :=
  ⟨Rect.unit (s := S4096x256) ![512 * j.val, 0] S512x256.size (inb_s j), s j⟩

/-- The eight stores of a block's scores, last first. -/
def spieces (s : Fin 8 → Vec F S512x256 .f32) : List (View.Piece (Elt F) S4096x256 .f32) :=
  [spiece s 7, spiece s 6, spiece s 5, spiece s 4, spiece s 3, spiece s 2, spiece s 1, spiece s 0]

/-- A box read at equal offsets. -/
theorem readAt_off {s : Shape} {e : EltTy} (v : View sig .tc .vmem s e) (f : v.ty.Contents (Elt F)) {off off' size : Fin s.rank → ℕ}
    (inb : ∀ a, off a + size a ≤ s.size a) (inb' : ∀ a, off' a + size a ≤ s.size a) (h : off = off') :
    (v.readAt (Elt F) (Rect.unit off size inb).toLoadRect f : (⟨s.rank, size⟩ : Shape).Idx → Elt F e)
      = v.readAt (Elt F) (Rect.unit off' size inb').toLoadRect f := by
  subst h; rfl

theorem trips_lt (k : Fin k0_t1_loop.trips) : k.val < 4 := Nat.lt_of_lt_of_le k.isLt k0_t1_abs.2.1

variable (arg2 : Memref sig .tc .vmem S4x64 .f32) (harg2 : arg2.IsWhole) (arg3 : Memref sig .tc .vmem S1x128 .f32) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S4096x256 .f32) (harg8 : arg8.IsWhole) (arg9 : Memref sig .tc .vmem S4096x256 .f32) (harg9 : arg9.IsWhole) (v18 : FVec F S1x1 .f32) (v19 : IVec S128x128 32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty)

/-- The queries of the odd block of pair `r` of trip `k`. -/
def qOdd (k : Fin k0_t1_loop.trips) (r : Fin 4) : Vec F S1x128x128 .bf16 :=
  View.readAt (Elt F) arg4.view (Rect.unit (s := S1x128x4096) (k0_off1 k (BitVec.ofNat 32 r.val)) S1x128x128.size (k0_off1_inb k r)).toLoadRect X_arg4

/-- The queries of the block after pair `r` of trip `k` (the last block again after the last pair). -/
def qNext (k : Fin k0_t1_loop.trips) (r : Fin 4) : Vec F S1x128x128 .bf16 :=
  View.readAt (Elt F) arg4.view (Rect.unit (s := S1x128x4096) (k0_off3 k (BitVec.ofNat 32 r.val)) S1x128x128.size (k0_off3_inb k r)).toLoadRect X_arg4

theorem qOdd_eq (k : Fin k0_t1_loop.trips) (r : Fin 4) :
    qOdd arg4 X_arg4 k r = qblk arg4 X_arg4 ⟨8 * k.val + 2 * r.val + 1, by have := trips_lt k; omega⟩ := by
  refine readAt_off _ _ _ _ ?_
  rw [k0_off1_eq]
  simp only [Matrix.vecCons_inj, and_true, true_and]
  omega

theorem qNext_eq (k : Fin k0_t1_loop.trips) (r : Fin 4) :
    qNext arg4 X_arg4 k r = qblk arg4 X_arg4 ⟨min (8 * k.val + 2 * r.val + 2) 31, by omega⟩ := by
  refine readAt_off _ _ _ _ ?_
  rw [k0_off3_eq]

/-- The store of the even block of pair `r`. -/
def evenPiece (k : Fin k0_t1_loop.trips) (r : Fin 4) (w : Vec F S1x128x128 .bf16) : View.Piece (Elt F) S1x4096x128 .bf16 :=
  ⟨Rect.unit (s := S1x4096x128) (k0_off2 k (BitVec.ofNat 32 r.val)) S1x128x128.size (k0_off2_inb k r), w⟩

/-- The store of the odd block of pair `r`. -/
def oddPiece (k : Fin k0_t1_loop.trips) (r : Fin 4) (w : Vec F S1x128x128 .bf16) : View.Piece (Elt F) S1x4096x128 .bf16 :=
  ⟨Rect.unit (s := S1x4096x128) (k0_off4 k (BitVec.ofNat 32 r.val)) S1x128x128.size (k0_off4_inb k r), w⟩

/-- The block computed from the queries `q`. -/
abbrev blk (q : Vec F S1x128x128 .bf16) : Vec F S1x128x128 .bf16 :=
  block v18 v19 q (kchunk arg5 X_arg5) (vchunk arg6 X_arg6) (gload arg3 X_arg3)

set_option maxHeartbeats 2000000 in
/-- The blocks one trip stores: the first from the scores found kept, each later one from the scores of the pair before. -/
theorem trip_out (𝒱 : Variants) (c : Dev nD) (bd : Option 𝒱.V) (i : grid0.Coords) (k : Fin k0_t1_loop.trips) (acc : FVec F S1x256 .f32) (f7 : BufTy.Contents (Elt F) arg7.view.ty)
    (f8 : BufTy.Contents (Elt F) arg8.view.ty) (f9 : BufTy.Contents (Elt F) arg9.view.ty) :
    (trip_k0_t1 (F := F) 𝒱 c bd i arg2 harg2 arg3 harg3 arg4 harg4 arg5 harg5 arg6 harg6 arg7 harg7 arg8 harg8 arg9 harg9 v18 v19 X_arg3 X_arg4 X_arg5 X_arg6 k).2.1 acc f7 f8 f9
      = [oddPiece k 3 (blk arg3 arg5 arg6 v18 v19 X_arg3 X_arg5 X_arg6 (qOdd arg4 X_arg4 k 3)),
        evenPiece k 3 (blk arg3 arg5 arg6 v18 v19 X_arg3 X_arg5 X_arg6 (qNext arg4 X_arg4 k 2)),
        oddPiece k 2 (blk arg3 arg5 arg6 v18 v19 X_arg3 X_arg5 X_arg6 (qOdd arg4 X_arg4 k 2)),
        evenPiece k 2 (blk arg3 arg5 arg6 v18 v19 X_arg3 X_arg5 X_arg6 (qNext arg4 X_arg4 k 1)),
        oddPiece k 1 (blk arg3 arg5 arg6 v18 v19 X_arg3 X_arg5 X_arg6 (qOdd arg4 X_arg4 k 1)),
        evenPiece k 1 (blk arg3 arg5 arg6 v18 v19 X_arg3 X_arg5 X_arg6 (qNext arg4 X_arg4 k 0)),
        oddPiece k 0 (blk arg3 arg5 arg6 v18 v19 X_arg3 X_arg5 X_arg6 (qOdd arg4 X_arg4 k 0)),
        evenPiece k 0 (finish v18 acc (schunk arg8 f8) (vchunk arg6 X_arg6) (gload arg3 X_arg3))] := by
  unfold trip_k0_t1
  dsimp only
  sl_unfold_words
  simp (disch := decide) only [↓ View.readCov_skip, ↓ View.readCov_cons_toLoadRect]
  rfl

set_option maxHeartbeats 2000000 in
/-- What one trip yields: the greatest scores of the block after. -/
theorem trip_yield (𝒱 : Variants) (c : Dev nD) (bd : Option 𝒱.V) (i : grid0.Coords) (k : Fin k0_t1_loop.trips) (acc : FVec F S1x256 .f32) (f7 : BufTy.Contents (Elt F) arg7.view.ty)
    (f8 : BufTy.Contents (Elt F) arg8.view.ty) (f9 : BufTy.Contents (Elt F) arg9.view.ty) :
    (trip_k0_t1 (F := F) 𝒱 c bd i arg2 harg2 arg3 harg3 arg4 harg4 arg5 harg5 arg6 harg6 arg7 harg7 arg8 harg8 arg9 harg9 v18 v19 X_arg3 X_arg4 X_arg5 X_arg6 k).1 acc f7 f8 f9
      = maxAll v19 (qNext arg4 X_arg4 k 3) (kchunk arg5 X_arg5) := by
  unfold trip_k0_t1
  dsimp only
  sl_unfold_words
  rfl

set_option maxHeartbeats 2000000 in
/-- What one trip leaves kept: the scores of the block after. -/
theorem trip_kept (𝒱 : Variants) (c : Dev nD) (bd : Option 𝒱.V) (i : grid0.Coords) (k : Fin k0_t1_loop.trips) (acc : FVec F S1x256 .f32) (f7 : BufTy.Contents (Elt F) arg7.view.ty)
    (f8 : BufTy.Contents (Elt F) arg8.view.ty) (f9 : BufTy.Contents (Elt F) arg9.view.ty) :
    ∃ L, (trip_k0_t1 (F := F) 𝒱 c bd i arg2 harg2 arg3 harg3 arg4 harg4 arg5 harg5 arg6 harg6 arg7 harg7 arg8 harg8 arg9 harg9 v18 v19 X_arg3 X_arg4 X_arg5 X_arg6 k).2.2.1 acc f7 f8 f9
      = spieces (fun j => kept v19 (qNext arg4 X_arg4 k 3) (kchunk arg5 X_arg5 j)) ++ L := by
  unfold trip_k0_t1
  dsimp only
  sl_unfold_words
  exact ⟨_, rfl⟩

end Cert.KernelIdeal.Att

end
-- ==== Proof.State.lean ====
module

public import proofs.«01_k».proof.Proof.Trip
public import Idealize.ShloMosaic.Lib.WritesUnit

@[expose] public section

set_option maxRecDepth 16384

noncomputable section

/-! What the loop over the query blocks leaves: every block of the output, by induction on the trips. -/

namespace Cert.KernelIdeal.Att

open Idealize.ShloMosaic Idealize.ShloMosaic.TcCoe Idealize.ShloMosaic.Tactic
open Cert.KernelIdeal Cert.KernelIdeal.Gen

variable {F : FTy → Type} [FloatOps F] [Named F]

/-- The place inside its block of 128 rows. -/
def rowIdx (y : S1x4096x128.Idx) : S1x128x128.Idx
  | ⟨0, _⟩ => (0 : Fin 1)
  | ⟨1, _⟩ => (⟨(y (1 : Fin 3)).val % 128, Nat.mod_lt _ (by decide)⟩ : Fin 128)
  | ⟨2, _⟩ => (⟨(y (2 : Fin 3)).val, (y (2 : Fin 3)).isLt⟩ : Fin 128)

/-- The block of 128 rows a place lies in. -/
def rowBlk (y : S1x4096x128.Idx) : Fin 32 :=
  ⟨(y (1 : Fin 3)).val / 128, by have : (y (1 : Fin 3)).val < 4096 := (y (1 : Fin 3)).isLt; omega⟩

/-- Reading over the store of block `b`. -/
theorem read_rows (v : View sig .tc .vmem S1x4096x128 .bf16) (f : v.ty.Contents (Elt F)) {off : Fin 3 → ℕ} (b : ℕ)
    (inb : ∀ a, off a + S1x128x128.size a ≤ S1x4096x128.size a) (w : Vec F S1x128x128 .bf16) (L : List (View.Piece (Elt F) S1x4096x128 .bf16))
    (y : S1x4096x128.Idx) (hoff : off = ![0, 128 * b, 0]) :
    v.read (Elt F) (v.writes (Elt F) f ((⟨Rect.unit (s := S1x4096x128) off S1x128x128.size inb, w⟩ : View.Piece (Elt F) S1x4096x128 .bf16) :: L)) y
      = if (rowBlk y).val = b then w (rowIdx y) else v.read (Elt F) (v.writes (Elt F) f L) y := by
  have hb : (rowBlk y).val = (y (1 : Fin 3)).val / 128 := rfl
  have h0 : (y (0 : Fin 3)).val < 1 := (y (0 : Fin 3)).isLt
  have h2 : (y (2 : Fin 3)).val < 128 := (y (2 : Fin 3)).isLt
  split
  · next h =>
    refine View.read_writes_cons_unit_of_mem v f inb w L y (rowIdx y) hoff ?_
    intro a
    match a with
    | ⟨0, _⟩ => show (y (0 : Fin 3)).val = 0 + 0; omega
    | ⟨1, _⟩ => show (y (1 : Fin 3)).val = 128 * b + (y (1 : Fin 3)).val % 128; omega
    | ⟨2, _⟩ => show (y (2 : Fin 3)).val = 0 + (y (2 : Fin 3)).val; omega
  · next h =>
    refine View.read_writes_cons_unit_of_not_mem v f inb w L y hoff (1 : Fin 3) ?_
    show (y (1 : Fin 3)).val < 128 * b ∨ 128 * b + 128 ≤ (y (1 : Fin 3)).val
    omega

theorem read_even (v : View sig .tc .vmem S1x4096x128 .bf16) (f : v.ty.Contents (Elt F)) (k : Fin k0_t1_loop.trips) (r : Fin 4)
    (w : Vec F S1x128x128 .bf16) (L : List (View.Piece (Elt F) S1x4096x128 .bf16)) (y : S1x4096x128.Idx) :
    v.read (Elt F) (v.writes (Elt F) f (evenPiece k r w :: L)) y
      = if (rowBlk y).val = 8 * k.val + 2 * r.val then w (rowIdx y) else v.read (Elt F) (v.writes (Elt F) f L) y :=
  read_rows v f _ _ w L y (by
    rw [k0_off2_eq]; simp only [Matrix.vecCons_inj, and_true, true_and]; omega)

theorem read_odd (v : View sig .tc .vmem S1x4096x128 .bf16) (f : v.ty.Contents (Elt F)) (k : Fin k0_t1_loop.trips) (r : Fin 4)
    (w : Vec F S1x128x128 .bf16) (L : List (View.Piece (Elt F) S1x4096x128 .bf16)) (y : S1x4096x128.Idx) :
    v.read (Elt F) (v.writes (Elt F) f (oddPiece k r w :: L)) y
      = if (rowBlk y).val = 8 * k.val + 2 * r.val + 1 then w (rowIdx y) else v.read (Elt F) (v.writes (Elt F) f L) y :=
  read_rows v f _ _ w L y (by
    rw [k0_off4_eq]; simp only [Matrix.vecCons_inj, and_true, true_and]; omega)

/-- The place inside its chunk of 512 rows. -/
def chunkIdx (y : S4096x256.Idx) : S512x256.Idx
  | ⟨0, _⟩ => (⟨(y (0 : Fin 2)).val % 512, Nat.mod_lt _ (by decide)⟩ : Fin 512)
  | ⟨1, _⟩ => (⟨(y (1 : Fin 2)).val, (y (1 : Fin 2)).isLt⟩ : Fin 256)

/-- Reading over the store of a chunk's scores. -/
theorem read_chunk (v : View sig .tc .vmem S4096x256 .f32) (f : v.ty.Contents (Elt F)) (s : Fin 8 → Vec F S512x256 .f32) (j : Fin 8)
    (L : List (View.Piece (Elt F) S4096x256 .f32)) (y : S4096x256.Idx) :
    v.read (Elt F) (v.writes (Elt F) f (spiece s j :: L)) y
      = if (y (0 : Fin 2)).val / 512 = j.val then s j (chunkIdx y) else v.read (Elt F) (v.writes (Elt F) f L) y := by
  split
  · next h =>
    refine View.read_writes_cons_unit_of_mem v f (inb_s j) (s j) L y (chunkIdx y) rfl ?_
    intro a
    match a with
    | ⟨0, _⟩ => show (y (0 : Fin 2)).val = 512 * j.val + (y (0 : Fin 2)).val % 512; omega
    | ⟨1, _⟩ => show (y (1 : Fin 2)).val = 0 + (y (1 : Fin 2)).val; omega
  · next h =>
    refine View.read_writes_cons_unit_of_not_mem v f (inb_s j) (s j) L y rfl (0 : Fin 2) ?_
    show (y (0 : Fin 2)).val < 512 * j.val ∨ 512 * j.val + 512 ≤ (y (0 : Fin 2)).val
    omega

/-- A chunk of the kept scores read back, whatever was stored before. -/
theorem schunk_spieces (arg8 : Memref sig .tc .vmem S4096x256 .f32) (f : BufTy.Contents (Elt F) arg8.view.ty) (s : Fin 8 → Vec F S512x256 .f32)
    (L : List (View.Piece (Elt F) S4096x256 .f32)) (j : Fin 8) :
    schunk arg8 (arg8.view.writes (Elt F) f (spieces s ++ L)) j = s j := by
  funext i
  unfold schunk
  rw [View.readAt_apply]
  have hi : (i (0 : Fin 2)).val < 512 := (i (0 : Fin 2)).isLt
  have e0 : (((Rect.unit (s := S4096x256) ![512 * j.val, 0] S512x256.size (inb_s j)).toLoadRect.idx i) (0 : Fin 2)).val
      = 512 * j.val + 1 * (i (0 : Fin 2)).val := rfl
  have e1 : chunkIdx ((Rect.unit (s := S4096x256) ![512 * j.val, 0] S512x256.size (inb_s j)).toLoadRect.idx i) = i := by
    funext a
    match a with
    | ⟨0, _⟩ => exact Fin.ext (by show (512 * j.val + 1 * (i (0 : Fin 2)).val) % 512 = (i (0 : Fin 2)).val; omega)
    | ⟨1, _⟩ => exact Fin.ext (by show 0 + 1 * (i (1 : Fin 2)).val = (i (1 : Fin 2)).val; omega)
  simp only [spieces, List.cons_append, read_chunk, e0, e1]
  have hq : (512 * j.val + 1 * (i (0 : Fin 2)).val) / 512 = j.val := by omega
  rw [hq]
  fin_cases j <;> simp

variable (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S4096x256 .f32) (harg8 : arg8.IsWhole) (arg9 : Memref sig .tc .vmem S4096x256 .f32) (harg9 : arg9.IsWhole) (v18 : FVec F S1x1 .f32) (v19 : IVec S128x128 32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty)
  (G_arg7 : BufTy.Contents (Elt F) arg7.view.ty) (G_arg8 : BufTy.Contents (Elt F) arg8.view.ty) (G_arg9 : BufTy.Contents (Elt F) arg9.view.ty)

/-- The block of queries the kept scores belong to before trip `k`. -/
def nextBlk (k : ℕ) : Fin 32 := ⟨min (8 * k) 31, by omega⟩

/-- Before trip `k`: the carried maxima and the kept scores are those of block `8 k` (of the last block after the last trip), and the first `8 k` blocks of the output are written. -/
theorem state_before (init : FVec F S1x256 .f32)
    (hinit : init = maxAll v19 (qblk arg4 X_arg4 (nextBlk 0)) (kchunk arg5 X_arg5))
    (hkept : ∀ j, schunk arg8 G_arg8 j = kept v19 (qblk arg4 X_arg4 (nextBlk 0)) (kchunk arg5 X_arg5 j)) (k : ℕ) (hk : k ≤ k0_t1_loop.trips) :
    (st_k0_t1 (F := F) 𝒱 c bd i arg2 harg2 arg3 harg3 arg4 harg4 arg5 harg5 arg6 harg6 arg7 harg7 arg8 harg8 arg9 harg9 v18 v19 X_arg3 X_arg4 X_arg5 X_arg6 G_arg7 G_arg8 G_arg9 init k).1
        = maxAll v19 (qblk arg4 X_arg4 (nextBlk k)) (kchunk arg5 X_arg5)
    ∧ (∀ j, schunk arg8 (arg8.view.writes (Elt F) G_arg8 (st_k0_t1 (F := F) 𝒱 c bd i arg2 harg2 arg3 harg3 arg4 harg4 arg5 harg5 arg6 harg6 arg7 harg7 arg8 harg8 arg9 harg9 v18 v19 X_arg3 X_arg4 X_arg5 X_arg6 G_arg7 G_arg8 G_arg9 init k).2.2.1) j
        = kept v19 (qblk arg4 X_arg4 (nextBlk k)) (kchunk arg5 X_arg5 j))
    ∧ (∀ y : S1x4096x128.Idx, (rowBlk y).val < 8 * k →
        arg7.view.read (Elt F) (arg7.view.writes (Elt F) G_arg7 (st_k0_t1 (F := F) 𝒱 c bd i arg2 harg2 arg3 harg3 arg4 harg4 arg5 harg5 arg6 harg6 arg7 harg7 arg8 harg8 arg9 harg9 v18 v19 X_arg3 X_arg4 X_arg5 X_arg6 G_arg7 G_arg8 G_arg9 init k).2.1) y
          = blk arg3 arg5 arg6 v18 v19 X_arg3 X_arg5 X_arg6 (qblk arg4 X_arg4 (rowBlk y)) (rowIdx y)) := by
  induction k with
  | zero =>
    exact ⟨hinit, hkept, fun y hy => absurd hy (by omega)⟩
  | succ k ih =>
    obtain ⟨ha, hs, ho⟩ := ih (by omega)
    have hk4 := trips_lt ⟨k, hk⟩
    have hk4' : k < 4 := hk4
    rw [show k + 1 = (⟨k, hk⟩ : Fin k0_t1_loop.trips).val + 1 from rfl, st_k0_t1_succ]
    generalize st_k0_t1 (F := F) 𝒱 c bd i arg2 harg2 arg3 harg3 arg4 harg4 arg5 harg5 arg6 harg6 arg7 harg7 arg8 harg8 arg9 harg9 v18 v19 X_arg3 X_arg4 X_arg5 X_arg6 G_arg7 G_arg8 G_arg9 init (⟨k, hk⟩ : Fin k0_t1_loop.trips).val = S at *
    have hn : (⟨min (8 * k + 2 * 3 + 2) 31, by omega⟩ : Fin 32) = nextBlk (k + 1) := Fin.ext (by show min _ _ = min _ _; congr 1)
    have hq3 : qNext arg4 X_arg4 ⟨k, hk⟩ 3 = qblk arg4 X_arg4 (nextBlk (k + 1)) := by
      rw [qNext_eq]; exact congrArg _ hn
    refine ⟨?_, ?_, ?_⟩
    · show (trip_k0_t1 (F := F) 𝒱 c bd i arg2 harg2 arg3 harg3 arg4 harg4 arg5 harg5 arg6 harg6 arg7 harg7 arg8 harg8 arg9 harg9 v18 v19 X_arg3 X_arg4 X_arg5 X_arg6 ⟨k, hk⟩).1 _ _ _ _ = _
      rw [trip_yield, hq3]
    · intro j
      show schunk arg8 (arg8.view.writes (Elt F) G_arg8 ((trip_k0_t1 (F := F) 𝒱 c bd i arg2 harg2 arg3 harg3 arg4 harg4 arg5 harg5 arg6 harg6 arg7 harg7 arg8 harg8 arg9 harg9 v18 v19 X_arg3 X_arg4 X_arg5 X_arg6 ⟨k, hk⟩).2.2.1 _ _ _ _ ++ _)) j = _
      obtain ⟨L, hL⟩ := trip_kept arg2 harg2 arg3 harg3 arg4 harg4 arg5 harg5 arg6 harg6 arg7 harg7 arg8 harg8 arg9 harg9 v18 v19 X_arg3 X_arg4 X_arg5 X_arg6 𝒱 c bd i ⟨k, hk⟩ S.1 (arg7.view.writes (Elt F) G_arg7 S.2.1) (arg8.view.writes (Elt F) G_arg8 S.2.2.1) (arg9.view.writes (Elt F) G_arg9 S.2.2.2)
      rw [hL, List.append_assoc, schunk_spieces, hq3]
    · intro y hy
      show arg7.view.read (Elt F) (arg7.view.writes (Elt F) G_arg7 ((trip_k0_t1 (F := F) 𝒱 c bd i arg2 harg2 arg3 harg3 arg4 harg4 arg5 harg5 arg6 harg6 arg7 harg7 arg8 harg8 arg9 harg9 v18 v19 X_arg3 X_arg4 X_arg5 X_arg6 ⟨k, hk⟩).2.1 _ _ _ _ ++ _)) y = _
      rw [View.writes_append, trip_out]
      simp only [read_even, read_odd, qOdd_eq, qNext_eq, View.writes_nil]
      have hfin : finish v18 S.1 (schunk arg8 (arg8.view.writes (Elt F) G_arg8 S.2.2.1)) (vchunk arg6 X_arg6) (gload arg3 X_arg3)
          = blk arg3 arg5 arg6 v18 v19 X_arg3 X_arg5 X_arg6 (qblk arg4 X_arg4 (nextBlk k)) := by
        rw [ha, funext hs]; rfl
      have hy8 : (rowBlk y).val < 8 * k + 8 := by simpa [Nat.mul_succ] using hy
      have key : ∀ b : Fin 32, (rowBlk y).val = b.val →
          blk arg3 arg5 arg6 v18 v19 X_arg3 X_arg5 X_arg6 (qblk arg4 X_arg4 b) (rowIdx y)
            = blk arg3 arg5 arg6 v18 v19 X_arg3 X_arg5 X_arg6 (qblk arg4 X_arg4 (rowBlk y)) (rowIdx y) := fun b hb => by
        rw [show rowBlk y = b from Fin.ext hb]
      rw [hfin]
      have f3 : (3 : Fin 4).val = 3 := rfl
      have f2 : (2 : Fin 4).val = 2 := rfl
      have f1 : (1 : Fin 4).val = 1 := rfl
      have f0 : (0 : Fin 4).val = 0 := rfl
      simp only [f3, f2, f1, f0]
      have hnb : (nextBlk k).val = min (8 * k) 31 := rfl
      split
      · exact key _ (by show _ = 8 * k + 2 * 3 + 1; omega)
      split
      · exact key _ (by show _ = min (8 * k + 2 * 2 + 2) 31; omega)
      split
      · exact key _ (by show _ = 8 * k + 2 * 2 + 1; omega)
      split
      · exact key _ (by show _ = min (8 * k + 2 * 1 + 2) 31; omega)
      split
      · exact key _ (by show _ = 8 * k + 2 * 1 + 1; omega)
      split
      · exact key _ (by show _ = min (8 * k + 2 * 0 + 2) 31; omega)
      split
      · exact key _ (by show _ = 8 * k + 2 * 0 + 1; omega)
      split
      · exact key _ (by omega)
      · exact ho y (by omega)

end Cert.KernelIdeal.Att

end
-- ==== Proof.Body.lean ====
module

public import proofs.«01_k».proof.Proof.State
public import proofs.«01_k».proof.Proof.Gen.KernelIdeal.Frame.Runs

@[expose] public section

set_option maxRecDepth 16384

noncomputable section

/-! The kernel's body: what it leaves in the output's staging buffer, from the blocks it is handed. -/

namespace Cert.KernelIdeal.Att

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The difference's weight, from the four rows of its parameters. -/
def lamOf (x0 : Vec F S4x64 .f32) : FVec F S1x1 .f32 :=
  k0_pay295 (View.ld x0 (Rect.unit (s := S4x64) ![0, 0] S1x64.size inb_S4x64_S1x64_0_0))
    (View.ld x0 (Rect.unit (s := S4x64) ![1, 0] S1x64.size inb_S4x64_S1x64_1_0))
    (View.ld x0 (Rect.unit (s := S4x64) ![2, 0] S1x64.size inb_S4x64_S1x64_2_0))
    (View.ld x0 (Rect.unit (s := S4x64) ![3, 0] S1x64.size inb_S4x64_S1x64_3_0))

/-- The number of each feature. -/
def feat : IVec S128x128 32 := iota .tc S128x128 32 [0] iota_S128x128_d0_w32

/-- The output's block of the body, from the blocks of its arguments. -/
def outBlk (x0 : Vec F S4x64 .f32) (x1 : Vec F S1x128 .f32) (x2 : Vec F S1x128x4096 .bf16) (x3 : Vec F S1x4096x128 .bf16) (x4 : Vec F S1x128x4096 .bf16) :
    Vec F S1x4096x128 .bf16 := fun y =>
  block (lamOf x0) feat (View.ld x2 (Rect.unit (s := S1x128x4096) ![0, 0, 128 * (rowBlk y).val] S1x128x128.size (inb_q (rowBlk y))))
    (fun j => View.ld x3 (Rect.unit (s := S1x4096x128) ![0, 512 * j.val, 0] S1x512x128.size (inb_k j)))
    (fun j => View.ld x4 (Rect.unit (s := S1x128x4096) ![0, 0, 512 * j.val] S1x128x512.size (inb_v j)))
    (View.ld x1 (Rect.unit (s := S1x128) ![0, 0] S1x128.size inb_S1x128_S1x128_0_0)) (rowIdx y)

set_option maxHeartbeats 2000000 in
/-- The body on whole staging memrefs: the arguments' buffers as they were, the output's at `outBlk` of them, the scratch buffers at something. -/
theorem run_body (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S4096x256 .f32) (harg8 : arg8.IsWhole) (arg9 : Memref sig .tc .vmem S4096x256 .f32) (harg9 : arg9.IsWhole)
    (x0 : Vec F S4x64 .f32) (x1 : Vec F S1x128 .f32) (x2 : Vec F S1x128x4096 .bf16) (x3 : Vec F S1x4096x128 .bf16) (x4 : Vec F S1x128x4096 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outBlk x0 x1 x2 x3 x4) ∗ (∃ d, owns (c : Thread nD τ) arg8 fullShare d) ∗ (∃ d, owns (c : Thread nD τ) arg9 fullShare d)) -∗ K ⟨⟩))
          ⊢ wp frame (wpE (defs₀ (F := F)) Variants.none c none) E (cc0_diffattn i arg2 harg2 arg3 harg3 arg4 harg4 arg5 harg5 arg6 harg6 arg7 harg7 arg8 harg8 arg9 harg9) K := by
  simp only [cc0_diffattn_eq_skeleton]; unfold cc0_diffattn_skel
  simp only [k0_part49_eq_skeleton, k0_part50_eq_skeleton, k0_part51_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    funext y
    have ht : k0_t1_loop.trips = 4 := by decide
    have hy : (rowBlk y).val < 8 * k0_t1_loop.trips := by rw [ht]; exact (rowBlk y).isLt
    refine ((state_before Variants.none c none i arg2 harg2 arg3 harg3 arg4 harg4 arg5 harg5 arg6 harg6 arg7 harg7 arg8 harg8 arg9 harg9 _ _ _ _ _ _ _ _ _ _
      ?_ ?_ k0_t1_loop.trips le_rfl).2.2 y hy).trans ?_
    · sl_unfold_words; rfl
    · intro j
      refine (schunk_spieces arg8 _ (fun j => kept run_body.sl.v19 (qblk arg4 (harg4.unread x2) (nextBlk 0)) (kchunk arg5 (harg5.unread x3) j)) [] j)
    · unfold blk qblk kchunk vchunk gload outBlk
      simp only [View.readAt_eq_ld, harg3.read_unread, harg4.read_unread, harg5.read_unread, harg6.read_unread]
      sl_unfold_words
      unfold lamOf feat
      simp only [View.readAt_eq_ld, harg2.read_unread]
  isplitl [HS0]
  · iexists _, _; isplitr; swap; · iexact HS0
    ipureintro; rfl
  iexists _, _; isplitr; swap; · iexact HS1
  ipureintro; rfl

end Cert.KernelIdeal.Att

end
-- ==== Proof.Launch.lean ====
module

public import proofs.«01_k».proof.Proof.Body
public import Idealize.ShloMosaic.Lib.Claim
public import Idealize.ShloMosaic.Lib.Pipeline.Value

@[expose] public section

set_option maxRecDepth 16384

noncomputable section

/-! The run of the idealized kernel's program: the arguments unchanged, and each block of the result's array at what the body leaves. -/

namespace Cert.KernelIdeal.Att

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in the output's buffer at grid point `t`. -/
def outAt (c : Dev nD) (t : Fin cfg0.N) : Vec F S1x4096x128 .bf16 :=
  outBlk (iblk m c 0 t) (iblk m c 1 t) (iblk m c 2 t) (iblk m c 3 t) (iblk m c 4 t)

/-- The pipeline's data: arguments stay, the output's buffer holds `outAt`. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q w := Pipeline.shareOf spec0 w
  owed _ := 0

theorem dat_A (c : Dev nD) (w : Fin cfg0.W) : (dat m 0 c).A w = V m c (Pipeline.arrRef spec0 w) := by
  dsimp only [dat]
theorem after_0 (c : Dev nD) (t : Fin cfg0.N) : (dat m 0 c).after 0 t = iblk m c 0 t := by dsimp only [dat]
theorem after_1 (c : Dev nD) (t : Fin cfg0.N) : (dat m 0 c).after 1 t = iblk m c 1 t := by dsimp only [dat]
theorem after_2 (c : Dev nD) (t : Fin cfg0.N) : (dat m 0 c).after 2 t = iblk m c 2 t := by dsimp only [dat]
theorem after_3 (c : Dev nD) (t : Fin cfg0.N) : (dat m 0 c).after 3 t = iblk m c 3 t := by dsimp only [dat]
theorem after_4 (c : Dev nD) (t : Fin cfg0.N) : (dat m 0 c).after 4 t = iblk m c 4 t := by dsimp only [dat]
theorem after_5 (c : Dev nD) (t : Fin cfg0.N) : (dat m 0 c).after 5 t = outAt m c t := by dsimp only [dat]

/-- What the body is called with at point `t`. -/
def pre (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d)))

/-- What it returns. -/
def post (c : Dev nD) (t : Fin cfg0.N) : sProp 𝕄 :=
  iprop((dat m 0 c).Φ t.succ ∗ (dat m 0 c).owesAt () t.succ
    ∗ owns (c : Thread nD τ) (ms0_0 t) fullShare ((dat m 0 c).after 0 t)
    ∗ owns (c : Thread nD τ) (ms0_1 t) fullShare ((dat m 0 c).after 1 t)
    ∗ owns (c : Thread nD τ) (ms0_2 t) fullShare ((dat m 0 c).after 2 t)
    ∗ owns (c : Thread nD τ) (ms0_3 t) fullShare ((dat m 0 c).after 3 t)
    ∗ owns (c : Thread nD τ) (ms0_4 t) fullShare ((dat m 0 c).after 4 t)
    ∗ owns (c : Thread nD τ) (ms0_5 t) fullShare ((dat m 0 c).after 5 t))

set_option maxHeartbeats 800000 in
/-- The body at any grid point. -/
theorem body_at (c : Dev nD) (t : Fin cfg0.N) :
    pre m c t ⊢ wp frame (wpE (defs₀ (F := F)) Variants.none c none) Set.univ (bodyAt0 t) (fun _ => post m c t) := by
  unfold pre post bodyAt0
  simp only [before0_0_of m (dat m 0 c) (dat_A m c 0) (after_0 m c), before0_1_of m (dat m 0 c) (dat_A m c 1) (after_1 m c),
    before0_2_of m (dat m 0 c) (dat_A m c 2) (after_2 m c), before0_3_of m (dat m 0 c) (dat_A m c 3) (after_3 m c),
    before0_4_of m (dat m 0 c) (dat_A m c 4) (after_4 m c)]
  rw [show (dat m 0 c).Φ t.succ = (dat m 0 c).Φ t.castSucc from rfl,
    show (dat m 0 c).owesAt () t.succ = (dat m 0 c).owesAt () t.castSucc from rfl,
    after_0, after_1, after_2, after_3, after_4, after_5]
  rw [show (dat m 0 c).Φ t.castSucc = Pipeline.ΦA spec0 c from rfl, PhiA0_eq]
  unfold outAt
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (run_body c (grid0.coords t) _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body there. -/
theorem row_at (t : Fin cfg0.N) :
    defs₀ (F := F) .tc cfg0.body (cfg0.bodyArgs t (cfg0.slots t)) = bodyAt0 t := by
  unfold defs₀; rw [Defs.onTc_tc]

/-- The pipeline's obligation on the body. -/
theorem obligation (c : Dev nD) : BodyObligation (dat (F := F) m 0 c) (defs₀ (F := F)) Variants.none () Set.univ := fun t => by
  rw [bigSep_W0, bigSep_W0, row_at]
  exact triple_restated (body_at m c t) rfl .rfl fun _ => .rfl

set_option backward.isDefEq.respectTransparency.types false in
/-- Every run ends, with the pipeline's arrays at what its data computes and the semaphores at zero. -/
theorem run_all : θ_run defs (onTc (τ := τ) (main (F := F))) (s₀ m ρ) (fun r => (Pipeline.FramePost cfgs (dat m) 0 (V m)) r ∧ r.2.sem = fun _ => 0) :=
  Pipeline.θ_run_frame_shared (Q' := _) cfgs (dat m) (0 : Fin 1) launch₀0 defs₀ Variants.none m ρ main
    (hbody := fun c => (obligation m c).loose) (hq := fun _ _ _ => rfl)
    (howed := fun _ _ => rfl) (V := V m) (hmain := hmain m Variants.none) (hA := dat_A m) (hΦ := fun _ _ => rfl)

/-- Every run ends, with the pipeline's arrays at what its data computes. -/
theorem run_post : θ_run defs (onTc (τ := τ) (main (F := F))) (s₀ m ρ) (Pipeline.FramePost cfgs (dat m) 0 (V m)) :=
  (θ_run defs _ _).mono (fun _ h => h.1) (run_all m ρ)

/-- The frame: the arguments end as they began, and the semaphores at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dat m) (dat_A m) (run_post m ρ)) ((θ_run defs _ _).mono (fun _ h => h.2) (run_all m ρ))

/-- Distinct grid points write distinct blocks of the result. -/
theorem out_inj : ∀ t t' : Fin cfg0.N, win0_5.index t = win0_5.index t' → t = t' :=
  (by decide +kernel : ∀ t t' : Fin grid0.N, win0_5.index t = win0_5.index t' → t = t')

/-- A block of the final array, read back, is what its grid point left. -/
theorem final_blk (c : Dev nD) (t : Fin cfg0.N) :
    ((cfg0.win 5).blk t).view.read (Elt F) ((dat m 0 c).arrAt 5 cfg0.N) = (cfg0.win 5).cut (grid0.coords t) (outAt m c t) := by
  rw [(dat m 0 c).read_blk_arrAt_eq_flushed 5
    (fun t t' _ _ hne => (cfg0.win 5).disjoint_blk fun h => hne (out_inj t t' h)) cfg0.N t t.isLt (flush0_5 t)]
  show (cfg0.win 5).cut (grid0.coords t) ((dat m 0 c).after 5 t) = _
  rw [after_5]

/-- The run with the result's array named. -/
theorem run_named : θ_run defs (onTc (τ := τ) (main (F := F))) ⟨m, fun _ => 0, ρ⟩ fun r => ∀ c : Dev nD,
      r.2.mem ((c : Thread nD τ).loc main_v19) = (dat m 0 c).arrAt 5 cfg0.N :=
  (θ_run defs _ _).mono (fun r h c => (h c).1 5) (run_post m ρ)

end Cert.KernelIdeal.Att

end
-- ==== Proof.Softmax.lean ====
module

public import Idealize.ShloMosaic.Lib.Pointwise
public import Idealize.ShloMosaic.Lib.IdealHost

@[expose] public section

noncomputable section

/-! Softmax weights of real scores: what is left of them when the exponentials are taken to base two, a shift is
subtracted, and the sum divides before or after the weighted sum of the values. -/

namespace Cert.Softmax

open Idealize.ShloMosaic

/-- The pattern of minus infinity. -/
theorem ofBits_neg_inf : Ideal.ofBits .f32 0xFF800000#32 = ⊥ := by
  simp [Ideal.ofBits, Ideal.ieee]

/-- The pattern of one eighth. -/
theorem ofBits_eighth : Ideal.ofBits .f32 0x3E000000#32 = ((8⁻¹ : ℝ) : EReal) := by
  simp [Ideal.ofBits, Ideal.ieee, -EReal.coe_mul]; norm_num

/-- A pattern of a real number. -/
theorem ofBits_fifth : ∃ r : ℝ, Ideal.ofBits .f32 0x3E4CCCCD#32 = (r : EReal) := by
  refine ⟨13421773 / 67108864, ?_⟩
  simp [Ideal.ofBits, Ideal.ieee, -EReal.coe_mul]; norm_num

/-- The weight of position `j` among the scores `s`. -/
def soft {n : ℕ} (s : Fin n → ℝ) (j : Fin n) : ℝ := Real.exp (s j) / ∑ i, Real.exp (s i)

/-- A sum of reals is the real sum. -/
theorem coe_sum {ι : Type*} (t : Finset ι) (f : ι → ℝ) : (∑ i ∈ t, (f i : EReal)) = ((∑ i ∈ t, f i : ℝ) : EReal) :=
  (map_sum (⟨⟨fun r : ℝ => (r : EReal), EReal.coe_zero⟩, EReal.coe_add⟩ : ℝ →+ EReal) f t).symm

/-- The greatest of finitely many reals, of which there is one at least, is real. -/
theorem fold_max_real {n : ℕ} [NeZero n] (f : Fin n → ℝ) : ∃ r : ℝ, Finset.univ.fold max (⊥ : EReal) (fun x => (f x : EReal)) = (r : EReal) := by
  have h1 : Finset.univ.fold max (⊥ : EReal) (fun x => (f x : EReal)) < ⊤ :=
    (Finset.fold_max_lt _).2 ⟨bot_lt_top, fun x _ => EReal.coe_lt_top _⟩
  have h2 : ⊥ < Finset.univ.fold max (⊥ : EReal) (fun x => (f x : EReal)) :=
    (Finset.lt_fold_max _).2 (.inr ⟨0, Finset.mem_univ _, EReal.bot_lt_coe _⟩)
  exact ⟨_, (EReal.coe_toReal h1.ne h2.ne').symm⟩

/-- The greater of two reals is real. -/
theorem max_real {x y : EReal} (hx : ∃ r : ℝ, x = (r : EReal)) (hy : ∃ r : ℝ, y = (r : EReal)) : ∃ r : ℝ, max x y = (r : EReal) := by
  obtain ⟨a, rfl⟩ := hx; obtain ⟨b, rfl⟩ := hy
  exact ⟨max a b, (EReal.coe_strictMono.monotone.map_max).symm⟩

theorem exp2_sub (s M : ℝ) : Ideal.exp2 (((s * (Real.log 2)⁻¹ : ℝ) : EReal) - (M : EReal)) = ((Real.exp (s - M * Real.log 2) : ℝ) : EReal) := by
  have h : Real.log 2 ≠ 0 := (Real.log_pos one_lt_two).ne'
  rw [← EReal.coe_sub, Ideal.exp2_coe]
  refine congrArg _ ?_
  show (2 : ℝ) ^ (s * (Real.log 2)⁻¹ - M) = _
  rw [Real.rpow_def_of_pos two_pos]
  congr 1
  field_simp

theorem sum_exp_pos {n : ℕ} [NeZero n] (s : Fin n → ℝ) : 0 < ∑ i, Real.exp (s i) :=
  Finset.sum_pos (fun _ _ => Real.exp_pos _) ⟨0, Finset.mem_univ _⟩

theorem soft_shift {n : ℕ} (s : Fin n → ℝ) (M : ℝ) (j : Fin n) :
    Real.exp (s j - M) / ∑ i, Real.exp (s i - M) = soft s j := by
  simp only [soft, Real.exp_sub, ← Finset.sum_div]
  exact div_div_div_cancel_right₀ (Real.exp_ne_zero M) _ _

/-- The weighted sum of the values, by exponentials to base two less a shift, times the reciprocal of their sum. -/
theorem weighted {n : ℕ} [NeZero n] (s v : Fin n → ℝ) (M : ℝ) :
    (∑ j, (v j : EReal) * Ideal.exp2 (((s j * (Real.log 2)⁻¹ : ℝ) : EReal) - (M : EReal)))
        * Ideal.div 1 (∑ j, Ideal.exp2 (((s j * (Real.log 2)⁻¹ : ℝ) : EReal) - (M : EReal)))
      = ((∑ j, soft s j * v j : ℝ) : EReal) := by
  simp only [exp2_sub, ← EReal.coe_mul, coe_sum]
  have h := (sum_exp_pos fun j => s j - M * Real.log 2)
  rw [Ideal.div_coe h.ne', one_mul, ← EReal.coe_mul, Finset.sum_mul]
  refine congrArg _ (Finset.sum_congr rfl fun j _ => ?_)
  rw [← soft_shift s (M * Real.log 2) j]
  ring

/-- A weight, by exponentials less a shift divided by their sum. -/
theorem weight {n : ℕ} [NeZero n] (s : Fin n → ℝ) (M : ℝ) (j : Fin n) :
    Ideal.div (Ideal.exp ((s j : EReal) - (M : EReal))) (∑ i, Ideal.exp ((s i : EReal) - (M : EReal))) = ((soft s j : ℝ) : EReal) := by
  simp only [← EReal.coe_sub, Ideal.exp_coe, coe_sum]
  rw [Ideal.div_coe (sum_exp_pos fun j => s j - M).ne', ← EReal.coe_mul, ← soft_shift s M j]
  refine congrArg _ ?_
  ring

end Cert.Softmax

end
-- ==== Proof.IdealBlock.lean ====
module

public import proofs.«01_k».proof.Proof.Body
public import proofs.«01_k».proof.Proof.Softmax

@[expose] public section

set_option maxRecDepth 16384

noncomputable section

/-! One block of 128 queries over the extended reals: from real queries, keys and values, the difference of the two
softmax-weighted sums of the values, divided by its root mean square and scaled. -/

namespace Cert.KernelIdeal.Att

open Idealize.ShloMosaic Idealize.ShloMosaic.TcCoe
open Cert.KernelIdeal Cert.KernelIdeal.Gen Cert.Softmax

/-- Feature `d` of component `p`. -/
def comp (p : Fin 2) (d : Fin 64) : Fin 128 := ⟨64 * p.val + d.val, by omega⟩
/-- Key `x` of chunk `c`. -/
def key (c : Fin 8) (x : Fin 512) : Fin 4096 := ⟨512 * c.val + x.val, by omega⟩
/-- The column of query `n` for component `p`. -/
def col (p : Fin 2) (n : Fin 128) : Fin 256 := ⟨128 * p.val + n.val, by omega⟩

/-- The score of key `j` for a query, one component. -/
def dotp (q k : Fin 64 → ℝ) : ℝ := (∑ d, q d * k d) * 8⁻¹

/-- The difference of the two attentions, one feature. -/
def attn (lr : ℝ) (s0 s1 v : Fin 4096 → ℝ) : ℝ := ∑ j, soft s0 j * v j - lr * ∑ j, soft s1 j * v j

/-- A row of extended reals divided by its root mean square, times the gain and 0.8. -/
def rmsNorm (d : Fin 128 → EReal) (g : EReal) (e : Fin 128) : EReal :=
  d e * Ideal.rsqrt (Ideal.div (∑ x, d x * d x) (Ideal.ofBits .f32 0x43000000#32) + Ideal.ofBits .f32 0x358637BD#32) * g
    * Ideal.ofBits .f32 0x3F4CCCCD#32

theorem qscale_eq : (Named.named (F := Ideal) κ "qscale" (φ := .f32) 0x3E38AA3B#32 : EReal) = ((8⁻¹ * (Real.log 2)⁻¹ : ℝ) : EReal) :=
  IdealRules.named_const.ideal_named_scalar _ _ _ _ rfl

theorem sum_chunks (f : Fin 4096 → EReal) :
    ∑ j, f j = ∑ c : Fin 8, ∑ x : Fin 512, f (key c x) := by
  rw [Fin.sum_univ_tiles 8 512 rfl f]
  refine Finset.sum_congr rfl fun c _ => Finset.sum_congr rfl fun x _ => congrArg f (Fin.ext ?_)
  simp only [key]; omega

theorem cmp_lo : ∀ k : Fin 64, IntOp.cmpi CmpIPredicate.slt (BitVec.ofNat 32 k.val) 64#32 = 1#1
    ∧ IntOp.cmpi CmpIPredicate.sge (BitVec.ofNat 32 k.val) 64#32 = 0#1 := by decide
theorem cmp_hi : ∀ k : Fin 64, IntOp.cmpi CmpIPredicate.slt (BitVec.ofNat 32 (64 + k.val)) 64#32 = 0#1
    ∧ IntOp.cmpi CmpIPredicate.sge (BitVec.ofNat 32 (64 + k.val)) 64#32 = 1#1 := by decide
theorem select_one {α : Type} (a b : α) : Scalar.select 1#1 a b = a := rfl
theorem select_zero {α : Type} (a b : α) : Scalar.select 0#1 a b = b := rfl

section

variable (q : Vec Ideal S1x128x128 .bf16) (qr : Fin 128 → Fin 128 → ℝ) (hq : ∀ r n, q (ix3 0 r n) = ((qr r n : ℝ) : EReal))
variable (kk : Fin 8 → Vec Ideal S1x512x128 .bf16) (kr : Fin 4096 → Fin 128 → ℝ) (hk : ∀ c x r, kk c (ix3 0 x r) = ((kr (key c x) r : ℝ) : EReal))
variable (v : Fin 8 → Vec Ideal S1x128x512 .bf16) (vr : Fin 128 → Fin 4096 → ℝ) (hv : ∀ c e x, v c (ix3 0 e x) = ((vr e (key c x) : ℝ) : EReal))

/-- The scores of the keys for query `n`, component `p`. -/
def sc (p : Fin 2) (n : Fin 128) (j : Fin 4096) : ℝ := dotp (fun d => qr (comp p d) n) (fun d => kr j (comp p d))

include hq hk in
theorem score_real (c : Fin 8) (x : Fin 512) (p : Fin 2) (n : Fin 128) :
    score feat q (kk c) (ix2 x (col p n)) = ((sc qr kr p n (key c x) * (Real.log 2)⁻¹ : ℝ) : EReal) := by
  unfold score k0_pay6 k0_pay5 feat
  pointwise
  simp only [hq, hk, qscale_eq, col]
  rw [Fin.sum_univ_two_halves 64 64 rfl]
  simp only [(cmp_lo _).1, (cmp_lo _).2, (cmp_hi _).1, (cmp_hi _).2, select_one, select_zero]
  have hp : p = 0 ∨ p = 1 := by revert p; decide
  have h0 : ∀ (k r : ℝ) , (k : EReal) * ((r : EReal) * ((8⁻¹ * (Real.log 2)⁻¹ : ℝ) : EReal)) = ((r * k * (8⁻¹ * (Real.log 2)⁻¹) : ℝ) : EReal) := by
    intro k r; rw [← EReal.coe_mul, ← EReal.coe_mul]; exact congrArg _ (by ring)
  rcases hp with rfl | rfl
  · have h : 128 * ((0 : Fin 2) : ℕ) + n.val < 128 := by simp
    simp only [dif_pos h, mul_zero, Finset.sum_const_zero, add_zero, h0, coe_sum]
    rw [sc, dotp, ← Finset.sum_mul, mul_assoc]
    refine congrArg _ (congrArg (· * _) (Finset.sum_congr rfl fun d _ => ?_))
    simp [comp]
  · have h : ¬ 128 * ((1 : Fin 2) : ℕ) + n.val < 128 := by simp
    simp only [dif_neg h, mul_zero, Finset.sum_const_zero, zero_add, h0, coe_sum]
    rw [sc, dotp, ← Finset.sum_mul, mul_assoc]
    refine congrArg _ (congrArg (· * _) (Finset.sum_congr rfl fun d _ => ?_))
    simp [comp]

theorem colMax_real (s : FVec Ideal S512x256 .f32) (c : Fin 256) (f : Fin 512 → ℝ) (h : ∀ x, s (ix2 x c) = (f x : EReal)) :
    ∃ r : ℝ, colMax s (ix2 0 c) = (r : EReal) := by
  pointwise [colMax]
  simp only [h, ofBits_neg_inf]
  exact fold_max_real f

include hq hk in
theorem maxAll_real (p : Fin 2) (n : Fin 128) : ∃ M : ℝ, maxAll feat q kk (ix2 0 (col p n)) = (M : EReal) := by
  have h : ∀ c, ∃ r : ℝ, colMax (score feat q (kk c)) (ix2 0 (col p n)) = (r : EReal) := fun c =>
    colMax_real _ _ _ fun x => score_real q qr hq kk kr hk c x p n
  exact max_real (max_real (max_real (max_real (max_real (max_real (max_real (h 0) (h 1)) (h 2)) (h 3)) (h 4)) (h 5)) (h 6)) (h 7)

theorem kept_eq (k : Vec Ideal S1x512x128 .bf16) : kept feat q k = score feat q k := by
  funext j; pointwise [kept]

theorem lStep_apply (m l : FVec Ideal S1x256 .f32) (s : FVec Ideal S512x256 .f32) (c : Fin 256) :
    lStep m l s (ix2 0 c) = l (ix2 0 c) + ∑ x, Ideal.exp2 (s (ix2 x c) - m (ix2 0 c)) := by
  pointwise [lStep, ex]; rfl

theorem aStep_apply (m : FVec Ideal S1x256 .f32) (a : FVec Ideal S128x256 .f32) (s : FVec Ideal S512x256 .f32) (v : Vec Ideal S1x128x512 .bf16)
    (e : Fin 128) (c : Fin 256) :
    aStep m a s v (ix2 e c) = a (ix2 e c) + ∑ x, v (ix3 0 e x) * Ideal.exp2 (s (ix2 x c) - m (ix2 0 c)) := by
  pointwise [aStep, ex]; rfl

theorem lAll_apply (m : FVec Ideal S1x256 .f32) (s : Fin 8 → FVec Ideal S512x256 .f32) (c : Fin 256) :
    lAll m s (ix2 0 c) = ∑ j : Fin 8, ∑ x, Ideal.exp2 (s j (ix2 x c) - m (ix2 0 c)) := by
  simp only [lAll, lStep_apply, Fin.sum_univ_eight]
  pointwise

theorem aAll_apply (m : FVec Ideal S1x256 .f32) (s : Fin 8 → FVec Ideal S512x256 .f32) (v : Fin 8 → Vec Ideal S1x128x512 .bf16) (e : Fin 128) (c : Fin 256) :
    aAll m s v (ix2 e c) = ∑ j : Fin 8, ∑ x, v j (ix3 0 e x) * Ideal.exp2 (s j (ix2 x c) - m (ix2 0 c)) := by
  simp only [aAll, aStep_apply, Fin.sum_univ_eight]
  pointwise

include hq hk hv in
/-- One feature of one component's attention. -/
theorem ratio_real (p : Fin 2) (n e : Fin 128) :
    aAll (maxAll feat q kk) (fun c => kept feat q (kk c)) v (ix2 e (col p n)) * Ideal.div 1 (lAll (maxAll feat q kk) (fun c => kept feat q (kk c)) (ix2 0 (col p n)))
      = ((∑ j, soft (sc qr kr p n) j * vr e j : ℝ) : EReal) := by
  obtain ⟨M, hM⟩ := maxAll_real q qr hq kk kr hk p n
  rw [lAll_apply, aAll_apply]
  simp only [kept_eq, score_real q qr hq kk kr hk, hM, hv]
  rw [← sum_chunks fun j => (vr e j : EReal) * Ideal.exp2 (((sc qr kr p n j * (Real.log 2)⁻¹ : ℝ) : EReal) - (M : EReal)),
    ← sum_chunks fun j => Ideal.exp2 (((sc qr kr p n j * (Real.log 2)⁻¹ : ℝ) : EReal) - (M : EReal))]
  exact weighted _ _ _

variable (lam : FVec Ideal S1x1 .f32) (lr : ℝ) (hl : lam (ix2 0 0) = (lr : EReal))

include hq hk hv hl in
theorem diff_real (n e : Fin 128) :
    diff lam (lAll (maxAll feat q kk) (fun c => kept feat q (kk c))) (aAll (maxAll feat q kk) (fun c => kept feat q (kk c)) v) (ix2 e n)
      = ((attn lr (sc qr kr 0 n) (sc qr kr 1 n) (vr e) : ℝ) : EReal) := by
  have h0 := ratio_real q qr hq kk kr hk v vr hv 0 n e
  have h1 := ratio_real q qr hq kk kr hk v vr hv 1 n e
  have e0 : col 0 n = ⟨n.val, by omega⟩ := Fin.ext (by simp [col])
  have e1 : col 1 n = ⟨128 + n.val, by omega⟩ := Fin.ext (by simp [col])
  rw [e0] at h0
  rw [e1] at h1
  pointwise [diff]
  rw [h0, h1, hl, attn, EReal.coe_sub, EReal.coe_mul]

theorem normed_apply (d : FVec Ideal S128x128 .f32) (g : Vec Ideal S1x128 .f32) (n e : Fin 128) :
    normed d g (ix3 0 n e) = rmsNorm (fun x => d (ix2 x n)) (g (ix2 0 e)) e := by
  pointwise [normed]
  rw [rmsNorm]
  exact mul_right_comm _ _ _

include hq hk hv hl in
/-- The block of the result: for each query the normalised difference of its two attentions. -/
theorem block_real (g : Vec Ideal S1x128 .f32) (n e : Fin 128) :
    block lam feat q kk v g (ix3 0 n e)
      = rmsNorm (fun x => ((attn lr (sc qr kr 0 n) (sc qr kr 1 n) (vr x) : ℝ) : EReal)) (g (ix2 0 e)) e := by
  rw [block, finish, normed_apply]
  exact congrArg (fun d => rmsNorm d (g (ix2 0 e)) e) (funext fun x => diff_real q qr hq kk kr hk v vr hv lam lr hl n x)

end

end Cert.KernelIdeal.Att

end
-- ==== Proof.Entry.lean ====
module

public import proofs.«01_k».proof.Proof.Launch
public import proofs.«01_k».proof.Proof.IdealBlock
public import Idealize.ShloMosaic.Lib.StableHlo.ReadAt

@[expose] public section

set_option maxRecDepth 16384

noncomputable section

/-! The arrays the launch reads, element by element, from the arguments. -/

namespace Cert.KernelIdeal.Att

open Idealize.ShloMosaic Idealize.ShloMosaic.TcCoe
open Cert.KernelIdeal Cert.KernelIdeal.Gen

variable (m : (ℓ : Loc nD τ sig) → Buf (Elt Ideal) ℓ) (c : Dev nD)

theorem entry_q (b h : Fin 4) (p : Fin 2) (d : Fin 64) (n : Fin 4096) :
    (V m c main_v4 : FVec Ideal S4x1024x4096 .bf16) (ix3 b ⟨128 * h.val + 64 * p.val + d.val, by omega⟩ n)
      = (m ((c.tc : Thread nD τ).loc main_arg0) : FVec Ideal S4x4096x4x2x64 .f32) (ix5 b n h p d) := by
  unfold V
  after_reads_at
  rw [dif_pos (by omega)]
  after_reads_at

theorem entry_v (b h : Fin 4) (e : Fin 128) (n : Fin 4096) :
    (V m c main_v4 : FVec Ideal S4x1024x4096 .bf16) (ix3 b ⟨512 + 128 * h.val + e.val, by omega⟩ n)
      = (m ((c.tc : Thread nD τ).loc main_arg2) : FVec Ideal S4x4096x4x128 .f32) (ix4 b n h e) := by
  unfold V
  after_reads_at
  rw [dif_neg (by omega)]
  after_reads_at
  have e1 : (512 + 128 * h.val + e.val - 512) / 128 = h.val := by omega
  have e2 : (512 + 128 * h.val + e.val - 512) % 128 = e.val := by omega
  simp only [e1, e2]

theorem entry_k (b h : Fin 4) (p : Fin 2) (d : Fin 64) (n : Fin 4096) :
    (V m c main_v7 : FVec Ideal S4x4096x2048 .bf16) (ix3 b n ⟨128 * h.val + 64 * p.val + d.val, by omega⟩)
      = (m ((c.tc : Thread nD τ).loc main_arg1) : FVec Ideal S4x4096x4x2x64 .f32) (ix5 b n h p d) := by
  unfold V
  after_reads_at
  rw [dif_pos (by omega)]
  after_reads_at

theorem entry_g (e : Fin 128) :
    (V m c main_v18 : FVec Ideal S1x128 .f32) (ix2 0 e) = (m ((c.tc : Thread nD τ).loc main_arg8) : FVec Ideal S1x128 .f32) (ix2 0 e) := by
  unfold V
  after_reads_at

theorem entry_lam0 (d : Fin 64) :
    (V m c main_v16 : FVec Ideal S4x64 .f32) (ix2 0 d) = (m ((c.tc : Thread nD τ).loc main_arg4) : FVec Ideal S1x64 .f32) (ix2 0 d) := by
  unfold V
  after_reads_at
  after_reads_at
theorem entry_lam1 (d : Fin 64) :
    (V m c main_v16 : FVec Ideal S4x64 .f32) (ix2 1 d) = (m ((c.tc : Thread nD τ).loc main_arg5) : FVec Ideal S1x64 .f32) (ix2 0 d) := by
  unfold V
  after_reads_at
  after_reads_at
theorem entry_lam2 (d : Fin 64) :
    (V m c main_v16 : FVec Ideal S4x64 .f32) (ix2 2 d) = (m ((c.tc : Thread nD τ).loc main_arg6) : FVec Ideal S1x64 .f32) (ix2 0 d) := by
  unfold V
  after_reads_at
  after_reads_at
theorem entry_lam3 (d : Fin 64) :
    (V m c main_v16 : FVec Ideal S4x64 .f32) (ix2 3 d) = (m ((c.tc : Thread nD τ).loc main_arg7) : FVec Ideal S1x64 .f32) (ix2 0 d) := by
  unfold V
  after_reads_at
  after_reads_at

end Cert.KernelIdeal.Att

end
-- ==== Proof.Window.lean ====
module

public import proofs.«01_k».proof.Proof.Entry
public import Idealize.ShloMosaic.Lib.Pipeline.ValueKit

@[expose] public section

set_option maxRecDepth 16384

noncomputable section

/-! The blocks the body reads and writes, as places of the arrays. -/

namespace Cert.KernelIdeal.Att

open Idealize.ShloMosaic Idealize.ShloMosaic.TcCoe
open Cert.KernelIdeal Cert.KernelIdeal.Gen Cert.Softmax

variable (m : (ℓ : Loc nD τ sig) → Buf (Elt Ideal) ℓ) (c : Dev nD)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![(grid0.coords t 0).val, (grid0.coords t 1).val, 0] := (by decide +kernel : ∀ t : Fin grid0.N, _)
theorem index3 : ∀ t : Fin cfg0.N, win0_3.index t = ![(grid0.coords t 0).val, 0, (grid0.coords t 1).val] := (by decide +kernel : ∀ t : Fin grid0.N, _)
theorem index4 : ∀ t : Fin cfg0.N, win0_4.index t = ![(grid0.coords t 0).val, 4 + (grid0.coords t 1).val, 0] := (by decide +kernel : ∀ t : Fin grid0.N, _)
theorem index5 : ∀ t : Fin cfg0.N, win0_5.index t = ![(grid0.coords t 0).val, 0, (grid0.coords t 1).val] := (by decide +kernel : ∀ t : Fin grid0.N, _)

/-- The batch of a grid point. -/
def batch (t : Fin cfg0.N) : Fin 4 := ⟨(grid0.coords t 0).val, (grid0.coords t 0).isLt⟩
/-- The head of a grid point. -/
def head (t : Fin cfg0.N) : Fin 4 := ⟨(grid0.coords t 1).val, (grid0.coords t 1).isLt⟩

theorem read_lam (t : Fin cfg0.N) (i : Fin 4) (d : Fin 64) :
    (iblk m c 0 t : Vec Ideal S4x64 .f32) (ix2 i d) = (V m c main_v16 : FVec Ideal S4x64 .f32) (ix2 i d) := by
  blk_simp [iblk]
  refine congrArg _ ?_
  blk_ext [index0]

theorem read_g (t : Fin cfg0.N) (e : Fin 128) :
    (iblk m c 1 t : Vec Ideal S1x128 .f32) (ix2 0 e) = (V m c main_v18 : FVec Ideal S1x128 .f32) (ix2 0 e) := by
  blk_simp [iblk]
  refine congrArg _ ?_
  blk_ext [index1]

theorem read_q (t : Fin cfg0.N) (r : Fin 128) (n : Fin 4096) :
    (iblk m c 2 t : Vec Ideal S1x128x4096 .bf16) (ix3 0 r n)
      = (V m c main_v4 : FVec Ideal S4x1024x4096 .bf16) (ix3 (batch t) ⟨128 * (head t).val + r.val, by omega⟩ n) := by
  blk_simp [iblk]
  refine congrArg _ ?_
  blk_ext [index2, batch, head]

theorem read_k (t : Fin cfg0.N) (r : Fin 128) (n : Fin 4096) :
    (iblk m c 3 t : Vec Ideal S1x4096x128 .bf16) (ix3 0 n r)
      = (V m c main_v7 : FVec Ideal S4x4096x2048 .bf16) (ix3 (batch t) n ⟨128 * (head t).val + r.val, by omega⟩) := by
  blk_simp [iblk]
  refine congrArg _ ?_
  blk_ext [index3, batch, head]

theorem read_v (t : Fin cfg0.N) (e : Fin 128) (n : Fin 4096) :
    (iblk m c 4 t : Vec Ideal S1x128x4096 .bf16) (ix3 0 e n)
      = (V m c main_v4 : FVec Ideal S4x1024x4096 .bf16) (ix3 (batch t) ⟨512 + 128 * (head t).val + e.val, by omega⟩ n) := by
  blk_simp [iblk]
  refine congrArg _ ?_
  blk_ext [index4, batch, head]

theorem lamOf_apply (x : Vec Ideal S4x64 .f32) : lamOf x (ix2 0 0)
    = Ideal.exp (∑ d : Fin 64, x (ix2 0 d) * x (ix2 1 d)) - Ideal.exp (∑ d : Fin 64, x (ix2 2 d) * x (ix2 3 d)) + Ideal.ofBits .f32 0x3E4CCCCD#32 := by
  pointwise [lamOf, k0_pay295]

theorem out_cover (X : FVec Ideal S4x4096x512 .bf16) (h : ∀ (t : Fin cfg0.N) (n : Fin 4096) (e : Fin 128),
      outAt m c t (ix3 0 n e) = X (ix3 (batch t) n ⟨128 * (head t).val + e.val, by omega⟩)) :
    (dat m 0 c).arrAt 5 cfg0.N = X := by
  refine (dat m 0 c).arrAt_eq_of_covers 5 _ (by decide +kernel) fun t hf y => ?_
  blk_simp
  rw [after_5]
  have h0 : (y 0).val < 1 := (y 0).isLt
  have h1 : (y 1).val < 4096 := (y 1).isLt
  have h2 : (y 2).val < 128 := (y 2).isLt
  have ey : (y : S1x4096x128.Idx) = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  refine (congrArg (outAt m c t) ey).trans ((h t ⟨(y 1).val, h1⟩ ⟨(y 2).val, h2⟩).trans (congrArg X ?_))
  blk_ext [index5, batch, head]

end Cert.KernelIdeal.Att

end
-- ==== Proof.RefIdeal.lean ====
module

public import proofs.«01_k».proof.Proof.Gen.ReferenceIdeal.Run
public import proofs.«01_k».proof.Proof.IdealBlock

@[expose] public section

set_option maxRecDepth 16384

noncomputable section

/-! The reference's result over the extended reals, element by element. -/

namespace Cert.ReferenceIdeal.Att

open Idealize.ShloMosaic Idealize.ShloMosaic.TcCoe
open Cert.ReferenceIdeal Cert.ReferenceIdeal.Gen Cert.Softmax
open Cert.KernelIdeal.Att (comp dotp attn rmsNorm)

/-- The scores of one component. -/
def scores (q k : FVec Ideal S4x4x4096x64 .f32) : FVec Ideal S4x4x4096x4096 .f32 :=
  mulf (Host.dotGeneral dot_S4x4x4096x64_S4x4x4096x64_S4x4x4096x4096_3_3_2_2_01_01 none q k)
    (broadcastInDim S4x4x4096x4096 ![] bcast_S_S4x4x4096x4096 (constant S_ .f32 0x3E000000#32))

/-- The greatest score of each query. -/
def top (s : FVec Ideal S4x4x4096x4096 .f32) : FVec Ideal S4x4x4096 .f32 :=
  maximumf (broadcastInDim S4x4x4096 ![] bcast_S_S4x4x4096 (constant S_ .f32 0xFF800000#32))
    (Host.reduce FloatOps.maximumf s (constant S_ .f32 0xFF800000#32) reducesTo_S4x4x4096x4096_S4x4x4096_d3 h_S_)

/-- The exponentials of the scores less the greatest. -/
def exps (s : FVec Ideal S4x4x4096x4096 .f32) : FVec Ideal S4x4x4096x4096 .f32 :=
  Host.exp (subf s (broadcastInDim S4x4x4096x4096 ![0, 1, 2, 3] bcast_S4x4x4096x1_S4x4x4096x4096_0_1_2_3
    (broadcastInDim S4x4x4096x1 ![0, 1, 2] bcast_S4x4x4096_S4x4x4096x1_0_1_2 (top s))))

/-- The softmax weights. -/
def weights (s : FVec Ideal S4x4x4096x4096 .f32) : FVec Ideal S4x4x4096x4096 .f32 :=
  Host.divf (exps s) (broadcastInDim S4x4x4096x4096 ![0, 1, 2, 3] bcast_S4x4x4096x1_S4x4x4096x4096_0_1_2_3
    (broadcastInDim S4x4x4096x1 ![0, 1, 2] bcast_S4x4x4096_S4x4x4096x1_0_1_2
      (Host.reduceAdd (exps s) (constant S_ .f32 0x00000000#32) reducesTo_S4x4x4096x4096_S4x4x4096_d3 h_S_)))

/-- The difference's weight. -/
def lamRef (a4 a5 a6 a7 : FVec Ideal S1x64 .f32) : FVec Ideal S_ .f32 :=
  addf (subf (Host.exp (Host.reduceAdd (mulf (shapeCast _ a4 shapeCasts_S1x64_S64 : FVec Ideal S64 .f32) (shapeCast _ a5 shapeCasts_S1x64_S64)) (constant S_ .f32 0x00000000#32) reducesTo_S64_S_d0 h_S_))
    (Host.exp (Host.reduceAdd (mulf (shapeCast _ a6 shapeCasts_S1x64_S64 : FVec Ideal S64 .f32) (shapeCast _ a7 shapeCasts_S1x64_S64)) (constant S_ .f32 0x00000000#32) reducesTo_S64_S_d0 h_S_)))
    (constant S_ .f32 0x3E4CCCCD#32)

/-- The queries or keys of one component. -/
def half0 (q : FVec Ideal S4x4096x4x2x64 .f32) : FVec Ideal S4x4x4096x64 .f32 :=
  shapeCast _ (extractStridedSlice S4x4x4096x1x64 ![0, 0, 0, 0, 0] (transpose S4x4x4096x2x64 [0, 2, 1, 3, 4] q transposes_S4x4096x4x2x64_S4x4x4096x2x64_0_2_1_3_4) slices_S4x4x4096x2x64_S4x4x4096x1x64_0_0_0_0_0) shapeCasts_S4x4x4096x1x64_S4x4x4096x64
def half1 (q : FVec Ideal S4x4096x4x2x64 .f32) : FVec Ideal S4x4x4096x64 .f32 :=
  shapeCast _ (extractStridedSlice S4x4x4096x1x64 ![0, 0, 0, 1, 0] (transpose S4x4x4096x2x64 [0, 2, 1, 3, 4] q transposes_S4x4096x4x2x64_S4x4x4096x2x64_0_2_1_3_4) slices_S4x4x4096x2x64_S4x4x4096x1x64_0_0_0_1_0) shapeCasts_S4x4x4096x1x64_S4x4x4096x64

/-- The difference of the two attentions. -/
def diffRef (lam : FVec Ideal S_ .f32) (w0 w1 : FVec Ideal S4x4x4096x4096 .f32) (v : FVec Ideal S4x4096x4x128 .f32) : FVec Ideal S4x4096x4x128 .f32 :=
  transpose S4x4096x4x128 [0, 2, 1, 3] (Host.dotGeneral dot_S4x4x4096x4096_S4x4x4096x128_S4x4x4096x128_3_2_2_3_01_01 none
    (subf w0 (mulf (broadcastInDim S4x4x4096x4096 ![] bcast_S_S4x4x4096x4096 lam) w1))
    (transpose S4x4x4096x128 [0, 2, 1, 3] v transposes_S4x4096x4x128_S4x4x4096x128_0_2_1_3)) transposes_S4x4x4096x128_S4x4096x4x128_0_2_1_3

/-- The difference normalised and scaled. -/
def normRef (d : FVec Ideal S4x4096x4x128 .f32) (g : FVec Ideal S1x128 .f32) : FVec Ideal S4x4096x512 .bf16 :=
  truncf .bf16 (shapeCast _ (mulf (mulf (mulf d (broadcastInDim S4x4096x4x128 ![0, 1, 2, 3] bcast_S4x4096x4x1_S4x4096x4x128_0_1_2_3
      (Host.rsqrt (addf (Host.divf (broadcastInDim S4x4096x4x1 ![0, 1, 2] bcast_S4x4096x4_S4x4096x4x1_0_1_2
        (Host.reduceAdd (mulf d d) (constant S_ .f32 0x00000000#32) reducesTo_S4x4096x4x128_S4x4096x4_d3 h_S_))
        (broadcastInDim S4x4096x4x1 ![] bcast_S_S4x4096x4x1 (constant S_ .f32 0x43000000#32)))
        (broadcastInDim S4x4096x4x1 ![] bcast_S_S4x4096x4x1 (constant S_ .f32 0x358637BD#32))))))
    (broadcastInDim S4x4096x4x128 ![0, 1, 2, 3] bcast_S1x1x1x128_S4x4096x4x128_0_1_2_3
      (broadcastInDim S1x1x1x128 ![3] bcast_S128_S1x1x1x128_3 (shapeCast _ g shapeCasts_S1x128_S128))))
    (broadcastInDim S4x4096x4x128 ![] bcast_S_S4x4096x4x128 (constant S_ .f32 0x3F4CCCCD#32))) shapeCasts_S4x4096x4x128_S4x4096x512 : FVec Ideal S4x4096x512 .f32) bitsLt_bf16_f32

/-- The reference's result, of its arguments. -/
def out (q k : FVec Ideal S4x4096x4x2x64 .f32) (v : FVec Ideal S4x4096x4x128 .f32) (a4 a5 a6 a7 : FVec Ideal S1x64 .f32) (g : FVec Ideal S1x128 .f32) :
    FVec Ideal S4x4096x512 .bf16 :=
  normRef (diffRef (lamRef a4 a5 a6 a7) (weights (scores (half0 q) (half0 k))) (weights (scores (half1 q) (half1 k))) v) g

theorem res_eq (m : (ℓ : Loc nD τ sig) → Buf (Elt Ideal) ℓ) (c : Dev nD) :
    Cert.ReferenceIdeal.Value.res_main_v73 m c
      = out (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) := by
  unfold Cert.ReferenceIdeal.Value.res_main_v73
  rfl

theorem half0_apply (q : FVec Ideal S4x4096x4x2x64 .f32) (b h : Fin 4) (n : Fin 4096) (d : Fin 64) : half0 q (ix4 b h n d) = q (ix5 b n h 0 d) := by
  pointwise [half0]
theorem half1_apply (q : FVec Ideal S4x4096x4x2x64 .f32) (b h : Fin 4) (n : Fin 4096) (d : Fin 64) : half1 q (ix4 b h n d) = q (ix5 b n h 1 d) := by
  pointwise [half1]

theorem scores_apply (q k : FVec Ideal S4x4x4096x64 .f32) (b h : Fin 4) (n j : Fin 4096) :
    scores q k (ix4 b h n j) = (∑ d : Fin 64, q (ix4 b h n d) * k (ix4 b h j d)) * Ideal.ofBits .f32 0x3E000000#32 := by
  pointwise [scores]

/-- A greatest element along the last axis, of reals, is real. -/
theorem hostMax_real {n0 n1 n2 n3 : ℕ} [NeZero n3] {t u : Shape} (h : (⟨4, ![n0, n1, n2, n3]⟩ : Shape).ReducesTo [3] t) (hu : 0 < u.numel)
    (x : (⟨4, ![n0, n1, n2, n3]⟩ : Shape).Idx → EReal) (init : u.Idx → EReal) (hi : init (Shape.Idx.first hu) = ⊥)
    (r : Fin n0 → Fin n1 → Fin n2 → Fin n3 → ℝ) (hx : ∀ a b c d, x (ix4 a b c d) = (r a b c d : EReal)) (j : t.Idx) :
    ∃ M : ℝ, Host.reduce (FloatOps.maximumf (F := Ideal) (φ := .f32)) x init h hu j = (M : EReal) := by
  have e := (Host.reduce_eq_fold (FloatOps.maximumf (F := Ideal) (φ := .f32)) x init h hu j).trans (h.fold_fiber_r4_a3 j _ _ _)
  simp only [hx, hi] at e
  obtain ⟨M, hM⟩ := fold_max_real fun k : Fin n3 => r ⟨(j ⟨0, h.lt_r4_a3_0⟩).val, Shape.coordLt (j ⟨0, h.lt_r4_a3_0⟩) h.size_r4_a3_0⟩ ⟨(j ⟨1, h.lt_r4_a3_1⟩).val, Shape.coordLt (j ⟨1, h.lt_r4_a3_1⟩) h.size_r4_a3_1⟩ ⟨(j ⟨2, h.lt_r4_a3_2⟩).val, Shape.coordLt (j ⟨2, h.lt_r4_a3_2⟩) h.size_r4_a3_2⟩ k
  exact ⟨M, e.trans hM⟩

/-- The greater of two arrays at an index. -/
theorem maximumf_at {t : Shape} (x y : FVec Ideal t .f32) (j : t.Idx) : maximumf x y j = max (x j : EReal) (y j) := rfl

/-- A constant broadcast, at an index. -/
theorem broadcast_constant_at {t u : Shape} (dims : Fin u.rank → Fin t.rank) (h : u.BroadcastsInDim t dims) (b : BitVec 32) (j : t.Idx) :
    broadcastInDim t dims h (constant (F := Ideal) u .f32 b) j = Ideal.ofBits .f32 b := rfl

theorem hmax_real (s : FVec Ideal S4x4x4096x4096 .f32) (r : Fin 4 → Fin 4 → Fin 4096 → Fin 4096 → ℝ) (hs : ∀ a b c d, s (ix4 a b c d) = (r a b c d : EReal)) (j : S4x4x4096.Idx) :
    ∃ M : ℝ, Host.reduce (FloatOps.maximumf (F := Ideal) (φ := .f32)) s (constant (F := Ideal) S_ .f32 0xFF800000#32) reducesTo_S4x4x4096x4096_S4x4x4096_d3 h_S_ j = (M : EReal) :=
  hostMax_real reducesTo_S4x4x4096x4096_S4x4x4096_d3 h_S_ s (constant (F := Ideal) S_ .f32 0xFF800000#32) ofBits_neg_inf r hs j

/-- The greatest of real scores is real. -/
theorem top_real (s : FVec Ideal S4x4x4096x4096 .f32) (r : Fin 4 → Fin 4 → Fin 4096 → Fin 4096 → ℝ) (hs : ∀ a b c d, s (ix4 a b c d) = (r a b c d : EReal)) (j : S4x4x4096.Idx) :
    ∃ M : ℝ, top s j = (M : EReal) := by
  obtain ⟨M, hM⟩ := hmax_real s r hs j
  refine ⟨M, ?_⟩
  unfold top
  rw [maximumf_at, broadcast_constant_at, hM, ofBits_neg_inf, max_eq_right bot_le]

theorem exps_apply (s : FVec Ideal S4x4x4096x4096 .f32) (b h : Fin 4) (n j : Fin 4096) :
    exps s (ix4 b h n j) = Ideal.exp (s (ix4 b h n j) - top s (ix3 b h n)) := by
  pointwise [exps]

theorem weights_apply (s : FVec Ideal S4x4x4096x4096 .f32) (b h : Fin 4) (n j : Fin 4096) :
    weights s (ix4 b h n j) = Ideal.div (exps s (ix4 b h n j)) (∑ i : Fin 4096, exps s (ix4 b h n i)) := by
  pointwise [weights]

theorem diffRef_apply (lam : FVec Ideal S_ .f32) (w0 w1 : FVec Ideal S4x4x4096x4096 .f32) (v : FVec Ideal S4x4096x4x128 .f32) (b h : Fin 4) (n : Fin 4096) (e : Fin 128) :
    diffRef lam w0 w1 v (ix4 b n h e) = ∑ j : Fin 4096, (w0 (ix4 b h n j) - lam ix0 * w1 (ix4 b h n j)) * v (ix4 b j h e) := by
  pointwise [diffRef]

theorem normRef_apply (d : FVec Ideal S4x4096x4x128 .f32) (g : FVec Ideal S1x128 .f32) (b h : Fin 4) (n : Fin 4096) (e : Fin 128) :
    normRef d g (ix3 b n ⟨128 * h.val + e.val, by omega⟩) = rmsNorm (fun x => d (ix4 b n h x)) (g (ix2 0 e)) e := by
  pointwise [normRef]
  rfl

theorem lamRef_apply (a4 a5 a6 a7 : FVec Ideal S1x64 .f32) : lamRef a4 a5 a6 a7 ix0
    = Ideal.exp (∑ d : Fin 64, a4 (ix2 0 d) * a5 (ix2 0 d)) - Ideal.exp (∑ d : Fin 64, a6 (ix2 0 d) * a7 (ix2 0 d)) + Ideal.ofBits .f32 0x3E4CCCCD#32 := by
  pointwise [lamRef]

/-- The softmax weights of real scores. -/
theorem weights_real (s : FVec Ideal S4x4x4096x4096 .f32) (r : Fin 4 → Fin 4 → Fin 4096 → Fin 4096 → ℝ) (hs : ∀ a b c d, s (ix4 a b c d) = (r a b c d : EReal))
    (b h : Fin 4) (n j : Fin 4096) : weights s (ix4 b h n j) = ((soft (r b h n) j : ℝ) : EReal) := by
  obtain ⟨M, hM⟩ := top_real s r hs (ix3 b h n)
  rw [weights_apply]
  simp only [exps_apply, hs, hM]
  exact weight _ _ _

/-- The scores of real queries and keys. -/
theorem scores_real (q k : FVec Ideal S4x4x4096x64 .f32) (qr kr : Fin 4 → Fin 4 → Fin 4096 → Fin 64 → ℝ)
    (hq : ∀ a b c d, q (ix4 a b c d) = (qr a b c d : EReal)) (hk : ∀ a b c d, k (ix4 a b c d) = (kr a b c d : EReal)) (b h : Fin 4) (n j : Fin 4096) :
    scores q k (ix4 b h n j) = ((dotp (qr b h n) (kr b h j) : ℝ) : EReal) := by
  rw [scores_apply, ofBits_eighth]
  simp only [hq, hk, ← EReal.coe_mul, coe_sum]
  rfl

variable (q k : FVec Ideal S4x4096x4x2x64 .f32) (v : FVec Ideal S4x4096x4x128 .f32) (a4 a5 a6 a7 : FVec Ideal S1x64 .f32) (g : FVec Ideal S1x128 .f32)
  (qr kr : Fin 4 → Fin 4096 → Fin 4 → Fin 2 → Fin 64 → ℝ) (vr : Fin 4 → Fin 4096 → Fin 4 → Fin 128 → ℝ) (lr : ℝ)

/-- The reference's result at real arguments: the normalised difference of the two attentions. -/
theorem out_apply (hq : ∀ b n h p d, q (ix5 b n h p d) = (qr b n h p d : EReal)) (hk : ∀ b n h p d, k (ix5 b n h p d) = (kr b n h p d : EReal))
    (hv : ∀ b n h e, v (ix4 b n h e) = (vr b n h e : EReal)) (hl : lamRef a4 a5 a6 a7 ix0 = (lr : EReal)) (b h : Fin 4) (n : Fin 4096) (e : Fin 128) :
    out q k v a4 a5 a6 a7 g (ix3 b n ⟨128 * h.val + e.val, by omega⟩)
      = rmsNorm (fun x => ((attn lr (fun j => dotp (qr b n h 0) (kr b j h 0)) (fun j => dotp (qr b n h 1) (kr b j h 1)) (fun j => vr b j h x) : ℝ) : EReal))
          (g (ix2 0 e)) e := by
  have h0 := weights_real (scores (half0 q) (half0 k)) _ (scores_real (half0 q) (half0 k) (fun b h n => qr b n h 0) (fun b h n => kr b n h 0)
    (fun b h n d => (half0_apply q b h n d).trans (hq ..)) (fun b h n d => (half0_apply k b h n d).trans (hk ..)))
  have h1 := weights_real (scores (half1 q) (half1 k)) _ (scores_real (half1 q) (half1 k) (fun b h n => qr b n h 1) (fun b h n => kr b n h 1)
    (fun b h n d => (half1_apply q b h n d).trans (hq ..)) (fun b h n d => (half1_apply k b h n d).trans (hk ..)))
  rw [out, normRef_apply]
  refine congrArg (fun f => rmsNorm f (g (ix2 0 e)) e) (funext fun x => ?_)
  rw [diffRef_apply]
  simp only [h0, h1, hv, hl, ← EReal.coe_mul, ← EReal.coe_sub, coe_sum]
  refine congrArg _ ?_
  rw [attn, Finset.mul_sum, ← Finset.sum_sub_distrib]
  exact Finset.sum_congr rfl fun j _ => by ring

end Cert.ReferenceIdeal.Att

end
-- ==== Proof.Value.lean ====
module

public import proofs.«01_k».proof.Proof.Window
public import proofs.«01_k».proof.Proof.RefIdeal

@[expose] public section

set_option maxRecDepth 16384

noncomputable section

/-! The idealized kernel's result is the reference's, at real queries, keys and values. -/

namespace Cert.KernelIdeal.Att

open Idealize.ShloMosaic Idealize.ShloMosaic.TcCoe
open Cert.KernelIdeal Cert.KernelIdeal.Gen Cert.Softmax

/-- The component of a feature. -/
def hi (r : Fin 128) : Fin 2 := ⟨r.val / 64, by omega⟩
/-- The place of a feature in its component. -/
def lo (r : Fin 128) : Fin 64 := ⟨r.val % 64, by omega⟩

theorem hi_comp (p : Fin 2) (d : Fin 64) : hi (comp p d) = p := Fin.ext (by show (64 * p.val + d.val) / 64 = p.val; omega)
theorem lo_comp (p : Fin 2) (d : Fin 64) : lo (comp p d) = d := Fin.ext (by show (64 * p.val + d.val) % 64 = d.val; omega)

variable (m : (ℓ : Loc nD τ sig) → Buf (Elt Ideal) ℓ) (c : Dev nD)

theorem entry_q' (b h : Fin 4) (r : Fin 128) (n : Fin 4096) :
    (V m c main_v4 : FVec Ideal S4x1024x4096 .bf16) (ix3 b ⟨128 * h.val + r.val, by omega⟩ n)
      = (m ((c.tc : Thread nD τ).loc main_arg0) : FVec Ideal S4x4096x4x2x64 .f32) (ix5 b n h (hi r) (lo r)) := by
  refine Eq.trans ?_ (entry_q m c b h (hi r) (lo r) n)
  refine congrArg (fun x => (V m c main_v4 : FVec Ideal S4x1024x4096 .bf16) (ix3 b x n)) (Fin.ext ?_)
  show 128 * h.val + r.val = 128 * h.val + 64 * (r.val / 64) + r.val % 64
  omega

theorem entry_k' (b h : Fin 4) (r : Fin 128) (n : Fin 4096) :
    (V m c main_v7 : FVec Ideal S4x4096x2048 .bf16) (ix3 b n ⟨128 * h.val + r.val, by omega⟩)
      = (m ((c.tc : Thread nD τ).loc main_arg1) : FVec Ideal S4x4096x4x2x64 .f32) (ix5 b n h (hi r) (lo r)) := by
  refine Eq.trans ?_ (entry_k m c b h (hi r) (lo r) n)
  refine congrArg (fun x => (V m c main_v7 : FVec Ideal S4x4096x2048 .bf16) (ix3 b n x)) (Fin.ext ?_)
  show 128 * h.val + r.val = 128 * h.val + 64 * (r.val / 64) + r.val % 64
  omega

theorem load_q (X : Vec Ideal S1x128x4096 .bf16) (i : Fin 32) (r n : Fin 128) :
    (View.ld X (Rect.unit (s := S1x128x4096) ![0, 0, 128 * i.val] S1x128x128.size (inb_q i)) : Vec Ideal S1x128x128 .bf16) (ix3 0 r n)
      = X (ix3 0 r ⟨128 * i.val + n.val, by omega⟩) := by
  pointwise

theorem load_k (X : Vec Ideal S1x4096x128 .bf16) (i : Fin 8) (x : Fin 512) (r : Fin 128) :
    (View.ld X (Rect.unit (s := S1x4096x128) ![0, 512 * i.val, 0] S1x512x128.size (inb_k i)) : Vec Ideal S1x512x128 .bf16) (ix3 0 x r)
      = X (ix3 0 (key i x) r) := by
  pointwise [key]

theorem load_v (X : Vec Ideal S1x128x4096 .bf16) (i : Fin 8) (x : Fin 512) (e : Fin 128) :
    (View.ld X (Rect.unit (s := S1x128x4096) ![0, 0, 512 * i.val] S1x128x512.size (inb_v i)) : Vec Ideal S1x128x512 .bf16) (ix3 0 e x)
      = X (ix3 0 e (key i x)) := by
  pointwise [key]

theorem load_g (X : Vec Ideal S1x128 .f32) (e : Fin 128) :
    (View.ld X (Rect.unit (s := S1x128) ![0, 0] S1x128.size inb_S1x128_S1x128_0_0) : Vec Ideal S1x128 .f32) (ix2 0 e) = X (ix2 0 e) := by
  pointwise

/-- The arguments, as the reference takes them. -/
abbrev refOut : FVec Ideal S4x4096x512 .bf16 :=
  Cert.ReferenceIdeal.Att.out (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8))

/-- The kernel's weight of the difference is the reference's. -/
theorem lam_eq (t : Fin cfg0.N) : (lamOf (iblk m c 0 t) (ix2 0 0) : EReal)
    = Cert.ReferenceIdeal.Att.lamRef (m ((c.tc : Thread nD τ).loc main_arg4)) (m ((c.tc : Thread nD τ).loc main_arg5))
        (m ((c.tc : Thread nD τ).loc main_arg6)) (m ((c.tc : Thread nD τ).loc main_arg7)) ix0 := by
  rw [lamOf_apply, Cert.ReferenceIdeal.Att.lamRef_apply]
  simp only [read_lam]
  exact congrArg₂ (fun x y => Ideal.exp x - Ideal.exp y + Ideal.ofBits .f32 0x3E4CCCCD#32)
    (Finset.sum_congr rfl fun d _ => congrArg₂ (fun x y : EReal => x * y) (entry_lam0 m c d) (entry_lam1 m c d))
    (Finset.sum_congr rfl fun d _ => congrArg₂ (fun x y : EReal => x * y) (entry_lam2 m c d) (entry_lam3 m c d))

variable (qr kr : S4x4096x4x2x64.Idx → ℝ) (vr : S4x4096x4x128.Idx → ℝ) (lr : ℝ)
  (hq : ∀ i, (m ((c.tc : Thread nD τ).loc main_arg0) : FVec Ideal S4x4096x4x2x64 .f32) i = (qr i : EReal))
  (hk : ∀ i, (m ((c.tc : Thread nD τ).loc main_arg1) : FVec Ideal S4x4096x4x2x64 .f32) i = (kr i : EReal))
  (hv : ∀ i, (m ((c.tc : Thread nD τ).loc main_arg2) : FVec Ideal S4x4096x4x128 .f32) i = (vr i : EReal))
  (hl : Cert.ReferenceIdeal.Att.lamRef (m ((c.tc : Thread nD τ).loc main_arg4)) (m ((c.tc : Thread nD τ).loc main_arg5))
        (m ((c.tc : Thread nD τ).loc main_arg6)) (m ((c.tc : Thread nD τ).loc main_arg7)) ix0 = (lr : EReal))

include hq hk hv hl in
/-- What a grid point leaves is the reference's result there. -/
theorem point_eq (t : Fin cfg0.N) (n : Fin 4096) (e : Fin 128) :
    outAt m c t (ix3 0 n e) = refOut m c (ix3 (batch t) n ⟨128 * (head t).val + e.val, by omega⟩) := by
  have hy : rowIdx (ix3 0 n e) = ix3 0 ⟨n.val % 128, Nat.mod_lt _ (by decide)⟩ e := by
    funext a
    match a with
    | ⟨0, _⟩ => rfl
    | ⟨1, _⟩ => rfl
    | ⟨2, _⟩ => rfl
  have hb : (rowBlk (ix3 0 n e)).val = n.val / 128 := rfl
  have hn : ∀ x : Fin 128, 128 * (rowBlk (ix3 0 n e)).val + x.val < 4096 := fun x => by have := x.isLt; have := n.isLt; omega
  unfold outAt outBlk
  rw [hy]
  rw [block_real _ (fun r x => qr (ix5 (batch t) ⟨128 * (rowBlk (ix3 0 n e)).val + x.val, hn x⟩ (head t) (hi r) (lo r)))
    (fun r x => by rw [load_q, read_q, entry_q', hq])
    _ (fun j r => kr (ix5 (batch t) j (head t) (hi r) (lo r))) (fun i x r => by rw [load_k, read_k, entry_k', hk])
    _ (fun e j => vr (ix4 (batch t) j (head t) e)) (fun i e x => by rw [load_v, read_v, entry_v, hv])
    _ lr ((lam_eq m c t).trans hl)]
  refine Eq.trans ?_ (Cert.ReferenceIdeal.Att.out_apply _ _ _ _ _ _ _ _ (fun b n h p d => qr (ix5 b n h p d)) (fun b n h p d => kr (ix5 b n h p d))
    (fun b n h e => vr (ix4 b n h e)) lr (fun _ _ _ _ _ => hq _) (fun _ _ _ _ _ => hk _) (fun _ _ _ _ => hv _) hl (batch t) (head t) n e).symm
  have en : (⟨128 * (rowBlk (ix3 0 n e)).val + n.val % 128, hn ⟨n.val % 128, Nat.mod_lt _ (by decide)⟩⟩ : Fin 4096) = n :=
    Fin.ext (by show 128 * (rowBlk (ix3 0 n e)).val + n.val % 128 = n.val; omega)
  rw [load_g, read_g, entry_g]
  unfold sc
  simp only [hi_comp, lo_comp, en]

include hq hk hv hl in
/-- The result's array. -/
theorem result_eq : (dat m 0 c).arrAt 5 cfg0.N = refOut m c :=
  out_cover m c _ (point_eq m c qr kr vr lr hq hk hv hl)

end Cert.KernelIdeal.Att

end
-- ==== Proof.Finite.lean ====
module

public import proofs.«01_k».proof.Pre_finite
public import proofs.«01_k».proof.Proof.Softmax
public import Idealize.ShloMosaic.Lib.ReduceAll
public import Idealize.ShloMosaic.Lib.Affine

@[expose] public section

set_option maxRecDepth 16384

noncomputable section

/-! What the precondition says: the queries, the keys, the values and the four rows of the difference's weight are real numbers. -/

namespace Cert.Pre_finite

open Idealize.ShloMosaic Cert.Softmax

instance facts : Facts where
  bcast_S_S4x4096x4x2x64 := by decide
  reducesTo_S4x4096x4x2x64_S_d0_1_2_3_4 := by decide
  h_S_ := by decide
  bcast_S_S4x4096x4x128 := by decide
  reducesTo_S4x4096x4x128_S_d0_1_2_3 := by decide
  bcast_S_S1x64 := by decide
  reducesTo_S1x64_S_d0_1 := by decide

/-- The pattern of plus infinity. -/
theorem ofBits_inf : Ideal.ofBits .f32 0x7F800000#32 = ⊤ := by
  simp [Ideal.ofBits, Ideal.ieee]

/-- An element less than infinity in absolute value is real. -/
theorem real_of_test {s : Shape} (hb : S_.BroadcastsInDim s ![]) (x : FVec Ideal s .f32) (i : s.Idx)
    (h : cmpf .olt (Host.absf x) (broadcastInDim s ![] hb (constant S_ .f32 0x7F800000#32)) i = 1#1) : ∃ r : ℝ, x i = (r : EReal) := by
  change Ideal.cmp .olt (max (x i : EReal) (-(x i))) (Ideal.ofBits .f32 0x7F800000#32) = 1#1 at h
  rw [ofBits_inf] at h
  have hlt : max (x i : EReal) (-(x i)) < ⊤ := by
    by_contra hn
    simp [Ideal.cmp, hn] at h
  have h1 : (x i : EReal) ≠ ⊤ := ((le_max_left _ _).trans_lt hlt).ne
  have h2 : (x i : EReal) ≠ ⊥ := fun e => by
    rw [e] at hlt
    simp at hlt
  exact ⟨_, (EReal.coe_toReal h1 h2).symm⟩

instance : Subsingleton S_.Idx := ⟨fun a b => funext fun i => i.elim0⟩

/-- Every element of an array that passes the test is real. -/
theorem all_real {s : Shape} {axes : List (Fin s.rank)} (hb : S_.BroadcastsInDim s ![]) (hr : s.ReducesTo axes S_) (x : FVec Ideal s .f32)
    (h : Host.reduce IntOp.andi (cmpf .olt (Host.absf x) (broadcastInDim s ![] hb (constant S_ .f32 0x7F800000#32))) (constantI S_ 1 1#1) hr Facts.h_S_ = fun _ => 1#1) :
    ∃ r : s.Idx → ℝ, ∀ i, x i = (r i : EReal) :=
  ⟨_, fun i => (real_of_test hb x i (Host.reduce_andi_all _ _ hr Facts.h_S_ ix0 (congrFun h ix0) i)).choose_spec⟩

theorem andi_split {s : Shape} (a b : IVec s 1) (h : andi a b = fun _ => 1#1) : (a = fun _ => 1#1) ∧ (b = fun _ => 1#1) :=
  ⟨funext fun i => (IntOp.andi_eq_one.1 (congrFun h i)).1, funext fun i => (IntOp.andi_eq_one.1 (congrFun h i)).2⟩

/-- The precondition, read. -/
theorem reals (q k : FVec Ideal S4x4096x4x2x64 .f32) (v : FVec Ideal S4x4096x4x128 .f32) (nb : FVec Ideal S4x4096x1536 .f32)
    (a4 a5 a6 a7 : FVec Ideal S1x64 .f32) (g : FVec Ideal S1x128 .f32) (h : fn (F := Ideal) q k v nb a4 a5 a6 a7 g = fun _ => 1#1) :
    (∃ r : S4x4096x4x2x64.Idx → ℝ, ∀ i, q i = (r i : EReal)) ∧ (∃ r : S4x4096x4x2x64.Idx → ℝ, ∀ i, k i = (r i : EReal))
      ∧ (∃ r : S4x4096x4x128.Idx → ℝ, ∀ i, v i = (r i : EReal)) ∧ (∃ r : S1x64.Idx → ℝ, ∀ i, a4 i = (r i : EReal))
      ∧ (∃ r : S1x64.Idx → ℝ, ∀ i, a5 i = (r i : EReal)) ∧ (∃ r : S1x64.Idx → ℝ, ∀ i, a6 i = (r i : EReal)) ∧ (∃ r : S1x64.Idx → ℝ, ∀ i, a7 i = (r i : EReal)) := by
  unfold fn fn_part1 at h
  obtain ⟨h, h7⟩ := andi_split _ _ h
  obtain ⟨h, h6⟩ := andi_split _ _ h
  obtain ⟨h, h5⟩ := andi_split _ _ h
  obtain ⟨h, h4⟩ := andi_split _ _ h
  obtain ⟨h, h2⟩ := andi_split _ _ h
  obtain ⟨h0, h1⟩ := andi_split _ _ h
  exact ⟨all_real _ _ q h0, all_real _ _ k h1, all_real _ _ v h2, all_real _ _ a4 h4, all_real _ _ a5 h5, all_real _ _ a6 h6, all_real _ _ a7 h7⟩

end Cert.Pre_finite

end
-- ==== Proof.In.Math.lean ====
module

public import Idealize.ShloMosaic.Lib.Pipeline.ValueKit
public import Idealize.ShloMosaic.PureOps.Ideal

@[expose] public section

noncomputable section

/-! Norms, means and rotations of the input projection, over the extended reals. -/

namespace Cert.Inproj

open Idealize.ShloMosaic Idealize.ShloMosaic.TcCoe

/-- One entry of a row over the root of the row's mean square, times its gain. -/
def rmsOf {n : Nat} (N : EReal) (y g : Fin n → EReal) (d : Fin n) : EReal :=
  y d * Ideal.rsqrt (Ideal.div (∑ i, y i * y i) N + Ideal.ofBits .f32 0x358637BD#32) * g d

/-- One column of the projection of a row. -/
def colSum {n : Nat} (a w : Fin n → EReal) : EReal := ∑ k, a k * w k

/-- A head's entries rotated: the first half's partner is subtracted, the second half's is added. -/
def turn (y : Fin 64 → EReal) (co si : Fin 32 → EReal) (d : Fin 64) : EReal :=
  if h : d.val < 32 then y d * co ⟨d.val, h⟩ - y ⟨32 + d.val, by omega⟩ * si ⟨d.val, h⟩
  else y d * co ⟨d.val - 32, by omega⟩ + y ⟨d.val - 32, by omega⟩ * si ⟨d.val - 32, by omega⟩

/-- The angle of a place and a pair of lanes. -/
def ang (n : Fin 4096) (e : Fin 32) : EReal :=
  FloatOps.sitofp (F := Ideal) .f32 (BitVec.ofNat 32 n.val) * Ideal.pow (Ideal.ofBits .f32 0x461C4000#32)
    (Ideal.div (-(Ideal.ofBits .f32 0x40000000#32 * FloatOps.sitofp (F := Ideal) .f32 (BitVec.ofNat 32 e.val))) (Ideal.ofBits .f32 0x42800000#32))

theorem sum_mul_const {ι : Type} (s : Finset ι) (f : ι → EReal) (c : EReal) (h : ∀ i ∈ s, 0 ≤ f i) : (∑ i ∈ s, f i) * c = ∑ i ∈ s, f i * c := by
  classical
  induction s using Finset.induction with
  | empty => simp
  | insert a s ha ih =>
    rw [Finset.sum_insert ha, Finset.sum_insert ha, ← ih fun i hi => h i (Finset.mem_insert_of_mem hi)]
    exact EReal.right_distrib_of_nonneg (h a (Finset.mem_insert_self a s)) (Finset.sum_nonneg fun i hi => h i (Finset.mem_insert_of_mem hi))

theorem sq_nonneg' (y : EReal) : 0 ≤ y * y := by
  rcases le_total 0 y with h | h
  · exact mul_nonneg h h
  · have := mul_nonneg (EReal.neg_nonneg.2 h) (EReal.neg_nonneg.2 h)
    rwa [neg_mul_neg] at this

theorem mean64 (x : EReal) : Ideal.div x (Ideal.ofBits .f32 0x42800000#32) = x * Ideal.ofBits .f32 0x3C800000#32 := by
  have h : Ideal.ofBits .f32 0x42800000#32 = ((64 : ℝ) : EReal) := by
    simp [Ideal.ofBits, Ideal.ieee, -EReal.coe_mul]; norm_num
  have k : Ideal.ofBits .f32 0x3C800000#32 = ((1 / 64 : ℝ) : EReal) := by
    simp [Ideal.ofBits, Ideal.ieee, -EReal.coe_mul]; norm_num
  rw [h, k, Ideal.div_coe (by norm_num)]

theorem mean32 (x : EReal) : Ideal.div x (Ideal.ofBits .f32 0x42000000#32) = x * Ideal.ofBits .f32 0x3D000000#32 := by
  have h : Ideal.ofBits .f32 0x42000000#32 = ((32 : ℝ) : EReal) := by
    simp [Ideal.ofBits, Ideal.ieee, -EReal.coe_mul]; norm_num
  have k : Ideal.ofBits .f32 0x3D000000#32 = ((1 / 32 : ℝ) : EReal) := by
    simp [Ideal.ofBits, Ideal.ieee, -EReal.coe_mul]; norm_num
  rw [h, k, Ideal.div_coe (by norm_num)]

/-- A sum against a block of the block-diagonal matrix of means is the block's mean. -/
theorem block_mean {a n : Nat} (f : Fin (a * n) → EReal) (hf : ∀ k, 0 ≤ f k) (c : EReal) (i : Fin a) (B : Fin (a * n) → EReal)
    (hB : ∀ k, B k = if k.val / n = i.val then c else 0) :
    ∑ k, f k * B k = (∑ d : Fin n, f (finProdFinEquiv (i, d))) * c := by
  rw [sum_mul_const _ _ _ fun d _ => hf _, ← finProdFinEquiv.sum_comp, Fintype.sum_prod_type]
  rw [Finset.sum_eq_single i]
  · refine Finset.sum_congr rfl fun d _ => ?_
    rw [hB, if_pos]
    show (d.val + n * i.val) / n = i.val
    rw [Nat.add_mul_div_left _ _ (Nat.lt_of_le_of_lt (Nat.zero_le _) d.isLt), Nat.div_eq_of_lt d.isLt, Nat.zero_add]
  · intro j _ hj
    refine Finset.sum_eq_zero fun d _ => ?_
    rw [hB, if_neg, mul_zero]
    show ¬ (d.val + n * j.val) / n = i.val
    rw [Nat.add_mul_div_left _ _ (Nat.lt_of_le_of_lt (Nat.zero_le _) d.isLt), Nat.div_eq_of_lt d.isLt, Nat.zero_add]
    exact fun h => hj (Fin.ext h)
  · intro h; exact absurd (Finset.mem_univ _) h

/-- The same, of a literal length. -/
theorem block_mean' {L : Nat} (a n : Nat) (e : L = a * n) (f : Fin L → EReal) (hf : ∀ k, 0 ≤ f k) (c : EReal) (i : Fin a) (B : Fin L → EReal)
    (hB : ∀ k, B k = if k.val / n = i.val then c else 0) (g : Fin n → EReal) (hg : ∀ (d : Fin n) (k : Fin L), k.val = d.val + n * i.val → f k = g d) :
    ∑ k, f k * B k = (∑ d : Fin n, g d) * c := by
  subst e
  rw [block_mean f hf c i B hB]
  exact congrArg (· * c) (Finset.sum_congr rfl fun d _ => hg d _ rfl)

end Cert.Inproj

end
-- ==== Proof.In.Entry.lean ====
module

public import proofs.«01_k».proof.Proof.Gen.Kernel2Ideal.Frame
public import proofs.«01_k».proof.Proof.In.Math
public import Idealize.ShloMosaic.Lib.StableHlo.ReadAt

@[expose] public section

set_option maxRecDepth 16384

noncomputable section

/-! The arrays the projection reads, element by element, from the arguments. -/

namespace Cert.Kernel2Ideal.In

open Idealize.ShloMosaic Idealize.ShloMosaic.TcCoe
open Cert.Kernel2Ideal Cert.Kernel2Ideal.Gen Cert.Inproj

variable (m : (ℓ : Loc nD τ sig) → Buf (Elt Ideal) ℓ) (c : Dev nD)

theorem entry_x (b : Fin 4) (n : Fin 4096) (k : Fin 1024) :
    (V m c main_v65 : FVec Ideal S16384x1024 .f32) (ix2 ⟨4096 * b.val + n.val, by omega⟩ k)
      = (m ((c.tc : Thread nD τ).loc main_arg0) : FVec Ideal S4x4096x1024 .f32) (ix3 b n k) := by
  unfold V
  after_reads_at

theorem entry_g (k : Fin 1024) :
    (V m c main_v67 : FVec Ideal S1x1024 .f32) (ix2 0 k) = (m ((c.tc : Thread nD τ).loc main_arg1) : FVec Ideal S1x1024 .f32) (ix2 0 k) := by
  unfold V
  after_reads_at

theorem entry_w (k : Fin 1024) (j : Fin 3072) :
    (V m c main_v68 : FVec Ideal S1024x3072 .f32) (ix2 k j) = (m ((c.tc : Thread nD τ).loc main_arg2) : FVec Ideal S1x1024x3072 .f32) (ix3 0 k j) := by
  unfold V
  after_reads_at

theorem entry_cos (n : Fin 4096) (a : Fin 4) (e : Fin 32) :
    (V m c main_v38 : FVec Ideal S4096x128 .f32) (ix2 n ⟨a.val * 32 + e.val, by omega⟩) = Ideal.cos (ang n e) := by
  unfold V
  after_reads_at
  rfl

theorem entry_sin (n : Fin 4096) (p : Fin 2) (d : Fin 64) :
    (V m c main_v43 : FVec Ideal S4096x128 .f32) (ix2 n ⟨p.val * 64 + d.val, by omega⟩)
      = if h : d.val < 32 then -Ideal.sin (ang n ⟨d.val, h⟩) else Ideal.sin (ang n ⟨d.val - 32, by omega⟩) := by
  unfold V
  after_reads_at
  split
  · after_reads_at
    rfl
  · after_reads_at
    rfl

theorem same_block : ∀ a b : Fin 8, IntOp.cmpi CmpIPredicate.eq (IntOp.addi (BitVec.ofNat 32 a.val) 0#32) (BitVec.ofNat 32 b.val) = if a.val = b.val then 1#1 else 0#1 := by
  decide +kernel

theorem block_entry (a b : Nat) (ha : a < 8) (hb : b < 8) (x : EReal) :
    (FloatOps.uitofp (F := Ideal) .f32 (IntOp.cmpi CmpIPredicate.eq (IntOp.addi (BitVec.ofNat 32 a) 0#32) (BitVec.ofNat 32 b)) : EReal) * x
      = if a = b then x else 0 := by
  rw [same_block ⟨a, ha⟩ ⟨b, hb⟩]
  by_cases h : a = b
  · rw [if_pos h, if_pos h]
    show (((1#1).toNat : ℝ) : EReal) * x = x
    simp
  · rw [if_neg h, if_neg h]
    show (((0#1).toNat : ℝ) : EReal) * x = 0
    simp

theorem entry_bd64 (k l : Fin 256) :
    (V m c main_v8 : FVec Ideal S256x256 .bf16) (ix2 k l) = if k.val / 64 = l.val / 64 then Ideal.ofBits .f32 0x3C800000#32 else 0 := by
  unfold V
  after_reads_at
  exact block_entry _ _ (by omega) (by omega) _

theorem entry_bd32 (k l : Fin 256) :
    (V m c main_v17 : FVec Ideal S256x256 .bf16) (ix2 k l) = if k.val / 32 = l.val / 32 then Ideal.ofBits .f32 0x3D000000#32 else 0 := by
  unfold V
  after_reads_at
  exact block_entry _ _ (by omega) (by omega) _

theorem entry_gain0 (i : Fin 8) (d : Fin 64) :
    (V m c main_v64 : FVec Ideal S4x512 .f32) (ix2 0 ⟨i.val * 64 + d.val, by omega⟩) = (m ((c.tc : Thread nD τ).loc main_arg3) : FVec Ideal S1x64 .f32) (ix2 0 d) := by
  unfold V
  after_reads_at
  after_reads_at
  have e : (⟨(i.val * 64 + d.val) % 64, Nat.mod_lt _ (by omega)⟩ : Fin 64) = d := Fin.ext (by show (i.val * 64 + d.val) % 64 = d.val; omega)
  rw [e]

theorem entry_gain1 (i : Fin 8) (d : Fin 64) :
    (V m c main_v64 : FVec Ideal S4x512 .f32) (ix2 1 ⟨i.val * 64 + d.val, by omega⟩) = (m ((c.tc : Thread nD τ).loc main_arg4) : FVec Ideal S1x64 .f32) (ix2 0 d) := by
  unfold V
  after_reads_at
  after_reads_at
  have e : (⟨(i.val * 64 + d.val) % 64, Nat.mod_lt _ (by omega)⟩ : Fin 64) = d := Fin.ext (by show (i.val * 64 + d.val) % 64 = d.val; omega)
  rw [e]

theorem entry_gain2 (i : Fin 16) (d : Fin 32) :
    (V m c main_v64 : FVec Ideal S4x512 .f32) (ix2 2 ⟨i.val * 32 + d.val, by omega⟩) = (m ((c.tc : Thread nD τ).loc main_arg5) : FVec Ideal S1x32 .f32) (ix2 0 d) := by
  unfold V
  after_reads_at
  after_reads_at
  have e : (⟨(i.val * 32 + d.val) % 32, Nat.mod_lt _ (by omega)⟩ : Fin 32) = d := Fin.ext (by show (i.val * 32 + d.val) % 32 = d.val; omega)
  rw [e]

theorem entry_gain3 (i : Fin 16) (d : Fin 32) :
    (V m c main_v64 : FVec Ideal S4x512 .f32) (ix2 3 ⟨i.val * 32 + d.val, by omega⟩) = (m ((c.tc : Thread nD τ).loc main_arg6) : FVec Ideal S1x32 .f32) (ix2 0 d) := by
  unfold V
  after_reads_at
  after_reads_at
  have e : (⟨(i.val * 32 + d.val) % 32, Nat.mod_lt _ (by omega)⟩ : Fin 32) = d := Fin.ext (by show (i.val * 32 + d.val) % 32 = d.val; omega)
  rw [e]

end Cert.Kernel2Ideal.In

end
-- ==== Proof.In.Pay.lean ====
module

public import proofs.«01_k».proof.Proof.Gen.Kernel2Ideal.Frame
public import proofs.«01_k».proof.Proof.In.Math
public import Idealize.ShloMosaic.Lib.Pipeline.ValueKit
public import Idealize.ShloMosaic.Lib.Pointwise

@[expose] public section

set_option maxRecDepth 16384

noncomputable section

/-! One block's values, element by element, over the extended reals. -/

namespace Cert.Kernel2Ideal.In

open Idealize.ShloMosaic Idealize.ShloMosaic.TcCoe Idealize.ShloMosaic.Tactic
open Cert.Kernel2Ideal Cert.Kernel2Ideal.Gen Cert.Inproj

theorem pay6_eq (w : Vec Ideal S1024x3072 .f32) (k : Fin 1024) (c : Fin 3072) : k0_pay6 (F := Ideal) w (ix2 k c) = w (ix2 k c) := by
  pointwise [k0_pay6]

theorem pay7_apply (x : Vec Ideal S1024x1024 .f32) (g : Vec Ideal S1x1024 .f32) (r k : Fin 1024) :
    k0_pay7 (F := Ideal) x g (ix2 r k) = rmsOf (Ideal.ofBits .f32 0x44800000#32) (fun i => x (ix2 r i)) (fun i => g (ix2 0 i)) k := by
  pointwise [k0_pay7, rmsOf]

theorem lane_mask : ∀ l : Fin 128, k0_pay8 (ix2 0 l) = if l.val % 64 < 32 then 1#1 else 0#1 := by
  intro l
  pointwise [k0_pay8]
  revert l
  decide +kernel

/-- The lanes of the first half of their head. -/
theorem pay8_apply (r : Fin 1024) (l : Fin 128) : k0_pay8 (ix2 r l) = if l.val % 64 < 32 then 1#1 else 0#1 := by
  rw [← lane_mask l]
  pointwise [k0_pay8]

/-- A section's columns. -/
def sec (a : FVec Ideal S1024x1024 .bf16) (w : Vec Ideal S1024x512 .bf16) (r : Fin 1024) (j : Fin 512) : EReal :=
  colSum (fun k => a (ix2 r k)) (fun k => w (ix2 k j))

theorem pay1_apply (a : FVec Ideal S1024x1024 .bf16) (w : Vec Ideal S1024x512 .bf16) (r : Fin 1024) (j : Fin 512) :
    k0_pay1 (F := Ideal) a w (ix2 r j) = sec a w r j := by
  pointwise [k0_pay1, sec, colSum]

variable (a : FVec Ideal S1024x1024 .bf16) (w : Vec Ideal S1024x512 .bf16) (bd : Vec Ideal S256x256 .bf16) (g : Vec Ideal S1x512 .f32) (r : Fin 1024)

theorem pay11_lo (l : Fin 256) :
    k0_pay11 (F := Ideal) a w bd bd g (ix2 r ⟨l.val, by omega⟩)
      = sec a w r ⟨l.val, by omega⟩ * Ideal.rsqrt ((∑ k : Fin 256, (sec a w r ⟨k.val, by omega⟩ * sec a w r ⟨k.val, by omega⟩) * bd (ix2 k l)) + Ideal.ofBits .f32 0x358637BD#32)
        * g (ix2 0 ⟨l.val, by omega⟩) := by
  pointwise [k0_pay11, sec, colSum]

theorem pay11_hi (l : Fin 256) :
    k0_pay11 (F := Ideal) a w bd bd g (ix2 r ⟨256 + l.val, by omega⟩)
      = sec a w r ⟨256 + l.val, by omega⟩ * Ideal.rsqrt ((∑ k : Fin 256, (sec a w r ⟨256 + k.val, by omega⟩ * sec a w r ⟨256 + k.val, by omega⟩) * bd (ix2 k l)) + Ideal.ofBits .f32 0x358637BD#32)
        * g (ix2 0 ⟨256 + l.val, by omega⟩) := by
  pointwise [k0_pay11, sec, colSum]

theorem pay11_64 (hbd : ∀ k l : Fin 256, bd (ix2 k l) = if k.val / 64 = l.val / 64 then Ideal.ofBits .f32 0x3C800000#32 else 0) (i : Fin 8) (d : Fin 64) :
    k0_pay11 (F := Ideal) a w bd bd g (ix2 r ⟨i.val * 64 + d.val, by omega⟩)
      = rmsOf (Ideal.ofBits .f32 0x42800000#32) (fun e => sec a w r ⟨i.val * 64 + e.val, by omega⟩) (fun e => g (ix2 0 ⟨i.val * 64 + e.val, by omega⟩)) d := by
  by_cases hi : i.val < 4
  · have e := pay11_lo a w bd g r ⟨i.val * 64 + d.val, by omega⟩
    rw [block_mean' (L := 256) 4 64 rfl (fun k => sec a w r ⟨k.val, by omega⟩ * sec a w r ⟨k.val, by omega⟩) (fun k => sq_nonneg' _) (Ideal.ofBits .f32 0x3C800000#32) ⟨i.val, hi⟩
      (fun k => bd (ix2 k ⟨i.val * 64 + d.val, by omega⟩))
      (fun k => by rw [hbd]; exact if_congr (by show k.val / 64 = (i.val * 64 + d.val) / 64 ↔ k.val / 64 = i.val; omega) rfl rfl)
      (fun d => sec a w r ⟨i.val * 64 + d.val, by omega⟩ * sec a w r ⟨i.val * 64 + d.val, by omega⟩)
      (fun d k hk => by
        have ek : (⟨k.val, by omega⟩ : Fin 512) = ⟨i.val * 64 + d.val, by omega⟩ := Fin.ext (by show k.val = i.val * 64 + d.val; have : k.val = d.val + 64 * i.val := hk; omega)
        rw [ek]), ← mean64] at e
    exact e
  · have ej : (⟨i.val * 64 + d.val, by omega⟩ : Fin 512) = ⟨256 + ((i.val - 4) * 64 + d.val), by omega⟩ := Fin.ext (by show i.val * 64 + d.val = 256 + ((i.val - 4) * 64 + d.val); omega)
    have e := pay11_hi a w bd g r ⟨(i.val - 4) * 64 + d.val, by omega⟩
    rw [block_mean' (L := 256) 4 64 rfl (fun k => sec a w r ⟨256 + k.val, by omega⟩ * sec a w r ⟨256 + k.val, by omega⟩) (fun k => sq_nonneg' _) (Ideal.ofBits .f32 0x3C800000#32) ⟨i.val - 4, by omega⟩
      (fun k => bd (ix2 k ⟨(i.val - 4) * 64 + d.val, by omega⟩))
      (fun k => by rw [hbd]; exact if_congr (by show k.val / 64 = ((i.val - 4) * 64 + d.val) / 64 ↔ k.val / 64 = i.val - 4; omega) rfl rfl)
      (fun d => sec a w r ⟨i.val * 64 + d.val, by omega⟩ * sec a w r ⟨i.val * 64 + d.val, by omega⟩)
      (fun d k hk => by
        have ek : (⟨256 + k.val, by omega⟩ : Fin 512) = ⟨i.val * 64 + d.val, by omega⟩ := Fin.ext (by show 256 + k.val = i.val * 64 + d.val; have : k.val = d.val + 64 * (i.val - 4) := hk; omega)
        rw [ek]), ← mean64] at e
    rw [rmsOf, ej]
    exact e

theorem pay11_32 (hbd : ∀ k l : Fin 256, bd (ix2 k l) = if k.val / 32 = l.val / 32 then Ideal.ofBits .f32 0x3D000000#32 else 0) (i : Fin 16) (d : Fin 32) :
    k0_pay11 (F := Ideal) a w bd bd g (ix2 r ⟨i.val * 32 + d.val, by omega⟩)
      = rmsOf (Ideal.ofBits .f32 0x42000000#32) (fun e => sec a w r ⟨i.val * 32 + e.val, by omega⟩) (fun e => g (ix2 0 ⟨i.val * 32 + e.val, by omega⟩)) d := by
  by_cases hi : i.val < 8
  · have e := pay11_lo a w bd g r ⟨i.val * 32 + d.val, by omega⟩
    rw [block_mean' (L := 256) 8 32 rfl (fun k => sec a w r ⟨k.val, by omega⟩ * sec a w r ⟨k.val, by omega⟩) (fun k => sq_nonneg' _) (Ideal.ofBits .f32 0x3D000000#32) ⟨i.val, hi⟩
      (fun k => bd (ix2 k ⟨i.val * 32 + d.val, by omega⟩))
      (fun k => by rw [hbd]; exact if_congr (by show k.val / 32 = (i.val * 32 + d.val) / 32 ↔ k.val / 32 = i.val; omega) rfl rfl)
      (fun d => sec a w r ⟨i.val * 32 + d.val, by omega⟩ * sec a w r ⟨i.val * 32 + d.val, by omega⟩)
      (fun d k hk => by
        have ek : (⟨k.val, by omega⟩ : Fin 512) = ⟨i.val * 32 + d.val, by omega⟩ := Fin.ext (by show k.val = i.val * 32 + d.val; have : k.val = d.val + 32 * i.val := hk; omega)
        rw [ek]), ← mean32] at e
    exact e
  · have ej : (⟨i.val * 32 + d.val, by omega⟩ : Fin 512) = ⟨256 + ((i.val - 8) * 32 + d.val), by omega⟩ := Fin.ext (by show i.val * 32 + d.val = 256 + ((i.val - 8) * 32 + d.val); omega)
    have e := pay11_hi a w bd g r ⟨(i.val - 8) * 32 + d.val, by omega⟩
    rw [block_mean' (L := 256) 8 32 rfl (fun k => sec a w r ⟨256 + k.val, by omega⟩ * sec a w r ⟨256 + k.val, by omega⟩) (fun k => sq_nonneg' _) (Ideal.ofBits .f32 0x3D000000#32) ⟨i.val - 8, by omega⟩
      (fun k => bd (ix2 k ⟨(i.val - 8) * 32 + d.val, by omega⟩))
      (fun k => by rw [hbd]; exact if_congr (by show k.val / 32 = ((i.val - 8) * 32 + d.val) / 32 ↔ k.val / 32 = i.val - 8; omega) rfl rfl)
      (fun d => sec a w r ⟨i.val * 32 + d.val, by omega⟩ * sec a w r ⟨i.val * 32 + d.val, by omega⟩)
      (fun d k hk => by
        have ek : (⟨256 + k.val, by omega⟩ : Fin 512) = ⟨i.val * 32 + d.val, by omega⟩ := Fin.ext (by show 256 + k.val = i.val * 32 + d.val; have : k.val = d.val + 32 * (i.val - 8) := hk; omega)
        rw [ek]), ← mean32] at e
    rw [rmsOf, ej]
    exact e

/-- A normed section rotated, in the 128 columns from `o`. -/
def ropeAt (N : FVec Ideal S1024x512 .f32) (co si : Vec Ideal S1024x128 .f32) (o : Nat) (ho : o + 128 ≤ 512) (r : Fin 1024) (l : Fin 128) : EReal :=
  N (ix2 r ⟨o + l.val, by omega⟩) * co (ix2 r l)
    + Scalar.select (k0_pay8 (ix2 r l)) (N (ix2 r ⟨o + (l.val + 128 - 96) % 128, by omega⟩)) (N (ix2 r ⟨o + (l.val + 128 - 32) % 128, by omega⟩)) * si (ix2 r l)

variable (N : FVec Ideal S1024x512 .f32) (co si : Vec Ideal S1024x128 .f32) (l : Fin 128)

theorem pay16_apply : k0_pay16 (F := Ideal) k0_pay8 (k0_pay9 co) (k0_pay10 si) N (ix3 0 l r) = ropeAt N co si 256 (by omega) r l := by
  pointwise [k0_pay16, k0_pay9, k0_pay10, ropeAt]
theorem pay17_apply : k0_pay17 (F := Ideal) k0_pay8 (k0_pay9 co) (k0_pay10 si) N (ix3 0 l r) = ropeAt N co si 384 (by omega) r l := by
  pointwise [k0_pay17, k0_pay9, k0_pay10, ropeAt]
theorem pay12_apply : k0_pay12 (F := Ideal) a k0_pay8 co si w bd bd g (ix3 0 l r) = ropeAt (k0_pay11 a w bd bd g) co si 0 (by omega) r l := by
  pointwise [k0_pay12, k0_pay9, k0_pay10, ropeAt]
theorem pay15_apply : k0_pay15 (F := Ideal) k0_pay8 (k0_pay9 co) (k0_pay10 si) (k0_pay13 a w bd bd g) (k0_pay14 a w bd bd g) 32#32 (ix3 0 l r)
    = ropeAt (k0_pay11 a w bd bd g) co si 128 (by omega) r l := by
  pointwise [k0_pay15, k0_pay14, k0_pay13, k0_pay9, k0_pay10, ropeAt]
theorem pay26_apply : k0_pay26 (F := Ideal) k0_pay8 (k0_pay9 co) (k0_pay10 si) N (ix2 r l) = ropeAt N co si 384 (by omega) r l := by
  pointwise [k0_pay26, k0_pay9, k0_pay10, ropeAt]

theorem pay21_eq : k0_pay21 (F := Ideal) (k0_pay18 a w) (k0_pay19 a w) (k0_pay20 a w) bd bd g = k0_pay11 a w bd bd g := rfl
theorem pay33_eq : k0_pay33 (F := Ideal) a w bd bd g = k0_pay11 a w bd bd g := rfl
theorem pay38_eq : k0_pay38 (F := Ideal) a w bd bd g = k0_pay11 a w bd bd g := rfl
theorem pay27_eq : k0_pay27 (F := Ideal) a w = k0_pay1 a w := rfl
theorem pay22_apply : k0_pay22 (F := Ideal) k0_pay8 (k0_pay9 co) (k0_pay10 si) (k0_pay18 a w) (k0_pay19 a w) (k0_pay20 a w) bd bd g (ix2 r l)
    = ropeAt (k0_pay11 a w bd bd g) co si 0 (by omega) r l := by
  unfold k0_pay22
  rw [pay21_eq]
  pointwise [k0_pay9, k0_pay10, ropeAt]
theorem pay23_apply : k0_pay23 (F := Ideal) k0_pay8 (k0_pay9 co) (k0_pay10 si) (k0_pay18 a w) (k0_pay19 a w) (k0_pay20 a w) bd bd g (ix2 r l)
    = ropeAt (k0_pay11 a w bd bd g) co si 128 (by omega) r l := by
  unfold k0_pay23
  rw [pay21_eq]
  pointwise [k0_pay9, k0_pay10, ropeAt]
theorem pay25_apply : k0_pay25 (k0_pay24 (F := Ideal) k0_pay8 (k0_pay9 co) (k0_pay10 si) (k0_pay18 a w) (k0_pay19 a w) (k0_pay20 a w) bd bd g) (ix2 r l)
    = ropeAt (k0_pay11 a w bd bd g) co si 256 (by omega) r l := by
  unfold k0_pay25 k0_pay24
  rw [pay21_eq]
  pointwise [k0_pay9, k0_pay10, ropeAt]

theorem pay2_apply : k0_pay2 (F := Ideal) a w (ix2 r l) = k0_pay1 a w (ix2 r ⟨0 + l.val, by omega⟩) := by
  pointwise [k0_pay2]
theorem pay34_apply : k0_pay34 (F := Ideal) a w bd bd g (ix2 r l) = k0_pay11 a w bd bd g (ix2 r ⟨0 + l.val, by omega⟩) := by
  unfold k0_pay34
  rw [pay33_eq]
  pointwise
theorem pay39_apply : k0_pay39 (F := Ideal) a w bd bd g (ix2 r l) = k0_pay11 a w bd bd g (ix2 r ⟨0 + l.val, by omega⟩) := by
  unfold k0_pay39
  rw [pay38_eq]
  pointwise
theorem pay28_apply : k0_pay28 (F := Ideal) a w (ix3 0 l r) = k0_pay1 a w (ix2 r ⟨0 + l.val, by omega⟩) := by
  unfold k0_pay28
  rw [pay27_eq]
  pointwise
theorem pay3_apply : k0_pay3 (F := Ideal) a w (ix2 r l) = k0_pay1 a w (ix2 r ⟨128 + l.val, by omega⟩) := by
  pointwise [k0_pay3]
theorem pay35_apply : k0_pay35 (F := Ideal) a w bd bd g (ix2 r l) = k0_pay11 a w bd bd g (ix2 r ⟨128 + l.val, by omega⟩) := by
  unfold k0_pay35
  rw [pay33_eq]
  pointwise
theorem pay40_apply : k0_pay40 (F := Ideal) a w bd bd g (ix2 r l) = k0_pay11 a w bd bd g (ix2 r ⟨128 + l.val, by omega⟩) := by
  unfold k0_pay40
  rw [pay38_eq]
  pointwise
theorem pay29_apply : k0_pay29 (F := Ideal) a w (ix3 0 l r) = k0_pay1 a w (ix2 r ⟨128 + l.val, by omega⟩) := by
  unfold k0_pay29
  rw [pay27_eq]
  pointwise
theorem pay4_apply : k0_pay4 (F := Ideal) a w (ix2 r l) = k0_pay1 a w (ix2 r ⟨256 + l.val, by omega⟩) := by
  pointwise [k0_pay4]
theorem pay36_apply : k0_pay36 (F := Ideal) a w bd bd g (ix2 r l) = k0_pay11 a w bd bd g (ix2 r ⟨256 + l.val, by omega⟩) := by
  unfold k0_pay36
  rw [pay33_eq]
  pointwise
theorem pay41_apply : k0_pay41 (F := Ideal) a w bd bd g (ix2 r l) = k0_pay11 a w bd bd g (ix2 r ⟨256 + l.val, by omega⟩) := by
  unfold k0_pay41
  rw [pay38_eq]
  pointwise
theorem pay30_apply : k0_pay30 (F := Ideal) a w (ix3 0 l r) = k0_pay1 a w (ix2 r ⟨256 + l.val, by omega⟩) := by
  unfold k0_pay30
  rw [pay27_eq]
  pointwise
theorem pay5_apply : k0_pay5 (F := Ideal) a w (ix2 r l) = k0_pay1 a w (ix2 r ⟨384 + l.val, by omega⟩) := by
  pointwise [k0_pay5]
theorem pay37_apply : k0_pay37 (F := Ideal) a w bd bd g (ix2 r l) = k0_pay11 a w bd bd g (ix2 r ⟨384 + l.val, by omega⟩) := by
  unfold k0_pay37
  rw [pay33_eq]
  pointwise
theorem pay42_apply : k0_pay42 (F := Ideal) a w bd bd g (ix2 r l) = k0_pay11 a w bd bd g (ix2 r ⟨384 + l.val, by omega⟩) := by
  unfold k0_pay42
  rw [pay38_eq]
  pointwise
theorem pay31_apply : k0_pay32 (k0_pay31 (F := Ideal) a w) (ix3 0 l r) = k0_pay1 a w (ix2 r ⟨384 + l.val, by omega⟩) := by
  unfold k0_pay32 k0_pay31
  rw [pay27_eq]
  pointwise

/-- A rotated head, from its normed entries and its rows of the two tables. -/
theorem ropeAt_turn (o : Nat) (ho : o + 128 ≤ 512) (p : Fin 2) (d : Fin 64) (y : Fin 64 → EReal) (cs sn : Fin 32 → EReal)
    (hN : ∀ e : Fin 64, N (ix2 r ⟨o + (p.val * 64 + e.val), by omega⟩) = y e)
    (hc : ∀ e : Fin 64, co (ix2 r ⟨p.val * 64 + e.val, by omega⟩) = cs ⟨e.val % 32, by omega⟩)
    (hs : ∀ e : Fin 64, si (ix2 r ⟨p.val * 64 + e.val, by omega⟩) = if h : e.val < 32 then -sn ⟨e.val, h⟩ else sn ⟨e.val - 32, by omega⟩) :
    ropeAt N co si o ho r ⟨p.val * 64 + d.val, by omega⟩ = turn y cs sn d := by
  unfold ropeAt turn
  rw [pay8_apply]
  have hm : (p.val * 64 + d.val) % 64 = d.val := by omega
  by_cases hd : d.val < 32
  · rw [dif_pos hd, if_pos (by show (p.val * 64 + d.val) % 64 < 32; omega), hc, hs, dif_pos hd, hN]
    show y d * cs _ + N _ * _ = _
    have e1 : (⟨o + (p.val * 64 + d.val + 128 - 96) % 128, by omega⟩ : Fin 512) = ⟨o + (p.val * 64 + (32 + d.val)), by omega⟩ :=
      Fin.ext (by show o + (p.val * 64 + d.val + 128 - 96) % 128 = o + (p.val * 64 + (32 + d.val)); omega)
    have e2 : (⟨d.val % 32, by omega⟩ : Fin 32) = ⟨d.val, hd⟩ := Fin.ext (by show d.val % 32 = d.val; omega)
    rw [e1, hN ⟨32 + d.val, by omega⟩, e2, mul_neg, ← sub_eq_add_neg]
  · rw [dif_neg hd, if_neg (by show ¬ (p.val * 64 + d.val) % 64 < 32; omega), hc, hs, dif_neg hd, hN]
    show y d * cs _ + N _ * _ = _
    have e1 : (⟨o + (p.val * 64 + d.val + 128 - 32) % 128, by omega⟩ : Fin 512) = ⟨o + (p.val * 64 + (d.val - 32)), by omega⟩ :=
      Fin.ext (by show o + (p.val * 64 + d.val + 128 - 32) % 128 = o + (p.val * 64 + (d.val - 32)); omega)
    have e2 : (⟨d.val % 32, by omega⟩ : Fin 32) = ⟨d.val - 32, by omega⟩ := Fin.ext (by show d.val % 32 = d.val - 32; omega)
    rw [e1, hN ⟨d.val - 32, by omega⟩, e2]

end Cert.Kernel2Ideal.In

end
-- ==== Proof.In.Out.lean ====
module

public import proofs.«01_k».proof.Proof.In.Pay

@[expose] public section

set_option maxRecDepth 16384

noncomputable section

/-! One grid point's two output blocks, by the sections of their columns. -/

namespace Cert.Kernel2Ideal.In

open Idealize.ShloMosaic Idealize.ShloMosaic.TcCoe Idealize.ShloMosaic.Tactic
open Cert.Kernel2Ideal Cert.Kernel2Ideal.Gen Cert.Inproj

/-- The stores of the row-wise output, the last one first. -/
def pieces8 (a : FVec Ideal S1024x1024 .bf16) (w1 w3 w4 w5 : Vec Ideal S1024x512 .bf16) (bd64 bd32 : Vec Ideal S256x256 .bf16)
    (g1 g2 g3 : Vec Ideal S1x512 .f32) (co si : Vec Ideal S1024x128 .f32) : List (View.Piece (Elt Ideal) S1024x2048 .bf16) :=
  [⟨Rect.unit ![0, 1920] ![1024, 128] inb_S1024x2048_S1024x128_0_1920, k0_pay5 a w5⟩,
    ⟨Rect.unit ![0, 1792] ![1024, 128] inb_S1024x2048_S1024x128_0_1792, k0_pay4 a w5⟩,
    ⟨Rect.unit ![0, 1664] ![1024, 128] inb_S1024x2048_S1024x128_0_1664, k0_pay3 a w5⟩,
    ⟨Rect.unit ![0, 1536] ![1024, 128] inb_S1024x2048_S1024x128_0_1536, k0_pay2 a w5⟩,
    ⟨Rect.unit ![0, 1408] ![1024, 128] inb_S1024x2048_S1024x128_0_1408, k0_pay42 a w4 bd32 bd32 g3⟩,
    ⟨Rect.unit ![0, 1280] ![1024, 128] inb_S1024x2048_S1024x128_0_1280, k0_pay41 a w4 bd32 bd32 g3⟩,
    ⟨Rect.unit ![0, 1152] ![1024, 128] inb_S1024x2048_S1024x128_0_1152, k0_pay40 a w4 bd32 bd32 g3⟩,
    ⟨Rect.unit ![0, 1024] ![1024, 128] inb_S1024x2048_S1024x128_0_1024, k0_pay39 a w4 bd32 bd32 g3⟩,
    ⟨Rect.unit ![0, 896] ![1024, 128] inb_S1024x2048_S1024x128_0_896, k0_pay37 a w3 bd32 bd32 g2⟩,
    ⟨Rect.unit ![0, 768] ![1024, 128] inb_S1024x2048_S1024x128_0_768, k0_pay36 a w3 bd32 bd32 g2⟩,
    ⟨Rect.unit ![0, 640] ![1024, 128] inb_S1024x2048_S1024x128_0_640, k0_pay35 a w3 bd32 bd32 g2⟩,
    ⟨Rect.unit ![0, 512] ![1024, 128] inb_S1024x2048_S1024x128_0_512, k0_pay34 a w3 bd32 bd32 g2⟩,
    ⟨Rect.unit ![0, 384] ![1024, 128] inb_S1024x2048_S1024x128_0_384, k0_pay26 k0_pay8 (k0_pay9 co) (k0_pay10 si) (k0_pay21 (k0_pay18 a w1) (k0_pay19 a w1) (k0_pay20 a w1) bd64 bd64 g1)⟩,
    ⟨Rect.unit ![0, 256] ![1024, 128] inb_S1024x2048_S1024x128_0_256, k0_pay25 (k0_pay24 k0_pay8 (k0_pay9 co) (k0_pay10 si) (k0_pay18 a w1) (k0_pay19 a w1) (k0_pay20 a w1) bd64 bd64 g1)⟩,
    ⟨Rect.unit ![0, 128] ![1024, 128] inb_S1024x2048_S1024x128_0_128, k0_pay23 k0_pay8 (k0_pay9 co) (k0_pay10 si) (k0_pay18 a w1) (k0_pay19 a w1) (k0_pay20 a w1) bd64 bd64 g1⟩,
    ⟨Rect.unit ![0, 0] ![1024, 128] inb_S1024x2048_S1024x128_0_0, k0_pay22 k0_pay8 (k0_pay9 co) (k0_pay10 si) (k0_pay18 a w1) (k0_pay19 a w1) (k0_pay20 a w1) bd64 bd64 g1⟩]

/-- The stores of the column-wise output, the last one first. -/
def pieces9 (a : FVec Ideal S1024x1024 .bf16) (w0 w2 : Vec Ideal S1024x512 .bf16) (bd64 : Vec Ideal S256x256 .bf16)
    (g0 : Vec Ideal S1x512 .f32) (co si : Vec Ideal S1024x128 .f32) : List (View.Piece (Elt Ideal) S1x1024x1024 .bf16) :=
  [⟨Rect.unit ![0, 896, 0] ![1, 128, 1024] inb_S1x1024x1024_S1x128x1024_0_896_0, k0_pay32 (k0_pay31 a w2)⟩,
    ⟨Rect.unit ![0, 768, 0] ![1, 128, 1024] inb_S1x1024x1024_S1x128x1024_0_768_0, k0_pay30 a w2⟩,
    ⟨Rect.unit ![0, 640, 0] ![1, 128, 1024] inb_S1x1024x1024_S1x128x1024_0_640_0, k0_pay29 a w2⟩,
    ⟨Rect.unit ![0, 512, 0] ![1, 128, 1024] inb_S1x1024x1024_S1x128x1024_0_512_0, k0_pay28 a w2⟩,
    ⟨Rect.unit ![0, 384, 0] ![1, 128, 1024] inb_S1x1024x1024_S1x128x1024_0_384_0, k0_pay17 k0_pay8 (k0_pay9 co) (k0_pay10 si) (k0_pay11 a w0 bd64 bd64 g0)⟩,
    ⟨Rect.unit ![0, 256, 0] ![1, 128, 1024] inb_S1x1024x1024_S1x128x1024_0_256_0, k0_pay16 k0_pay8 (k0_pay9 co) (k0_pay10 si) (k0_pay11 a w0 bd64 bd64 g0)⟩,
    ⟨Rect.unit ![0, 128, 0] ![1, 128, 1024] inb_S1x1024x1024_S1x128x1024_0_128_0, k0_pay15 k0_pay8 (k0_pay9 co) (k0_pay10 si) (k0_pay13 a w0 bd64 bd64 g0) (k0_pay14 a w0 bd64 bd64 g0) 32#32⟩,
    ⟨Rect.unit ![0, 0, 0] ![1, 128, 1024] inb_S1x1024x1024_S1x128x1024_0_0_0, k0_pay12 a k0_pay8 co si w0 bd64 bd64 g0⟩]

variable (a : FVec Ideal S1024x1024 .bf16) (w0 w1 w2 w3 w4 w5 : Vec Ideal S1024x512 .bf16) (bd64 bd32 : Vec Ideal S256x256 .bf16)
  (g0 g1 g2 g3 : Vec Ideal S1x512 .f32) (co si : Vec Ideal S1024x128 .f32) (r : Fin 1024)

theorem idx_rows (x : S1024x128.Idx) (h0 : r.val = (x 0).val) (l : Fin 128) (h1 : l.val = (x 1).val) : x = ix2 r l := by
  funext a
  match a with
  | ⟨0, _⟩ => exact Fin.ext h0.symm
  | ⟨1, _⟩ => exact Fin.ext h1.symm

theorem idx_cols (x : S1x128x1024.Idx) (h0 : 0 = (x 0).val) (l : Fin 128) (h1 : l.val = (x 1).val) (h2 : r.val = (x 2).val) : x = ix3 0 l r := by
  funext a
  match a with
  | ⟨0, _⟩ => exact Fin.ext h0.symm
  | ⟨1, _⟩ => exact Fin.ext h1.symm
  | ⟨2, _⟩ => exact Fin.ext h2.symm

theorem canon_q (h : Fin 4) (l : Fin 128) : View.canon (pieces8 a w1 w3 w4 w5 bd64 bd32 g1 g2 g3 co si) (ix2 r ⟨h.val * 128 + l.val, by omega⟩)
    = ropeAt (k0_pay11 a w1 bd64 bd64 g1) co si (h.val * 128) (by omega) r l := by
  unfold pieces8
  canon_tiles x e
  · have e1' : h.val * 128 + l.val = 1920 + (x 1).val := e1
    omega
  · have e1' : h.val * 128 + l.val = 1792 + (x 1).val := e1
    omega
  · have e1' : h.val * 128 + l.val = 1664 + (x 1).val := e1
    omega
  · have e1' : h.val * 128 + l.val = 1536 + (x 1).val := e1
    omega
  · have e1' : h.val * 128 + l.val = 1408 + (x 1).val := e1
    omega
  · have e1' : h.val * 128 + l.val = 1280 + (x 1).val := e1
    omega
  · have e1' : h.val * 128 + l.val = 1152 + (x 1).val := e1
    omega
  · have e1' : h.val * 128 + l.val = 1024 + (x 1).val := e1
    omega
  · have e1' : h.val * 128 + l.val = 896 + (x 1).val := e1
    omega
  · have e1' : h.val * 128 + l.val = 768 + (x 1).val := e1
    omega
  · have e1' : h.val * 128 + l.val = 640 + (x 1).val := e1
    omega
  · have e1' : h.val * 128 + l.val = 512 + (x 1).val := e1
    omega
  · have e1' : h.val * 128 + l.val = 384 + (x 1).val := e1
    obtain rfl : h = 3 := Fin.ext (by show h.val = 3; omega)
    rw [idx_rows r x e0 l (by change 3 * 128 + l.val = _ at e1'; omega)]
    exact pay26_apply r _ co si l
  · have e1' : h.val * 128 + l.val = 256 + (x 1).val := e1
    obtain rfl : h = 2 := Fin.ext (by show h.val = 2; omega)
    rw [idx_rows r x e0 l (by change 2 * 128 + l.val = _ at e1'; omega)]
    exact pay25_apply a w1 bd64 g1 r co si l
  · have e1' : h.val * 128 + l.val = 128 + (x 1).val := e1
    obtain rfl : h = 1 := Fin.ext (by show h.val = 1; omega)
    rw [idx_rows r x e0 l (by change 1 * 128 + l.val = _ at e1'; omega)]
    exact pay23_apply a w1 bd64 g1 r co si l
  · have e1' : h.val * 128 + l.val = (x 1).val := e1
    obtain rfl : h = 0 := Fin.ext (by show h.val = 0; omega)
    rw [idx_rows r x e0 l (by change 0 * 128 + l.val = _ at e1'; omega)]
    exact pay22_apply a w1 bd64 g1 r co si l

theorem canon_nq (h : Fin 4) (l : Fin 128) : View.canon (pieces8 a w1 w3 w4 w5 bd64 bd32 g1 g2 g3 co si) (ix2 r ⟨512 + (h.val * 128 + l.val), by omega⟩)
    = k0_pay11 a w3 bd32 bd32 g2 (ix2 r ⟨h.val * 128 + l.val, by omega⟩) := by
  unfold pieces8
  canon_tiles x e
  · have e1' : 512 + (h.val * 128 + l.val) = 1920 + (x 1).val := e1
    omega
  · have e1' : 512 + (h.val * 128 + l.val) = 1792 + (x 1).val := e1
    omega
  · have e1' : 512 + (h.val * 128 + l.val) = 1664 + (x 1).val := e1
    omega
  · have e1' : 512 + (h.val * 128 + l.val) = 1536 + (x 1).val := e1
    omega
  · have e1' : 512 + (h.val * 128 + l.val) = 1408 + (x 1).val := e1
    omega
  · have e1' : 512 + (h.val * 128 + l.val) = 1280 + (x 1).val := e1
    omega
  · have e1' : 512 + (h.val * 128 + l.val) = 1152 + (x 1).val := e1
    omega
  · have e1' : 512 + (h.val * 128 + l.val) = 1024 + (x 1).val := e1
    omega
  · have e1' : 512 + (h.val * 128 + l.val) = 896 + (x 1).val := e1
    obtain rfl : h = 3 := Fin.ext (by show h.val = 3; omega)
    rw [idx_rows r x e0 l (by change 512 + (3 * 128 + l.val) = _ at e1'; omega)]
    exact pay37_apply a w3 bd32 g2 r l
  · have e1' : 512 + (h.val * 128 + l.val) = 768 + (x 1).val := e1
    obtain rfl : h = 2 := Fin.ext (by show h.val = 2; omega)
    rw [idx_rows r x e0 l (by change 512 + (2 * 128 + l.val) = _ at e1'; omega)]
    exact pay36_apply a w3 bd32 g2 r l
  · have e1' : 512 + (h.val * 128 + l.val) = 640 + (x 1).val := e1
    obtain rfl : h = 1 := Fin.ext (by show h.val = 1; omega)
    rw [idx_rows r x e0 l (by change 512 + (1 * 128 + l.val) = _ at e1'; omega)]
    exact pay35_apply a w3 bd32 g2 r l
  · have e1' : 512 + (h.val * 128 + l.val) = 512 + (x 1).val := e1
    obtain rfl : h = 0 := Fin.ext (by show h.val = 0; omega)
    rw [idx_rows r x e0 l (by change 512 + (0 * 128 + l.val) = _ at e1'; omega)]
    exact pay34_apply a w3 bd32 g2 r l
  · have e1' : 512 + (h.val * 128 + l.val) = 384 + (x 1).val := e1
    omega
  · have e1' : 512 + (h.val * 128 + l.val) = 256 + (x 1).val := e1
    omega
  · have e1' : 512 + (h.val * 128 + l.val) = 128 + (x 1).val := e1
    omega
  · have e1' : 512 + (h.val * 128 + l.val) = (x 1).val := e1
    omega

theorem canon_nk (h : Fin 4) (l : Fin 128) : View.canon (pieces8 a w1 w3 w4 w5 bd64 bd32 g1 g2 g3 co si) (ix2 r ⟨1024 + (h.val * 128 + l.val), by omega⟩)
    = k0_pay11 a w4 bd32 bd32 g3 (ix2 r ⟨h.val * 128 + l.val, by omega⟩) := by
  unfold pieces8
  canon_tiles x e
  · have e1' : 1024 + (h.val * 128 + l.val) = 1920 + (x 1).val := e1
    omega
  · have e1' : 1024 + (h.val * 128 + l.val) = 1792 + (x 1).val := e1
    omega
  · have e1' : 1024 + (h.val * 128 + l.val) = 1664 + (x 1).val := e1
    omega
  · have e1' : 1024 + (h.val * 128 + l.val) = 1536 + (x 1).val := e1
    omega
  · have e1' : 1024 + (h.val * 128 + l.val) = 1408 + (x 1).val := e1
    obtain rfl : h = 3 := Fin.ext (by show h.val = 3; omega)
    rw [idx_rows r x e0 l (by change 1024 + (3 * 128 + l.val) = _ at e1'; omega)]
    exact pay42_apply a w4 bd32 g3 r l
  · have e1' : 1024 + (h.val * 128 + l.val) = 1280 + (x 1).val := e1
    obtain rfl : h = 2 := Fin.ext (by show h.val = 2; omega)
    rw [idx_rows r x e0 l (by change 1024 + (2 * 128 + l.val) = _ at e1'; omega)]
    exact pay41_apply a w4 bd32 g3 r l
  · have e1' : 1024 + (h.val * 128 + l.val) = 1152 + (x 1).val := e1
    obtain rfl : h = 1 := Fin.ext (by show h.val = 1; omega)
    rw [idx_rows r x e0 l (by change 1024 + (1 * 128 + l.val) = _ at e1'; omega)]
    exact pay40_apply a w4 bd32 g3 r l
  · have e1' : 1024 + (h.val * 128 + l.val) = 1024 + (x 1).val := e1
    obtain rfl : h = 0 := Fin.ext (by show h.val = 0; omega)
    rw [idx_rows r x e0 l (by change 1024 + (0 * 128 + l.val) = _ at e1'; omega)]
    exact pay39_apply a w4 bd32 g3 r l
  · have e1' : 1024 + (h.val * 128 + l.val) = 896 + (x 1).val := e1
    omega
  · have e1' : 1024 + (h.val * 128 + l.val) = 768 + (x 1).val := e1
    omega
  · have e1' : 1024 + (h.val * 128 + l.val) = 640 + (x 1).val := e1
    omega
  · have e1' : 1024 + (h.val * 128 + l.val) = 512 + (x 1).val := e1
    omega
  · have e1' : 1024 + (h.val * 128 + l.val) = 384 + (x 1).val := e1
    omega
  · have e1' : 1024 + (h.val * 128 + l.val) = 256 + (x 1).val := e1
    omega
  · have e1' : 1024 + (h.val * 128 + l.val) = 128 + (x 1).val := e1
    omega
  · have e1' : 1024 + (h.val * 128 + l.val) = (x 1).val := e1
    omega

theorem canon_nv (h : Fin 4) (l : Fin 128) : View.canon (pieces8 a w1 w3 w4 w5 bd64 bd32 g1 g2 g3 co si) (ix2 r ⟨1536 + (h.val * 128 + l.val), by omega⟩)
    = k0_pay1 a w5 (ix2 r ⟨h.val * 128 + l.val, by omega⟩) := by
  unfold pieces8
  canon_tiles x e
  · have e1' : 1536 + (h.val * 128 + l.val) = 1920 + (x 1).val := e1
    obtain rfl : h = 3 := Fin.ext (by show h.val = 3; omega)
    rw [idx_rows r x e0 l (by change 1536 + (3 * 128 + l.val) = _ at e1'; omega)]
    exact pay5_apply a w5 r l
  · have e1' : 1536 + (h.val * 128 + l.val) = 1792 + (x 1).val := e1
    obtain rfl : h = 2 := Fin.ext (by show h.val = 2; omega)
    rw [idx_rows r x e0 l (by change 1536 + (2 * 128 + l.val) = _ at e1'; omega)]
    exact pay4_apply a w5 r l
  · have e1' : 1536 + (h.val * 128 + l.val) = 1664 + (x 1).val := e1
    obtain rfl : h = 1 := Fin.ext (by show h.val = 1; omega)
    rw [idx_rows r x e0 l (by change 1536 + (1 * 128 + l.val) = _ at e1'; omega)]
    exact pay3_apply a w5 r l
  · have e1' : 1536 + (h.val * 128 + l.val) = 1536 + (x 1).val := e1
    obtain rfl : h = 0 := Fin.ext (by show h.val = 0; omega)
    rw [idx_rows r x e0 l (by change 1536 + (0 * 128 + l.val) = _ at e1'; omega)]
    exact pay2_apply a w5 r l
  · have e1' : 1536 + (h.val * 128 + l.val) = 1408 + (x 1).val := e1
    omega
  · have e1' : 1536 + (h.val * 128 + l.val) = 1280 + (x 1).val := e1
    omega
  · have e1' : 1536 + (h.val * 128 + l.val) = 1152 + (x 1).val := e1
    omega
  · have e1' : 1536 + (h.val * 128 + l.val) = 1024 + (x 1).val := e1
    omega
  · have e1' : 1536 + (h.val * 128 + l.val) = 896 + (x 1).val := e1
    omega
  · have e1' : 1536 + (h.val * 128 + l.val) = 768 + (x 1).val := e1
    omega
  · have e1' : 1536 + (h.val * 128 + l.val) = 640 + (x 1).val := e1
    omega
  · have e1' : 1536 + (h.val * 128 + l.val) = 512 + (x 1).val := e1
    omega
  · have e1' : 1536 + (h.val * 128 + l.val) = 384 + (x 1).val := e1
    omega
  · have e1' : 1536 + (h.val * 128 + l.val) = 256 + (x 1).val := e1
    omega
  · have e1' : 1536 + (h.val * 128 + l.val) = 128 + (x 1).val := e1
    omega
  · have e1' : 1536 + (h.val * 128 + l.val) = (x 1).val := e1
    omega

theorem canon_k (h : Fin 4) (l : Fin 128) : View.canon (pieces9 a w0 w2 bd64 g0 co si) (ix3 0 ⟨h.val * 128 + l.val, by omega⟩ r)
    = ropeAt (k0_pay11 a w0 bd64 bd64 g0) co si (h.val * 128) (by omega) r l := by
  unfold pieces9
  canon_tiles x e
  · have e1' : h.val * 128 + l.val = 896 + (x 1).val := e1
    omega
  · have e1' : h.val * 128 + l.val = 768 + (x 1).val := e1
    omega
  · have e1' : h.val * 128 + l.val = 640 + (x 1).val := e1
    omega
  · have e1' : h.val * 128 + l.val = 512 + (x 1).val := e1
    omega
  · have e1' : h.val * 128 + l.val = 384 + (x 1).val := e1
    obtain rfl : h = 3 := Fin.ext (by show h.val = 3; omega)
    rw [idx_cols r x e0 l (by change 3 * 128 + l.val = _ at e1'; omega) e2]
    exact pay17_apply r _ co si l
  · have e1' : h.val * 128 + l.val = 256 + (x 1).val := e1
    obtain rfl : h = 2 := Fin.ext (by show h.val = 2; omega)
    rw [idx_cols r x e0 l (by change 2 * 128 + l.val = _ at e1'; omega) e2]
    exact pay16_apply r _ co si l
  · have e1' : h.val * 128 + l.val = 128 + (x 1).val := e1
    obtain rfl : h = 1 := Fin.ext (by show h.val = 1; omega)
    rw [idx_cols r x e0 l (by change 1 * 128 + l.val = _ at e1'; omega) e2]
    exact pay15_apply a w0 bd64 g0 r co si l
  · have e1' : h.val * 128 + l.val = (x 1).val := e1
    obtain rfl : h = 0 := Fin.ext (by show h.val = 0; omega)
    rw [idx_cols r x e0 l (by change 0 * 128 + l.val = _ at e1'; omega) e2]
    exact pay12_apply a w0 bd64 g0 r co si l

theorem canon_v (h : Fin 4) (l : Fin 128) : View.canon (pieces9 a w0 w2 bd64 g0 co si) (ix3 0 ⟨512 + (h.val * 128 + l.val), by omega⟩ r)
    = k0_pay1 a w2 (ix2 r ⟨h.val * 128 + l.val, by omega⟩) := by
  unfold pieces9
  canon_tiles x e
  · have e1' : 512 + (h.val * 128 + l.val) = 896 + (x 1).val := e1
    obtain rfl : h = 3 := Fin.ext (by show h.val = 3; omega)
    rw [idx_cols r x e0 l (by change 512 + (3 * 128 + l.val) = _ at e1'; omega) e2]
    exact pay31_apply a w2 r l
  · have e1' : 512 + (h.val * 128 + l.val) = 768 + (x 1).val := e1
    obtain rfl : h = 2 := Fin.ext (by show h.val = 2; omega)
    rw [idx_cols r x e0 l (by change 512 + (2 * 128 + l.val) = _ at e1'; omega) e2]
    exact pay30_apply a w2 r l
  · have e1' : 512 + (h.val * 128 + l.val) = 640 + (x 1).val := e1
    obtain rfl : h = 1 := Fin.ext (by show h.val = 1; omega)
    rw [idx_cols r x e0 l (by change 512 + (1 * 128 + l.val) = _ at e1'; omega) e2]
    exact pay29_apply a w2 r l
  · have e1' : 512 + (h.val * 128 + l.val) = 512 + (x 1).val := e1
    obtain rfl : h = 0 := Fin.ext (by show h.val = 0; omega)
    rw [idx_cols r x e0 l (by change 512 + (0 * 128 + l.val) = _ at e1'; omega) e2]
    exact pay28_apply a w2 r l
  · have e1' : 512 + (h.val * 128 + l.val) = 384 + (x 1).val := e1
    omega
  · have e1' : 512 + (h.val * 128 + l.val) = 256 + (x 1).val := e1
    omega
  · have e1' : 512 + (h.val * 128 + l.val) = 128 + (x 1).val := e1
    omega
  · have e1' : 512 + (h.val * 128 + l.val) = (x 1).val := e1
    omega

/-! ## The grid points -/

variable (m : (ℓ : Loc nD τ sig) → Buf (Elt Ideal) ℓ) (c : Dev nD)

theorem scrA (t : Fin cfg0.N) (h0 : t.val % 16 = 0) : (outsAt0 m c t.val t.isLt).2.2 = k0_pay6 (iblk m c 2 t) := by
  rw [outsAt0_A m c t h0]
  frame_out

theorem scrB (t : Fin cfg0.N) (h0 : ¬ t.val % 16 = 0) : (outsAt0 m c t.val t.isLt).2.2 = (outsAt0 m c (t.val - 1) (Nat.lt_of_le_of_lt (Nat.sub_le _ _) t.isLt)).2.2 := by
  rw [outsAt0_B m c t h0]
  rfl

/-- A section of the weights: 512 columns from `o`. -/
def wsec (W : Vec Ideal S1024x3072 .bf16) (o : Nat) (ho : o + 512 ≤ 3072) : Vec Ideal S1024x512 .bf16 :=
  fun x => W (ix2 (x 0) ⟨o + (x 1).val, by have : (x 1).val < 512 := (x 1).isLt; omega⟩)

/-- A row of the gains. -/
def grow (G : Vec Ideal S4x512 .f32) (s : Fin 4) : Vec Ideal S1x512 .f32 := fun x => G (ix2 s (x 1))

theorem ld_wsec (W : Vec Ideal S1024x3072 .bf16) (o : Nat) (ho : o + 512 ≤ 3072) (inb) :
    View.ld W (Rect.unit ![0, o] ![1024, 512] inb) = wsec W o ho := by
  funext x
  show W _ = W _
  refine congrArg W ?_
  funext b
  match b with
  | ⟨0, _⟩ => exact Fin.ext ((Rect.idx_unit_val _ _ _ _ _).trans (Nat.zero_add _))
  | ⟨1, _⟩ => exact Fin.ext (Rect.idx_unit_val _ _ _ _ _)

theorem ld_grow (G : Vec Ideal S4x512 .f32) (s : Nat) (hs : s < 4) (inb) :
    View.ld G (Rect.unit ![s, 0] ![1, 512] inb) = grow G ⟨s, hs⟩ := by
  funext x
  show G _ = G _
  refine congrArg G ?_
  have hx : (x 0).val < 1 := (x 0).isLt
  funext b
  match b with
  | ⟨0, _⟩ => exact Fin.ext ((Rect.idx_unit_val _ _ _ _ _).trans (by show s + (x 0).val = s; omega))
  | ⟨1, _⟩ => exact Fin.ext ((Rect.idx_unit_val _ _ _ _ _).trans (Nat.zero_add _))

theorem readCov_whole (W : Vec Ideal S1024x3072 .bf16) (B : Rect S1024x3072) :
    (View.whole cc0_scratch0).readCov (Val := Elt Ideal) [⟨Rect.unit ![0, 0] ![1024, 3072] inb_S1024x3072_S1024x3072_0_0, W⟩] B.toLoadRect
      = View.ld (Val := Elt Ideal) (S := S1024x3072) W B := by
  refine (View.readCov_eq_canon' _ _ _).trans (funext fun j => ?_)
  show View.canon _ (B.idx j) = W (B.idx j)
  generalize B.idx j = y
  canon_tiles x e
  refine congrArg W ?_
  funext b
  match b with
  | ⟨0, _⟩ => exact Fin.ext e0.symm
  | ⟨1, _⟩ => exact Fin.ext e1.symm

/-- The stores at a grid point whose weights, kept from the first one, are `W`. -/
def at8 (t : Fin cfg0.N) (W : Vec Ideal S1024x3072 .bf16) : List (View.Piece (Elt Ideal) S1024x2048 .bf16) :=
  pieces8 (k0_pay7 (iblk m c 0 t) (iblk m c 1 t)) (wsec W 512 (by omega)) (wsec W 1536 (by omega)) (wsec W 2048 (by omega)) (wsec W 2560 (by omega))
    (iblk m c 3 t) (iblk m c 4 t) (grow (iblk m c 5 t) 1) (grow (iblk m c 5 t) 2) (grow (iblk m c 5 t) 3) (iblk m c 6 t) (iblk m c 7 t)

def at9 (t : Fin cfg0.N) (W : Vec Ideal S1024x3072 .bf16) : List (View.Piece (Elt Ideal) S1x1024x1024 .bf16) :=
  pieces9 (k0_pay7 (iblk m c 0 t) (iblk m c 1 t)) (wsec W 0 (by omega)) (wsec W 1024 (by omega))
    (iblk m c 3 t) (grow (iblk m c 5 t) 0) (iblk m c 6 t) (iblk m c 7 t)

theorem congr8 {w1 w1' w3 w3' w4 w4' w5 w5' : Vec Ideal S1024x512 .bf16} {g1 g1' g2 g2' g3 g3' : Vec Ideal S1x512 .f32}
    (e1 : w1 = w1') (e3 : w3 = w3') (e4 : w4 = w4') (e5 : w5 = w5') (f1 : g1 = g1') (f2 : g2 = g2') (f3 : g3 = g3') :
    View.canon (pieces8 a w1 w3 w4 w5 bd64 bd32 g1 g2 g3 co si) = View.canon (pieces8 a w1' w3' w4' w5' bd64 bd32 g1' g2' g3' co si) := by
  subst e1; subst e3; subst e4; subst e5; subst f1; subst f2; subst f3; rfl

theorem congr9 {w0 w0' w2 w2' : Vec Ideal S1024x512 .bf16} {g0 g0' : Vec Ideal S1x512 .f32} (e0 : w0 = w0') (e2 : w2 = w2') (f0 : g0 = g0') :
    View.canon (pieces9 a w0 w2 bd64 g0 co si) = View.canon (pieces9 a w0' w2' bd64 g0' co si) := by
  subst e0; subst e2; subst f0; rfl

theorem first_wsec (W : Vec Ideal S1024x3072 .bf16) (o : Nat) (ho : o + 512 ≤ 3072) (inb) :
    (View.whole cc0_scratch0).readCov (Val := Elt Ideal) [⟨Rect.unit ![0, 0] ![1024, 3072] inb_S1024x3072_S1024x3072_0_0, W⟩] (Rect.unit ![0, o] ![1024, 512] inb).toLoadRect
      = wsec W o ho := (readCov_whole W _).trans (ld_wsec W o ho inb)

theorem kept_wsec (W : Vec Ideal S1024x3072 .bf16) (h : (Memref.whole cc0_scratch0).IsWhole) (o : Nat) (ho : o + 512 ≤ 3072) (inb) :
    View.ld (Val := Elt Ideal) (S := S1024x3072) (View.read (Elt Ideal) (View.whole cc0_scratch0) (h.unread W)) (Rect.unit ![0, o] ![1024, 512] inb)
      = wsec W o ho :=
  (congrArg (fun X : Vec Ideal S1024x3072 .bf16 => View.ld (Val := Elt Ideal) (S := S1024x3072) X (Rect.unit ![0, o] ![1024, 512] inb)) (h.read_unread W)).trans (ld_wsec W o ho inb)

theorem out8A (t : Fin cfg0.N) (h0 : t.val % 16 = 0) : (outsAt0 m c t.val t.isLt).1 = View.canon (at8 m c t (outsAt0 m c t.val t.isLt).2.2) := by
  rw [scrA m c t h0, outsAt0_A m c t h0]
  unfold at8
  frame_out
  exact congr8 _ _ _ _ _ (first_wsec _ 512 (by omega) _) (first_wsec _ 1536 (by omega) _) (first_wsec _ 2048 (by omega) _) (first_wsec _ 2560 (by omega) _) (ld_grow _ 1 (by omega) _) (ld_grow _ 2 (by omega) _) (ld_grow _ 3 (by omega) _)

theorem out8B (t : Fin cfg0.N) (h0 : ¬ t.val % 16 = 0) : (outsAt0 m c t.val t.isLt).1 = View.canon (at8 m c t (outsAt0 m c t.val t.isLt).2.2) := by
  rw [scrB m c t h0, outsAt0_B m c t h0]
  unfold at8
  frame_out
  exact congr8 _ _ _ _ _ (kept_wsec _ _ 512 (by omega) _) (kept_wsec _ _ 1536 (by omega) _) (kept_wsec _ _ 2048 (by omega) _) (kept_wsec _ _ 2560 (by omega) _) (ld_grow _ 1 (by omega) _) (ld_grow _ 2 (by omega) _) (ld_grow _ 3 (by omega) _)

theorem out9A (t : Fin cfg0.N) (h0 : t.val % 16 = 0) : (outsAt0 m c t.val t.isLt).2.1 = View.canon (at9 m c t (outsAt0 m c t.val t.isLt).2.2) := by
  rw [scrA m c t h0, outsAt0_A m c t h0]
  unfold at9
  frame_out
  exact congr9 _ _ _ _ (first_wsec _ 0 (by omega) _) (first_wsec _ 1024 (by omega) _) (ld_grow _ 0 (by omega) _)

theorem out9B (t : Fin cfg0.N) (h0 : ¬ t.val % 16 = 0) : (outsAt0 m c t.val t.isLt).2.1 = View.canon (at9 m c t (outsAt0 m c t.val t.isLt).2.2) := by
  rw [scrB m c t h0, outsAt0_B m c t h0]
  unfold at9
  frame_out
  exact congr9 _ _ _ _ (kept_wsec _ _ 0 (by omega) _) (kept_wsec _ _ 1024 (by omega) _) (ld_grow _ 0 (by omega) _)

/-- Every grid point finds the same weights. -/
theorem scr_eq (W : Vec Ideal S1024x3072 .bf16) (hW : ∀ t : Fin cfg0.N, k0_pay6 (iblk m c 2 t) = W) :
    ∀ (n : Nat) (hn : n < cfg0.N), (outsAt0 m c n hn).2.2 = W
  | 0, hn => (scrA m c ⟨0, hn⟩ rfl).trans (hW _)
  | n + 1, hn => by
    by_cases h0 : (n + 1) % 16 = 0
    · exact (scrA m c ⟨n + 1, hn⟩ h0).trans (hW _)
    · exact (scrB m c ⟨n + 1, hn⟩ h0).trans (scr_eq W hW n _)

theorem out8_eq (W : Vec Ideal S1024x3072 .bf16) (hW : ∀ t : Fin cfg0.N, k0_pay6 (iblk m c 2 t) = W) (t : Fin cfg0.N) :
    (outsAt0 m c t.val t.isLt).1 = View.canon (at8 m c t W) := by
  by_cases h0 : t.val % 16 = 0
  · exact (out8A m c t h0).trans (by rw [scr_eq m c W hW])
  · exact (out8B m c t h0).trans (by rw [scr_eq m c W hW])

theorem out9_eq (W : Vec Ideal S1024x3072 .bf16) (hW : ∀ t : Fin cfg0.N, k0_pay6 (iblk m c 2 t) = W) (t : Fin cfg0.N) :
    (outsAt0 m c t.val t.isLt).2.1 = View.canon (at9 m c t W) := by
  by_cases h0 : t.val % 16 = 0
  · exact (out9A m c t h0).trans (by rw [scr_eq m c W hW])
  · exact (out9B m c t h0).trans (by rw [scr_eq m c W hW])

end Cert.Kernel2Ideal.In

end
-- ==== Proof.In.Window.lean ====
module

public import proofs.«01_k».proof.Proof.In.Entry
public import proofs.«01_k».proof.Proof.In.Out

@[expose] public section

set_option maxRecDepth 16384

noncomputable section

/-! The blocks a grid point reads and writes, as places of the arrays. -/

namespace Cert.Kernel2Ideal.In

open Idealize.ShloMosaic Idealize.ShloMosaic.TcCoe
open Cert.Kernel2Ideal Cert.Kernel2Ideal.Gen Cert.Inproj

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val % 4, 0] := (by decide +kernel : ∀ t : Fin grid0.N, _)
theorem index7 : ∀ t : Fin cfg0.N, win0_7.index t = ![t.val % 4, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val / 4, 0, t.val % 4] := (by decide +kernel : ∀ t : Fin grid0.N, _)

theorem point_lt (t : Fin cfg0.N) : t.val < 16 := lt_of_lt_of_eq t.isLt N_0

/-- The batch of a grid point. -/
def batch (t : Fin cfg0.N) : Fin 4 := ⟨t.val / 4, by have := point_lt t; omega⟩
/-- The place in its sequence of a grid point's row. -/
def place (t : Fin cfg0.N) (r : Fin 1024) : Fin 4096 := ⟨1024 * (t.val % 4) + r.val, by omega⟩

theorem read_x (t : Fin cfg0.N) (r k : Fin 1024) : (iblk m c 0 t : Vec Ideal S1024x1024 .f32) (ix2 r k)
    = (m ((c.tc : Thread nD τ).loc main_arg0) : FVec Ideal S4x4096x1024 .f32) (ix3 (batch t) (place t r) k) := by
  refine Eq.trans ?_ (entry_x m c (batch t) (place t r) k)
  blk_simp [iblk]
  refine congrArg _ ?_
  blk_ext [index0, batch, place]

theorem read_g (t : Fin cfg0.N) (k : Fin 1024) : (iblk m c 1 t : Vec Ideal S1x1024 .f32) (ix2 0 k)
    = (m ((c.tc : Thread nD τ).loc main_arg1) : FVec Ideal S1x1024 .f32) (ix2 0 k) := by
  refine Eq.trans ?_ (entry_g m c k)
  blk_simp [iblk]
  refine congrArg _ ?_
  blk_ext [index1]

theorem read_w (t : Fin cfg0.N) (k : Fin 1024) (j : Fin 3072) : (iblk m c 2 t : Vec Ideal S1024x3072 .f32) (ix2 k j)
    = (m ((c.tc : Thread nD τ).loc main_arg2) : FVec Ideal S1x1024x3072 .f32) (ix3 0 k j) := by
  refine Eq.trans ?_ (entry_w m c k j)
  blk_simp [iblk]
  refine congrArg _ ?_
  blk_ext [index2]

theorem read_bd64 (t : Fin cfg0.N) (k l : Fin 256) : (iblk m c 3 t : Vec Ideal S256x256 .bf16) (ix2 k l)
    = if k.val / 64 = l.val / 64 then Ideal.ofBits .f32 0x3C800000#32 else 0 := by
  refine Eq.trans ?_ (entry_bd64 m c k l)
  blk_simp [iblk]
  refine congrArg _ ?_
  blk_ext [index3]

theorem read_bd32 (t : Fin cfg0.N) (k l : Fin 256) : (iblk m c 4 t : Vec Ideal S256x256 .bf16) (ix2 k l)
    = if k.val / 32 = l.val / 32 then Ideal.ofBits .f32 0x3D000000#32 else 0 := by
  refine Eq.trans ?_ (entry_bd32 m c k l)
  blk_simp [iblk]
  refine congrArg _ ?_
  blk_ext [index4]

theorem read_gain (t : Fin cfg0.N) (s : Fin 4) (j : Fin 512) : (iblk m c 5 t : Vec Ideal S4x512 .f32) (ix2 s j)
    = (V m c main_v64 : FVec Ideal S4x512 .f32) (ix2 s j) := by
  blk_simp [iblk]
  refine congrArg _ ?_
  blk_ext [index5]

theorem read_cos (t : Fin cfg0.N) (r : Fin 1024) (p : Fin 2) (e : Fin 64) :
    (iblk m c 6 t : Vec Ideal S1024x128 .f32) (ix2 r ⟨p.val * 64 + e.val, by omega⟩) = Ideal.cos (ang (place t r) ⟨e.val % 32, by omega⟩) := by
  refine Eq.trans ?_ (entry_cos m c (place t r) ⟨2 * p.val + e.val / 32, by omega⟩ ⟨e.val % 32, by omega⟩)
  blk_simp [iblk]
  refine congrArg _ ?_
  blk_ext [index6, place]

theorem read_sin (t : Fin cfg0.N) (r : Fin 1024) (p : Fin 2) (e : Fin 64) :
    (iblk m c 7 t : Vec Ideal S1024x128 .f32) (ix2 r ⟨p.val * 64 + e.val, by omega⟩)
      = if h : e.val < 32 then -Ideal.sin (ang (place t r) ⟨e.val, h⟩) else Ideal.sin (ang (place t r) ⟨e.val - 32, by omega⟩) := by
  refine Eq.trans ?_ (entry_sin m c (place t r) p e)
  blk_simp [iblk]
  refine congrArg _ ?_
  blk_ext [index7, place]

theorem out_cover8 (X : FVec Ideal S16384x2048 .bf16) (h : ∀ (t : Fin cfg0.N) (r : Fin 1024) (j : Fin 2048),
      (outsAt0 m c t.val t.isLt).1 (ix2 r j) = X (ix2 ⟨4096 * (batch t).val + (place t r).val, by omega⟩ j)) :
    (dats m 0 c).arrAt 8 cfg0.N = X := by
  refine (dats m 0 c).arrAt_eq_of_covers 8 _ (by decide +kernel) fun t hf y => ?_
  blk_simp
  rw [after0_8]
  have h0 : (y 0).val < 1024 := (y 0).isLt
  have h1 : (y 1).val < 2048 := (y 1).isLt
  have ey : (y : S1024x2048.Idx) = ix2 ⟨(y 0).val, h0⟩ ⟨(y 1).val, h1⟩ := by
    funext a
    match a with
    | ⟨0, _⟩ => rfl
    | ⟨1, _⟩ => rfl
  refine (congrArg (outsAt0 m c t.val t.isLt).1 ey).trans ((h t ⟨(y 0).val, h0⟩ ⟨(y 1).val, h1⟩).trans (congrArg X ?_))
  blk_ext [index8, batch, place]

theorem out_cover9 (X : FVec Ideal S4x1024x4096 .bf16) (h : ∀ (t : Fin cfg0.N) (j r : Fin 1024),
      (outsAt0 m c t.val t.isLt).2.1 (ix3 0 j r) = X (ix3 (batch t) j (place t r))) :
    (dats m 0 c).arrAt 9 cfg0.N = X := by
  refine (dats m 0 c).arrAt_eq_of_covers 9 _ (by decide +kernel) fun t hf y => ?_
  blk_simp
  rw [after0_9]
  have h0 : (y 0).val < 1 := (y 0).isLt
  have h1 : (y 1).val < 1024 := (y 1).isLt
  have h2 : (y 2).val < 1024 := (y 2).isLt
  have ey : (y : S1x1024x1024.Idx) = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  refine (congrArg (outsAt0 m c t.val t.isLt).2.1 ey).trans ((h t ⟨(y 1).val, h1⟩ ⟨(y 2).val, h2⟩).trans (congrArg X ?_))
  blk_ext [index9, batch, place]

end Cert.Kernel2Ideal.In

end
-- ==== Proof.In.Ref.lean ====
module

public import proofs.«01_k».proof.Proof.Gen.Reference2Ideal.Run
public import proofs.«01_k».proof.Proof.In.Math
public import Idealize.ShloMosaic.Lib.Pointwise

@[expose] public section

set_option maxRecDepth 16384

noncomputable section

/-! The plain projection's two results over the extended reals, element by element. -/

namespace Cert.Reference2Ideal.In

open Idealize.ShloMosaic Idealize.ShloMosaic.TcCoe
open Cert.Reference2Ideal Cert.Reference2Ideal.Gen Cert.Inproj

/-- The normed rows. -/
def rowsN (x : FVec Ideal S4x4096x1024 .f32) (g : FVec Ideal S1x1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ g shapeCasts_S1x1024_S1024)))

/-- The projected rows. -/
def proj (x : FVec Ideal S4x4096x1024 .f32) (g : FVec Ideal S1x1024 .f32) (w : FVec Ideal S1x1024x3072 .f32) : FVec Ideal S4x4096x3072 .f32 :=
  Host.dotGeneral dot_S4x4096x1024_S1024x3072_S4x4096x3072_2_0_01_1_n_n none (rowsN x g) (shapeCast _ w shapeCasts_S1x1024x3072_S1024x3072)

/-- Eight heads of 64, normed. -/
def heads64 (y : FVec Ideal S4x4096x512 .f32) (g : FVec Ideal S1x64 .f32) : FVec Ideal S4x4096x4x2x64 .f32 :=
  mulf (mulf (shapeCast _ y shapeCasts_S4x4096x512_S4x4096x4x2x64) (broadcastInDim S4x4096x4x2x64 ![0, 1, 2, 3, 4] bcast_S4x4096x4x2x1_S4x4096x4x2x64_0_1_2_3_4 (Host.rsqrt (addf (Host.divf (broadcastInDim S4x4096x4x2x1 ![0, 1, 2, 3] bcast_S4x4096x4x2_S4x4096x4x2x1_0_1_2_3 (Host.reduceAdd (mulf (shapeCast _ y shapeCasts_S4x4096x512_S4x4096x4x2x64) (shapeCast _ y shapeCasts_S4x4096x512_S4x4096x4x2x64)) (constant S_ .f32 0x00000000#32) reducesTo_S4x4096x4x2x64_S4x4096x4x2_d4 h_S_)) (broadcastInDim S4x4096x4x2x1 ![] bcast_S_S4x4096x4x2x1 (constant S_ .f32 0x42800000#32))) (broadcastInDim S4x4096x4x2x1 ![] bcast_S_S4x4096x4x2x1 (constant S_ .f32 0x358637BD#32)))))) (broadcastInDim S4x4096x4x2x64 ![0, 1, 2, 3, 4] bcast_S1x1x1x1x64_S4x4096x4x2x64_0_1_2_3_4 (broadcastInDim S1x1x1x1x64 ![4] bcast_S64_S1x1x1x1x64_4 (shapeCast _ g shapeCasts_S1x64_S64)))

/-- Sixteen heads of 32, normed. -/
def heads32 (y : FVec Ideal S4x4096x512 .f32) (g : FVec Ideal S1x32 .f32) : FVec Ideal S4x4096x512 .f32 :=
  shapeCast _ (mulf (mulf (shapeCast _ y shapeCasts_S4x4096x512_S4x4096x16x32 : FVec Ideal S4x4096x16x32 .f32) (broadcastInDim S4x4096x16x32 ![0, 1, 2, 3] bcast_S4x4096x16x1_S4x4096x16x32_0_1_2_3 (Host.rsqrt (addf (Host.divf (broadcastInDim S4x4096x16x1 ![0, 1, 2] bcast_S4x4096x16_S4x4096x16x1_0_1_2 (Host.reduceAdd (mulf (shapeCast _ y shapeCasts_S4x4096x512_S4x4096x16x32) (shapeCast _ y shapeCasts_S4x4096x512_S4x4096x16x32)) (constant S_ .f32 0x00000000#32) reducesTo_S4x4096x16x32_S4x4096x16_d3 h_S_)) (broadcastInDim S4x4096x16x1 ![] bcast_S_S4x4096x16x1 (constant S_ .f32 0x42000000#32))) (broadcastInDim S4x4096x16x1 ![] bcast_S_S4x4096x16x1 (constant S_ .f32 0x358637BD#32)))))) (broadcastInDim S4x4096x16x32 ![0, 1, 2, 3] bcast_S1x1x1x32_S4x4096x16x32_0_1_2_3 (broadcastInDim S1x1x1x32 ![3] bcast_S32_S1x1x1x32_3 (shapeCast _ g shapeCasts_S1x32_S32)))) shapeCasts_S4x4096x16x32_S4x4096x512

/-- The angle of each place and each pair of lanes. -/
def angle : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- The heads' first and second halves. -/
def lo (y : FVec Ideal S4x4096x4x2x64 .f32) : FVec Ideal S4x4096x4x2x32 .f32 := extractStridedSlice S4x4096x4x2x32 ![0, 0, 0, 0, 0] y slices_S4x4096x4x2x64_S4x4096x4x2x32_0_0_0_0_0
def hi (y : FVec Ideal S4x4096x4x2x64 .f32) : FVec Ideal S4x4096x4x2x32 .f32 := extractStridedSlice S4x4096x4x2x32 ![0, 0, 0, 0, 32] y slices_S4x4096x4x2x64_S4x4096x4x2x32_0_0_0_0_32

/-- A table of the places, over every head. -/
def table (t : FVec Ideal S4096x32 .f32) : FVec Ideal S4x4096x4x2x32 .f32 :=
  broadcastInDim S4x4096x4x2x32 ![0, 1, 2, 3, 4] bcast_S1x4096x1x1x32_S4x4096x4x2x32_0_1_2_3_4 (broadcastInDim S1x4096x1x1x32 ![1, 2, 3, 4] bcast_S4096x1x1x32_S1x4096x1x1x32_1_2_3_4 (shapeCast _ t shapeCasts_S4096x32_S4096x1x1x32))

/-- The heads rotated. -/
def turned (y : FVec Ideal S4x4096x4x2x64 .f32) : FVec Ideal S4x4096x512 .f32 :=
  shapeCast _ (concatenate S4x4096x4x2x64 4 [⟨S4x4096x4x2x32, subf (mulf (lo y) (table (Host.cos angle))) (mulf (hi y) (table (Host.sin angle)))⟩,
    ⟨S4x4096x4x2x32, addf (mulf (hi y) (table (Host.cos angle))) (mulf (lo y) (table (Host.sin angle)))⟩] concatenates_S4x4096x4x2x32_S4x4096x4x2x32_S4x4096x4x2x64_d4) shapeCasts_S4x4096x4x2x64_S4x4096x512

/-- The first result, of its sections. -/
def rows (p : FVec Ideal S4x4096x3072 .f32) (gk : FVec Ideal S1x64 .f32) (gq2 gk2 : FVec Ideal S1x32 .f32) : FVec Ideal S16384x2048 .bf16 :=
  truncf .bf16 (shapeCast _ (concatenate S4x4096x2048 2 [⟨S4x4096x512, turned (heads64 (extractStridedSlice S4x4096x512 ![0, 0, 512] p slices_S4x4096x3072_S4x4096x512_0_0_512) gk)⟩,
    ⟨S4x4096x512, heads32 (extractStridedSlice S4x4096x512 ![0, 0, 1536] p slices_S4x4096x3072_S4x4096x512_0_0_1536) gq2⟩,
    ⟨S4x4096x512, heads32 (extractStridedSlice S4x4096x512 ![0, 0, 2048] p slices_S4x4096x3072_S4x4096x512_0_0_2048) gk2⟩,
    ⟨S4x4096x512, extractStridedSlice S4x4096x512 ![0, 0, 2560] p slices_S4x4096x3072_S4x4096x512_0_0_2560⟩] concatenates_S4x4096x512_S4x4096x512_S4x4096x512_S4x4096x512_S4x4096x2048_d2 : FVec Ideal S4x4096x2048 .f32) shapeCasts_S4x4096x2048_S16384x2048) bitsLt_bf16_f32

/-- The second result, of its sections. -/
def cols (p : FVec Ideal S4x4096x3072 .f32) (gq : FVec Ideal S1x64 .f32) : FVec Ideal S4x1024x4096 .bf16 :=
  truncf .bf16 (transpose S4x1024x4096 [0, 2, 1] (concatenate S4x4096x1024 2 [⟨S4x4096x512, turned (heads64 (extractStridedSlice S4x4096x512 ![0, 0, 0] p slices_S4x4096x3072_S4x4096x512_0_0_0) gq)⟩,
    ⟨S4x4096x512, extractStridedSlice S4x4096x512 ![0, 0, 1024] p slices_S4x4096x3072_S4x4096x512_0_0_1024⟩] concatenates_S4x4096x512_S4x4096x512_S4x4096x1024_d2 : FVec Ideal S4x4096x1024 .f32) transposes_S4x4096x1024_S4x1024x4096_0_2_1) bitsLt_bf16_f32

theorem res0_eq (m : (ℓ : Loc nD τ sig) → Buf (Elt Ideal) ℓ) (c : Dev nD) :
    Cert.Reference2Ideal.Value.res_main_v145 m c
      = rows (proj (m ((c.tc : Thread nD τ).loc main_arg0)) (m ((c.tc : Thread nD τ).loc main_arg1)) (m ((c.tc : Thread nD τ).loc main_arg2)))
          (m ((c.tc : Thread nD τ).loc main_arg4)) (m ((c.tc : Thread nD τ).loc main_arg5)) (m ((c.tc : Thread nD τ).loc main_arg6)) := by
  unfold Cert.Reference2Ideal.Value.res_main_v145
  rfl

theorem res1_eq (m : (ℓ : Loc nD τ sig) → Buf (Elt Ideal) ℓ) (c : Dev nD) :
    Cert.Reference2Ideal.Value.res_main_v147 m c
      = cols (proj (m ((c.tc : Thread nD τ).loc main_arg0)) (m ((c.tc : Thread nD τ).loc main_arg1)) (m ((c.tc : Thread nD τ).loc main_arg2)))
          (m ((c.tc : Thread nD τ).loc main_arg3)) := by
  unfold Cert.Reference2Ideal.Value.res_main_v147
  rfl

theorem rowsN_apply (x : FVec Ideal S4x4096x1024 .f32) (g : FVec Ideal S1x1024 .f32) (b : Fin 4) (n : Fin 4096) (k : Fin 1024) :
    rowsN x g (ix3 b n k) = rmsOf (Ideal.ofBits .f32 0x44800000#32) (fun i => x (ix3 b n i)) (fun i => g (ix2 0 i)) k := by
  pointwise [rowsN, rmsOf]

theorem proj_apply (x : FVec Ideal S4x4096x1024 .f32) (g : FVec Ideal S1x1024 .f32) (w : FVec Ideal S1x1024x3072 .f32) (b : Fin 4) (n : Fin 4096) (j : Fin 3072) :
    proj x g w (ix3 b n j) = colSum (rmsOf (Ideal.ofBits .f32 0x44800000#32) (fun i => x (ix3 b n i)) (fun i => g (ix2 0 i))) (fun k => w (ix3 0 k j)) := by
  pointwise [proj, colSum, rowsN_apply]

theorem heads64_apply (y : FVec Ideal S4x4096x512 .f32) (g : FVec Ideal S1x64 .f32) (b : Fin 4) (n : Fin 4096) (h : Fin 4) (p : Fin 2) (d : Fin 64) :
    heads64 y g (ix5 b n h p d) = rmsOf (Ideal.ofBits .f32 0x42800000#32) (fun i => y (ix3 b n ⟨h.val * 128 + p.val * 64 + i.val, by omega⟩)) (fun i => g (ix2 0 i)) d := by
  pointwise [heads64, rmsOf]

theorem heads32_apply (y : FVec Ideal S4x4096x512 .f32) (g : FVec Ideal S1x32 .f32) (b : Fin 4) (n : Fin 4096) (i : Fin 16) (d : Fin 32) :
    heads32 y g (ix3 b n ⟨i.val * 32 + d.val, by omega⟩) = rmsOf (Ideal.ofBits .f32 0x42000000#32) (fun e => y (ix3 b n ⟨i.val * 32 + e.val, by omega⟩)) (fun e => g (ix2 0 e)) d := by
  pointwise [heads32, rmsOf]

theorem turned_apply (y : FVec Ideal S4x4096x4x2x64 .f32) (b : Fin 4) (n : Fin 4096) (h : Fin 4) (p : Fin 2) (d : Fin 64) :
    turned y (ix3 b n ⟨h.val * 128 + p.val * 64 + d.val, by omega⟩)
      = turn (fun i => y (ix5 b n h p i)) (fun i => Ideal.cos (angle (ix2 n i))) (fun i => Ideal.sin (angle (ix2 n i))) d := by
  pointwise [turned, turn, lo, hi, table]
  have e : ∀ h : ¬ d.val < 32, (⟨32 + (d.val - 32), by omega⟩ : Fin 64) = d := fun h => Fin.ext (by show 32 + (d.val - 32) = d.val; omega)
  split
  · rfl
  · rename_i hd
    rw [e hd]

theorem slice0 (p : FVec Ideal S4x4096x3072 .f32) (b : Fin 4) (n : Fin 4096) (j : Fin 512) : (extractStridedSlice S4x4096x512 ![0, 0, 0] p slices_S4x4096x3072_S4x4096x512_0_0_0) (ix3 b n j) = p (ix3 b n ⟨j.val, by omega⟩) := by
  pointwise
theorem slice512 (p : FVec Ideal S4x4096x3072 .f32) (b : Fin 4) (n : Fin 4096) (j : Fin 512) : (extractStridedSlice S4x4096x512 ![0, 0, 512] p slices_S4x4096x3072_S4x4096x512_0_0_512) (ix3 b n j) = p (ix3 b n ⟨512 + j.val, by omega⟩) := by
  pointwise
theorem slice1536 (p : FVec Ideal S4x4096x3072 .f32) (b : Fin 4) (n : Fin 4096) (j : Fin 512) : (extractStridedSlice S4x4096x512 ![0, 0, 1536] p slices_S4x4096x3072_S4x4096x512_0_0_1536) (ix3 b n j) = p (ix3 b n ⟨1536 + j.val, by omega⟩) := by
  pointwise
theorem slice2048 (p : FVec Ideal S4x4096x3072 .f32) (b : Fin 4) (n : Fin 4096) (j : Fin 512) : (extractStridedSlice S4x4096x512 ![0, 0, 2048] p slices_S4x4096x3072_S4x4096x512_0_0_2048) (ix3 b n j) = p (ix3 b n ⟨2048 + j.val, by omega⟩) := by
  pointwise

theorem rowsA (p : FVec Ideal S4x4096x3072 .f32) (gk : FVec Ideal S1x64 .f32) (gq2 gk2 : FVec Ideal S1x32 .f32) (b : Fin 4) (n : Fin 4096) (j : Fin 512) : rows p gk gq2 gk2 (ix2 ⟨4096 * b.val + n.val, by omega⟩ ⟨j.val, by omega⟩) = turned (heads64 (extractStridedSlice S4x4096x512 ![0, 0, 512] p slices_S4x4096x3072_S4x4096x512_0_0_512) gk) (ix3 b n j) := by
  pointwise [rows]
theorem rowsB (p : FVec Ideal S4x4096x3072 .f32) (gk : FVec Ideal S1x64 .f32) (gq2 gk2 : FVec Ideal S1x32 .f32) (b : Fin 4) (n : Fin 4096) (j : Fin 512) : rows p gk gq2 gk2 (ix2 ⟨4096 * b.val + n.val, by omega⟩ ⟨512 + j.val, by omega⟩) = heads32 (extractStridedSlice S4x4096x512 ![0, 0, 1536] p slices_S4x4096x3072_S4x4096x512_0_0_1536) gq2 (ix3 b n j) := by
  pointwise [rows]
theorem rowsC (p : FVec Ideal S4x4096x3072 .f32) (gk : FVec Ideal S1x64 .f32) (gq2 gk2 : FVec Ideal S1x32 .f32) (b : Fin 4) (n : Fin 4096) (j : Fin 512) : rows p gk gq2 gk2 (ix2 ⟨4096 * b.val + n.val, by omega⟩ ⟨1024 + j.val, by omega⟩) = heads32 (extractStridedSlice S4x4096x512 ![0, 0, 2048] p slices_S4x4096x3072_S4x4096x512_0_0_2048) gk2 (ix3 b n j) := by
  pointwise [rows]
  rw [dif_neg (by omega), dif_neg (by omega), dif_pos (by omega)]
  have e : (⟨1024 + j.val - 512 - 512, by omega⟩ : Fin 512) = j := Fin.ext (by show 1024 + j.val - 512 - 512 = j.val; omega)
  rw [e]
theorem rows3 (p : FVec Ideal S4x4096x3072 .f32) (gk : FVec Ideal S1x64 .f32) (gq2 gk2 : FVec Ideal S1x32 .f32) (b : Fin 4) (n : Fin 4096) (j : Fin 512) : rows p gk gq2 gk2 (ix2 ⟨4096 * b.val + n.val, by omega⟩ ⟨1536 + j.val, by omega⟩) = p (ix3 b n ⟨2560 + j.val, by omega⟩) := by
  pointwise [rows]
  rw [dif_neg (by omega), dif_neg (by omega), dif_neg (by omega)]
  have e : (⟨2560 + (1536 + j.val - 512 - 512 - 512), by omega⟩ : Fin 3072) = ⟨2560 + j.val, by omega⟩ :=
    Fin.ext (by show 2560 + (1536 + j.val - 512 - 512 - 512) = 2560 + j.val; omega)
  rw [e]

theorem rows0 (p : FVec Ideal S4x4096x3072 .f32) (gk : FVec Ideal S1x64 .f32) (gq2 gk2 : FVec Ideal S1x32 .f32) (b : Fin 4) (n : Fin 4096) (h : Fin 4) (i : Fin 2) (d : Fin 64) :
    rows p gk gq2 gk2 (ix2 ⟨4096 * b.val + n.val, by omega⟩ ⟨h.val * 128 + i.val * 64 + d.val, by omega⟩)
      = turn (rmsOf (Ideal.ofBits .f32 0x42800000#32) (fun e => p (ix3 b n ⟨512 + (h.val * 128 + i.val * 64 + e.val), by omega⟩)) (fun e => gk (ix2 0 e))) (fun e => Ideal.cos (angle (ix2 n e))) (fun e => Ideal.sin (angle (ix2 n e))) d := by
  refine (rowsA p gk gq2 gk2 b n ⟨h.val * 128 + i.val * 64 + d.val, by omega⟩).trans ?_
  rw [turned_apply]
  simp only [heads64_apply, slice512]

theorem rows1 (p : FVec Ideal S4x4096x3072 .f32) (gk : FVec Ideal S1x64 .f32) (gq2 gk2 : FVec Ideal S1x32 .f32) (b : Fin 4) (n : Fin 4096) (i : Fin 16) (d : Fin 32) :
    rows p gk gq2 gk2 (ix2 ⟨4096 * b.val + n.val, by omega⟩ ⟨512 + (i.val * 32 + d.val), by omega⟩) = rmsOf (Ideal.ofBits .f32 0x42000000#32) (fun e => p (ix3 b n ⟨1536 + (i.val * 32 + e.val), by omega⟩)) (fun e => gq2 (ix2 0 e)) d := by
  refine (rowsB p gk gq2 gk2 b n ⟨i.val * 32 + d.val, by omega⟩).trans ?_
  rw [heads32_apply]
  simp only [slice1536]

theorem rows2 (p : FVec Ideal S4x4096x3072 .f32) (gk : FVec Ideal S1x64 .f32) (gq2 gk2 : FVec Ideal S1x32 .f32) (b : Fin 4) (n : Fin 4096) (i : Fin 16) (d : Fin 32) :
    rows p gk gq2 gk2 (ix2 ⟨4096 * b.val + n.val, by omega⟩ ⟨1024 + (i.val * 32 + d.val), by omega⟩) = rmsOf (Ideal.ofBits .f32 0x42000000#32) (fun e => p (ix3 b n ⟨2048 + (i.val * 32 + e.val), by omega⟩)) (fun e => gk2 (ix2 0 e)) d := by
  refine (rowsC p gk gq2 gk2 b n ⟨i.val * 32 + d.val, by omega⟩).trans ?_
  rw [heads32_apply]
  simp only [slice2048]

theorem colsA (p : FVec Ideal S4x4096x3072 .f32) (gq : FVec Ideal S1x64 .f32) (b : Fin 4) (n : Fin 4096) (j : Fin 512) :
    cols p gq (ix3 b ⟨j.val, by omega⟩ n) = turned (heads64 (extractStridedSlice S4x4096x512 ![0, 0, 0] p slices_S4x4096x3072_S4x4096x512_0_0_0) gq) (ix3 b n j) := by
  pointwise [cols]
theorem cols1 (p : FVec Ideal S4x4096x3072 .f32) (gq : FVec Ideal S1x64 .f32) (b : Fin 4) (n : Fin 4096) (j : Fin 512) :
    cols p gq (ix3 b ⟨512 + j.val, by omega⟩ n) = p (ix3 b n ⟨1024 + j.val, by omega⟩) := by
  pointwise [cols]

theorem cols0 (p : FVec Ideal S4x4096x3072 .f32) (gq : FVec Ideal S1x64 .f32) (b : Fin 4) (n : Fin 4096) (h : Fin 4) (i : Fin 2) (d : Fin 64) :
    cols p gq (ix3 b ⟨h.val * 128 + i.val * 64 + d.val, by omega⟩ n)
      = turn (rmsOf (Ideal.ofBits .f32 0x42800000#32) (fun e => p (ix3 b n ⟨h.val * 128 + i.val * 64 + e.val, by omega⟩)) (fun e => gq (ix2 0 e))) (fun e => Ideal.cos (angle (ix2 n e))) (fun e => Ideal.sin (angle (ix2 n e))) d := by
  refine (colsA p gq b n ⟨h.val * 128 + i.val * 64 + d.val, by omega⟩).trans ?_
  rw [turned_apply]
  simp only [heads64_apply, slice0]

theorem angle_apply (n : Fin 4096) (e : Fin 32) : angle (ix2 n e) = ang n e := by
  pointwise [angle, ang]

end Cert.Reference2Ideal.In

end
-- ==== Proof.In.Value.lean ====
module

public import proofs.«01_k».proof.Proof.In.Window
public import proofs.«01_k».proof.Proof.In.Ref

@[expose] public section

set_option maxRecDepth 16384

noncomputable section

/-! The input projection's two results are the reference's, section by section. -/

namespace Cert.Kernel2Ideal.In

open Idealize.ShloMosaic Idealize.ShloMosaic.TcCoe
open Cert.Kernel2Ideal Cert.Kernel2Ideal.Gen Cert.Inproj

variable (m : (ℓ : Loc nD τ sig) → Buf (Elt Ideal) ℓ) (c : Dev nD)

/-- The weights, as every grid point keeps them. -/
def weights : Vec Ideal S1024x3072 .bf16 := fun x => (m ((c.tc : Thread nD τ).loc main_arg2) : FVec Ideal S1x1024x3072 .f32) (ix3 0 (x 0) (x 1))

theorem weights_eq (t : Fin cfg0.N) : k0_pay6 (iblk m c 2 t) = weights m c := by
  funext x
  have ex : x = ix2 (x 0) (x 1) := by
    funext b
    match b with
    | ⟨0, _⟩ => rfl
    | ⟨1, _⟩ => rfl
  rw [ex]
  exact (pay6_eq (iblk m c 2 t) (x 0) (x 1)).trans (read_w m c t (x 0) (x 1))

/-- The projected rows, of the arguments. -/
abbrev prj : FVec Ideal Cert.Reference2Ideal.S4x4096x3072 .f32 :=
  Cert.Reference2Ideal.In.proj (m ((c.tc : Thread nD τ).loc main_arg0)) (m ((c.tc : Thread nD τ).loc main_arg1)) (m ((c.tc : Thread nD τ).loc main_arg2))

/-- The normed rows of a grid point. -/
abbrev nrm (t : Fin cfg0.N) : FVec Ideal S1024x1024 .bf16 := k0_pay7 (iblk m c 0 t) (iblk m c 1 t)

theorem sec_eq (t : Fin cfg0.N) (o : Nat) (ho : o + 512 ≤ 3072) (r : Fin 1024) (j : Fin 512) :
    sec (nrm m c t) (wsec (weights m c) o ho) r j = prj m c (ix3 (batch t) (place t r) ⟨o + j.val, by omega⟩) := by
  refine Eq.trans ?_ (Cert.Reference2Ideal.In.proj_apply _ _ _ (batch t) (place t r) ⟨o + j.val, by omega⟩).symm
  unfold sec colSum
  refine Finset.sum_congr rfl fun k _ => congrArg₂ (fun x y : EReal => x * y) ?_ rfl
  refine (pay7_apply (iblk m c 0 t) (iblk m c 1 t) r k).trans ?_
  exact congrArg₂ (fun y g => rmsOf (Ideal.ofBits .f32 0x44800000#32) y g k) (funext fun i => read_x m c t r i) (funext fun i => read_g m c t i)

theorem norm64 (t : Fin cfg0.N) (o : Nat) (ho : o + 512 ≤ 3072) (s : Fin 4) (g : FVec Ideal S1x64 .f32)
    (hg : ∀ (i : Fin 8) (d : Fin 64), (V m c main_v64 : FVec Ideal S4x512 .f32) (ix2 s ⟨i.val * 64 + d.val, by omega⟩) = g (ix2 0 d)) (r : Fin 1024) (i : Fin 8) (d : Fin 64) :
    k0_pay11 (F := Ideal) (nrm m c t) (wsec (weights m c) o ho) (iblk m c 3 t) (iblk m c 3 t) (grow (iblk m c 5 t) s) (ix2 r ⟨i.val * 64 + d.val, by omega⟩)
      = rmsOf (Ideal.ofBits .f32 0x42800000#32) (fun e => prj m c (ix3 (batch t) (place t r) ⟨o + (i.val * 64 + e.val), by omega⟩)) (fun e => g (ix2 0 e)) d := by
  refine (pay11_64 (nrm m c t) (wsec (weights m c) o ho) (iblk m c 3 t) (grow (iblk m c 5 t) s) r (read_bd64 m c t) i d).trans ?_
  exact congrArg₂ (fun y g => rmsOf (Ideal.ofBits .f32 0x42800000#32) y g d) (funext fun e => sec_eq m c t o ho r ⟨i.val * 64 + e.val, by omega⟩)
    (funext fun e => (read_gain m c t s ⟨i.val * 64 + e.val, by omega⟩).trans (hg i e))

theorem norm32 (t : Fin cfg0.N) (o : Nat) (ho : o + 512 ≤ 3072) (s : Fin 4) (g : FVec Ideal S1x32 .f32)
    (hg : ∀ (i : Fin 16) (d : Fin 32), (V m c main_v64 : FVec Ideal S4x512 .f32) (ix2 s ⟨i.val * 32 + d.val, by omega⟩) = g (ix2 0 d)) (r : Fin 1024) (i : Fin 16) (d : Fin 32) :
    k0_pay11 (F := Ideal) (nrm m c t) (wsec (weights m c) o ho) (iblk m c 4 t) (iblk m c 4 t) (grow (iblk m c 5 t) s) (ix2 r ⟨i.val * 32 + d.val, by omega⟩)
      = rmsOf (Ideal.ofBits .f32 0x42000000#32) (fun e => prj m c (ix3 (batch t) (place t r) ⟨o + (i.val * 32 + e.val), by omega⟩)) (fun e => g (ix2 0 e)) d := by
  refine (pay11_32 (nrm m c t) (wsec (weights m c) o ho) (iblk m c 4 t) (grow (iblk m c 5 t) s) r (read_bd32 m c t) i d).trans ?_
  exact congrArg₂ (fun y g => rmsOf (Ideal.ofBits .f32 0x42000000#32) y g d) (funext fun e => sec_eq m c t o ho r ⟨i.val * 32 + e.val, by omega⟩)
    (funext fun e => (read_gain m c t s ⟨i.val * 32 + e.val, by omega⟩).trans (hg i e))

theorem rot (t : Fin cfg0.N) (o : Nat) (ho : o + 512 ≤ 3072) (s : Fin 4) (g : FVec Ideal S1x64 .f32)
    (hg : ∀ (i : Fin 8) (d : Fin 64), (V m c main_v64 : FVec Ideal S4x512 .f32) (ix2 s ⟨i.val * 64 + d.val, by omega⟩) = g (ix2 0 d)) (r : Fin 1024) (h : Fin 4) (p : Fin 2) (d : Fin 64) :
    ropeAt (k0_pay11 (F := Ideal) (nrm m c t) (wsec (weights m c) o ho) (iblk m c 3 t) (iblk m c 3 t) (grow (iblk m c 5 t) s)) (iblk m c 6 t) (iblk m c 7 t)
        (h.val * 128) (by omega) r ⟨p.val * 64 + d.val, by omega⟩
      = turn (rmsOf (Ideal.ofBits .f32 0x42800000#32) (fun e => prj m c (ix3 (batch t) (place t r) ⟨o + (h.val * 128 + p.val * 64 + e.val), by omega⟩)) (fun e => g (ix2 0 e)))
          (fun e => Ideal.cos (Cert.Reference2Ideal.In.angle (ix2 (place t r) e))) (fun e => Ideal.sin (Cert.Reference2Ideal.In.angle (ix2 (place t r) e))) d := by
  refine ropeAt_turn r _ _ _ (h.val * 128) (by omega) p d _ _ _ (fun e => ?_) (fun e => ?_) (fun e => ?_)
  · have e1 : (⟨h.val * 128 + (p.val * 64 + e.val), by omega⟩ : Fin 512) = ⟨(⟨2 * h.val + p.val, by omega⟩ : Fin 8).val * 64 + e.val, by show (2 * h.val + p.val) * 64 + e.val < 512; omega⟩ :=
      Fin.ext (by show h.val * 128 + (p.val * 64 + e.val) = (2 * h.val + p.val) * 64 + e.val; omega)
    rw [e1]
    refine (norm64 m c t o ho s g hg r ⟨2 * h.val + p.val, by omega⟩ e).trans ?_
    refine congrArg (fun y => rmsOf (Ideal.ofBits .f32 0x42800000#32) y (fun e => g (ix2 0 e)) e) (funext fun x => ?_)
    refine congrArg (fun y => prj m c (ix3 (batch t) (place t r) y)) (Fin.ext ?_)
    show o + ((2 * h.val + p.val) * 64 + x.val) = o + (h.val * 128 + p.val * 64 + x.val)
    omega
  · rw [Cert.Reference2Ideal.In.angle_apply]
    exact read_cos m c t r p e
  · simp only [Cert.Reference2Ideal.In.angle_apply]
    exact read_sin m c t r p e

/-- The two results, as the reference takes them of the arguments. -/
abbrev refRows : FVec Ideal S16384x2048 .bf16 :=
  Cert.Reference2Ideal.In.rows (prj m c) (m ((c.tc : Thread nD τ).loc main_arg4)) (m ((c.tc : Thread nD τ).loc main_arg5)) (m ((c.tc : Thread nD τ).loc main_arg6))
abbrev refCols : FVec Ideal S4x1024x4096 .bf16 :=
  Cert.Reference2Ideal.In.cols (prj m c) (m ((c.tc : Thread nD τ).loc main_arg3))

theorem rows_q (t : Fin cfg0.N) (r : Fin 1024) (j : Fin 512) : View.canon (at8 m c t (weights m c)) (ix2 r ⟨j.val, by omega⟩)
    = refRows m c (ix2 ⟨4096 * (batch t).val + (place t r).val, by omega⟩ ⟨j.val, by omega⟩) := by
  refine (congrArg (fun x : Fin 2048 => View.canon (at8 m c t (weights m c)) (ix2 r x)) (Fin.ext (by show j.val = (j.val / 128 * 128 + j.val % 128); omega) : (⟨j.val, by omega⟩ : Fin 2048) = ⟨j.val / 128 * 128 + j.val % 128, by omega⟩)).trans ?_
  refine Eq.trans ?_ (congrArg (fun x : Fin 2048 => refRows m c (ix2 ⟨4096 * (batch t).val + (place t r).val, by omega⟩ x)) (Fin.ext (by show j.val = (j.val / 128 * 128 + j.val % 128 / 64 * 64 + j.val % 64); omega) : (⟨j.val, by omega⟩ : Fin 2048) = ⟨j.val / 128 * 128 + j.val % 128 / 64 * 64 + j.val % 64, by omega⟩)).symm
  refine (canon_q _ _ _ _ _ _ _ _ _ _ _ _ r ⟨j.val / 128, by omega⟩ ⟨j.val % 128, by omega⟩).trans ?_
  refine Eq.trans ?_ (Cert.Reference2Ideal.In.rows0 _ _ _ _ (batch t) (place t r) ⟨j.val / 128, by omega⟩ ⟨j.val % 128 / 64, by omega⟩ ⟨j.val % 64, by omega⟩).symm
  have e2 : (⟨j.val % 128, by omega⟩ : Fin 128) = ⟨(⟨j.val % 128 / 64, by omega⟩ : Fin 2).val * 64 + (⟨j.val % 64, by omega⟩ : Fin 64).val, by show j.val % 128 / 64 * 64 + j.val % 64 < 128; omega⟩ :=
    Fin.ext (by show j.val % 128 = j.val % 128 / 64 * 64 + j.val % 64; omega)
  rw [e2]
  exact rot m c t 512 (by omega) 1 _ (entry_gain1 m c) r ⟨j.val / 128, by omega⟩ ⟨j.val % 128 / 64, by omega⟩ ⟨j.val % 64, by omega⟩

theorem rows_nq (t : Fin cfg0.N) (r : Fin 1024) (j : Fin 512) : View.canon (at8 m c t (weights m c)) (ix2 r ⟨512 + j.val, by omega⟩)
    = refRows m c (ix2 ⟨4096 * (batch t).val + (place t r).val, by omega⟩ ⟨512 + j.val, by omega⟩) := by
  refine (congrArg (fun x : Fin 2048 => View.canon (at8 m c t (weights m c)) (ix2 r x)) (Fin.ext (by show 512 + j.val = 512 + (j.val / 128 * 128 + j.val % 128); omega) : (⟨512 + j.val, by omega⟩ : Fin 2048) = ⟨512 + (j.val / 128 * 128 + j.val % 128), by omega⟩)).trans ?_
  refine Eq.trans ?_ (congrArg (fun x : Fin 2048 => refRows m c (ix2 ⟨4096 * (batch t).val + (place t r).val, by omega⟩ x)) (Fin.ext (by show 512 + j.val = 512 + (j.val / 32 * 32 + j.val % 32); omega) : (⟨512 + j.val, by omega⟩ : Fin 2048) = ⟨512 + (j.val / 32 * 32 + j.val % 32), by omega⟩)).symm
  refine (canon_nq _ _ _ _ _ _ _ _ _ _ _ _ r ⟨j.val / 128, by omega⟩ ⟨j.val % 128, by omega⟩).trans ?_
  refine Eq.trans ?_ (Cert.Reference2Ideal.In.rows1 _ _ _ _ (batch t) (place t r) ⟨j.val / 32, by omega⟩ ⟨j.val % 32, by omega⟩).symm
  have e2 : (⟨(⟨j.val / 128, by omega⟩ : Fin 4).val * 128 + (⟨j.val % 128, by omega⟩ : Fin 128).val, by show j.val / 128 * 128 + j.val % 128 < 512; omega⟩ : Fin 512) = ⟨(⟨j.val / 32, by omega⟩ : Fin 16).val * 32 + (⟨j.val % 32, by omega⟩ : Fin 32).val, by show j.val / 32 * 32 + j.val % 32 < 512; omega⟩ :=
    Fin.ext (by show j.val / 128 * 128 + j.val % 128 = j.val / 32 * 32 + j.val % 32; omega)
  rw [e2]
  exact norm32 m c t 1536 (by omega) 2 _ (entry_gain2 m c) r ⟨j.val / 32, by omega⟩ ⟨j.val % 32, by omega⟩

theorem rows_nk (t : Fin cfg0.N) (r : Fin 1024) (j : Fin 512) : View.canon (at8 m c t (weights m c)) (ix2 r ⟨1024 + j.val, by omega⟩)
    = refRows m c (ix2 ⟨4096 * (batch t).val + (place t r).val, by omega⟩ ⟨1024 + j.val, by omega⟩) := by
  refine (congrArg (fun x : Fin 2048 => View.canon (at8 m c t (weights m c)) (ix2 r x)) (Fin.ext (by show 1024 + j.val = 1024 + (j.val / 128 * 128 + j.val % 128); omega) : (⟨1024 + j.val, by omega⟩ : Fin 2048) = ⟨1024 + (j.val / 128 * 128 + j.val % 128), by omega⟩)).trans ?_
  refine Eq.trans ?_ (congrArg (fun x : Fin 2048 => refRows m c (ix2 ⟨4096 * (batch t).val + (place t r).val, by omega⟩ x)) (Fin.ext (by show 1024 + j.val = 1024 + (j.val / 32 * 32 + j.val % 32); omega) : (⟨1024 + j.val, by omega⟩ : Fin 2048) = ⟨1024 + (j.val / 32 * 32 + j.val % 32), by omega⟩)).symm
  refine (canon_nk _ _ _ _ _ _ _ _ _ _ _ _ r ⟨j.val / 128, by omega⟩ ⟨j.val % 128, by omega⟩).trans ?_
  refine Eq.trans ?_ (Cert.Reference2Ideal.In.rows2 _ _ _ _ (batch t) (place t r) ⟨j.val / 32, by omega⟩ ⟨j.val % 32, by omega⟩).symm
  have e2 : (⟨(⟨j.val / 128, by omega⟩ : Fin 4).val * 128 + (⟨j.val % 128, by omega⟩ : Fin 128).val, by show j.val / 128 * 128 + j.val % 128 < 512; omega⟩ : Fin 512) = ⟨(⟨j.val / 32, by omega⟩ : Fin 16).val * 32 + (⟨j.val % 32, by omega⟩ : Fin 32).val, by show j.val / 32 * 32 + j.val % 32 < 512; omega⟩ :=
    Fin.ext (by show j.val / 128 * 128 + j.val % 128 = j.val / 32 * 32 + j.val % 32; omega)
  rw [e2]
  exact norm32 m c t 2048 (by omega) 3 _ (entry_gain3 m c) r ⟨j.val / 32, by omega⟩ ⟨j.val % 32, by omega⟩

theorem rows_nv (t : Fin cfg0.N) (r : Fin 1024) (j : Fin 512) : View.canon (at8 m c t (weights m c)) (ix2 r ⟨1536 + j.val, by omega⟩)
    = refRows m c (ix2 ⟨4096 * (batch t).val + (place t r).val, by omega⟩ ⟨1536 + j.val, by omega⟩) := by
  refine (congrArg (fun x : Fin 2048 => View.canon (at8 m c t (weights m c)) (ix2 r x)) (Fin.ext (by show 1536 + j.val = 1536 + (j.val / 128 * 128 + j.val % 128); omega) : (⟨1536 + j.val, by omega⟩ : Fin 2048) = ⟨1536 + (j.val / 128 * 128 + j.val % 128), by omega⟩)).trans ?_
  refine (canon_nv _ _ _ _ _ _ _ _ _ _ _ _ r ⟨j.val / 128, by omega⟩ ⟨j.val % 128, by omega⟩).trans ?_
  refine Eq.trans ?_ (Cert.Reference2Ideal.In.rows3 _ _ _ _ (batch t) (place t r) j).symm
  have e2 : (⟨(⟨j.val / 128, by omega⟩ : Fin 4).val * 128 + (⟨j.val % 128, by omega⟩ : Fin 128).val, by show j.val / 128 * 128 + j.val % 128 < 512; omega⟩ : Fin 512) = j :=
    Fin.ext (by show j.val / 128 * 128 + j.val % 128 = j.val; omega)
  rw [e2]
  exact (pay1_apply (nrm m c t) (wsec (weights m c) 2560 (by omega)) r j).trans (sec_eq m c t 2560 (by omega) r j)

theorem cols_q (t : Fin cfg0.N) (r : Fin 1024) (j : Fin 512) : View.canon (at9 m c t (weights m c)) (ix3 0 ⟨j.val, by omega⟩ r)
    = refCols m c (ix3 (batch t) ⟨j.val, by omega⟩ (place t r)) := by
  refine (congrArg (fun x : Fin 1024 => View.canon (at9 m c t (weights m c)) (ix3 0 x r)) (Fin.ext (by show j.val = (j.val / 128 * 128 + j.val % 128); omega) : (⟨j.val, by omega⟩ : Fin 1024) = ⟨j.val / 128 * 128 + j.val % 128, by omega⟩)).trans ?_
  refine Eq.trans ?_ (congrArg (fun x : Fin 1024 => refCols m c (ix3 (batch t) x (place t r))) (Fin.ext (by show j.val = (j.val / 128 * 128 + j.val % 128 / 64 * 64 + j.val % 64); omega) : (⟨j.val, by omega⟩ : Fin 1024) = ⟨j.val / 128 * 128 + j.val % 128 / 64 * 64 + j.val % 64, by omega⟩)).symm
  refine (canon_k _ _ _ _ _ _ _ r ⟨j.val / 128, by omega⟩ ⟨j.val % 128, by omega⟩).trans ?_
  refine Eq.trans ?_ (Cert.Reference2Ideal.In.cols0 _ _ (batch t) (place t r) ⟨j.val / 128, by omega⟩ ⟨j.val % 128 / 64, by omega⟩ ⟨j.val % 64, by omega⟩).symm
  have e2 : (⟨j.val % 128, by omega⟩ : Fin 128) = ⟨(⟨j.val % 128 / 64, by omega⟩ : Fin 2).val * 64 + (⟨j.val % 64, by omega⟩ : Fin 64).val, by show j.val % 128 / 64 * 64 + j.val % 64 < 128; omega⟩ :=
    Fin.ext (by show j.val % 128 = j.val % 128 / 64 * 64 + j.val % 64; omega)
  rw [e2]
  refine (rot m c t 0 (by omega) 0 _ (entry_gain0 m c) r ⟨j.val / 128, by omega⟩ ⟨j.val % 128 / 64, by omega⟩ ⟨j.val % 64, by omega⟩).trans ?_
  simp only [Nat.zero_add]

theorem cols_v (t : Fin cfg0.N) (r : Fin 1024) (j : Fin 512) : View.canon (at9 m c t (weights m c)) (ix3 0 ⟨512 + j.val, by omega⟩ r)
    = refCols m c (ix3 (batch t) ⟨512 + j.val, by omega⟩ (place t r)) := by
  refine (congrArg (fun x : Fin 1024 => View.canon (at9 m c t (weights m c)) (ix3 0 x r)) (Fin.ext (by show 512 + j.val = 512 + (j.val / 128 * 128 + j.val % 128); omega) : (⟨512 + j.val, by omega⟩ : Fin 1024) = ⟨512 + (j.val / 128 * 128 + j.val % 128), by omega⟩)).trans ?_
  refine (canon_v _ _ _ _ _ _ _ r ⟨j.val / 128, by omega⟩ ⟨j.val % 128, by omega⟩).trans ?_
  refine Eq.trans ?_ (Cert.Reference2Ideal.In.cols1 _ _ (batch t) (place t r) j).symm
  have e2 : (⟨(⟨j.val / 128, by omega⟩ : Fin 4).val * 128 + (⟨j.val % 128, by omega⟩ : Fin 128).val, by show j.val / 128 * 128 + j.val % 128 < 512; omega⟩ : Fin 512) = j :=
    Fin.ext (by show j.val / 128 * 128 + j.val % 128 = j.val; omega)
  rw [e2]
  exact (pay1_apply (nrm m c t) (wsec (weights m c) 1024 (by omega)) r j).trans (sec_eq m c t 1024 (by omega) r j)

theorem rows_eq : (dats m 0 c).arrAt 8 cfg0.N = refRows m c := by
  refine out_cover8 m c _ fun t r j => ?_
  rw [out8_eq m c _ (weights_eq m c) t]
  by_cases h0 : j.val < 512
  · exact rows_q m c t r ⟨j.val, h0⟩
  by_cases h1 : j.val < 1024
  · have e : j = ⟨512 + (⟨j.val - 512, by omega⟩ : Fin 512).val, by show 512 + (j.val - 512) < 2048; omega⟩ := Fin.ext (by show j.val = 512 + (j.val - 512); omega)
    rw [e]
    exact rows_nq m c t r ⟨j.val - 512, by omega⟩
  by_cases h2 : j.val < 1536
  · have e : j = ⟨1024 + (⟨j.val - 1024, by omega⟩ : Fin 512).val, by show 1024 + (j.val - 1024) < 2048; omega⟩ := Fin.ext (by show j.val = 1024 + (j.val - 1024); omega)
    rw [e]
    exact rows_nk m c t r ⟨j.val - 1024, by omega⟩
  · have e : j = ⟨1536 + (⟨j.val - 1536, by omega⟩ : Fin 512).val, by show 1536 + (j.val - 1536) < 2048; omega⟩ := Fin.ext (by show j.val = 1536 + (j.val - 1536); omega)
    rw [e]
    exact rows_nv m c t r ⟨j.val - 1536, by omega⟩

theorem cols_eq : (dats m 0 c).arrAt 9 cfg0.N = refCols m c := by
  refine out_cover9 m c _ fun t j r => ?_
  rw [out9_eq m c _ (weights_eq m c) t]
  by_cases h0 : j.val < 512
  · exact cols_q m c t r ⟨j.val, h0⟩
  · have e : j = ⟨512 + (⟨j.val - 512, by omega⟩ : Fin 512).val, by show 512 + (j.val - 512) < 1024; omega⟩ := Fin.ext (by show j.val = 512 + (j.val - 512); omega)
    rw [e]
    exact cols_v m c t r ⟨j.val - 512, by omega⟩

end Cert.Kernel2Ideal.In

end
-- ==== Proof.Comb.Math.lean ====
module

public import proofs.«01_k».proof.Proof.In.Math

@[expose] public section

noncomputable section

/-! The layer's last step on one token, over the extended reals. -/

namespace Cert.Combine

open Idealize.ShloMosaic Idealize.ShloMosaic.TcCoe Cert.Inproj

/-- The 16-bit number in a word's low half. -/
def lowHalf (w : BitVec 32) : EReal := Ideal.ofBits .bf16 (w.extractLsb' 0 16)
/-- The 16-bit number in a word's high half. -/
def highHalf (w : BitVec 32) : EReal := Ideal.ofBits .bf16 (w.extractLsb' 16 16)

/-- A 16-bit number followed by 16 zero bits is the same number in 32 bits. -/
theorem ofBits_wide (w : BitVec 32) (k : BitVec 16) (h : w.toNat = k.toNat * 65536) : Ideal.ofBits .f32 w = Ideal.ofBits .bf16 k := by
  have hk := k.isLt
  have e1 : w.extractLsb' 31 1 = k.extractLsb' 15 1 := by
    apply BitVec.eq_of_toNat_eq
    simp only [BitVec.extractLsb'_toNat, Nat.shiftRight_eq_div_pow, h]
    omega
  have e2 : (w.extractLsb' 23 8).toNat = (k.extractLsb' 7 8).toNat := by
    simp only [BitVec.extractLsb'_toNat, Nat.shiftRight_eq_div_pow, h]
    omega
  have e3 : (w.extractLsb' 0 23).toNat = (k.extractLsb' 0 7).toNat * 65536 := by
    simp only [BitVec.extractLsb'_toNat, Nat.shiftRight_eq_div_pow, h]
    omega
  show Ideal.ieee 8 23 w = Ideal.ieee 8 7 k
  unfold Ideal.ieee
  simp only [Nat.reduceAdd, e1, e2, e3]
  generalize (k.extractLsb' 0 7).toNat = f
  generalize (k.extractLsb' 7 8).toNat = x
  have two : (2 : ℝ) ≠ 0 := two_ne_zero
  refine if_congr Iff.rfl (if_congr (by omega) rfl rfl) (if_congr Iff.rfl (congrArg _ ?_) (congrArg _ ?_))
  · push_cast
    norm_num
    ring_nf
  · have e : ((x : ℤ) - (2 ^ (8 - 1) - 1) - (7 : ℕ)) = ((x : ℤ) - (2 ^ (8 - 1) - 1) - (23 : ℕ)) + 16 := by push_cast; ring
    rw [e, zpow_add₀ two]
    push_cast
    norm_num
    ring_nf

theorem low_wide (w : BitVec 32) : Ideal.ofBits .f32 (w <<< 16) = lowHalf w := by
  refine ofBits_wide _ _ ?_
  have := w.isLt
  simp only [BitVec.toNat_shiftLeft, BitVec.extractLsb'_toNat, Nat.shiftLeft_eq, Nat.shiftRight_eq_div_pow]
  omega

theorem high_wide (w : BitVec 32) : Ideal.ofBits .f32 (w &&& 4294901760#32) = highHalf w := by
  refine ofBits_wide _ _ ?_
  have := w.isLt
  have e : w &&& 4294901760#32 = (w >>> 16) <<< 16 := by
    ext i hi
    have : ∀ i : Fin 32, (4294901760#32).getLsbD i.val = decide (16 ≤ i.val) := by decide
    have h := this ⟨i, hi⟩
    simp only [BitVec.getLsbD_eq_getElem, hi] at h
    rw [BitVec.getElem_and, h, BitVec.getElem_shiftLeft]
    by_cases hle : 16 ≤ i
    · simp [hle, Nat.not_lt.2 hle, BitVec.getLsbD_eq_getElem hi]
    · simp [hle, Nat.lt_of_not_le hle]
  rw [e]
  simp only [BitVec.toNat_shiftLeft, BitVec.toNat_ushiftRight, BitVec.extractLsb'_toNat, Nat.shiftLeft_eq, Nat.shiftRight_eq_div_pow]
  omega

/-- The 1024 features of a token, two to a word, 512 apart. -/
def feature (W : Fin 512 → BitVec 32) (f : Fin 1024) : EReal :=
  if h : f.val < 512 then lowHalf (W ⟨f.val, h⟩) else highHalf (W ⟨f.val - 512, by omega⟩)

/-- The logistic function. -/
def gate (z : EReal) : EReal := Ideal.div (Ideal.ofBits .f32 0x3F800000#32) (Ideal.ofBits .f32 0x3F800000#32 + Ideal.exp (-z))

/-- A token with its two experts' outputs added, each times its weight. -/
def mixed (h y1 y2 : Fin 1024 → EReal) (a b : EReal) (f : Fin 1024) : EReal := h f + (a * y1 f + b * y2 f)

/-- The gain of a norm times the gate, added to the mixed token. -/
def combined (x : Fin 1024 → EReal) (p : Fin 256 → EReal) (wp : Fin 256 → Fin 1024 → EReal) (ge gg : Fin 1024 → EReal) (wg : Fin 1024 → Fin 1024 → EReal)
    (f : Fin 1024) : EReal :=
  x f + rmsOf (Ideal.ofBits .f32 0x44800000#32) (fun j => colSum p (fun k => wp k j)) ge f
    * gate (colSum (rmsOf (Ideal.ofBits .f32 0x44800000#32) x gg) (fun k => wg k f))

end Cert.Combine

end
-- ==== Proof.Comb.Pay.lean ====
module

public import proofs.«01_k».proof.Proof.Gen.Kernel3Ideal.Frame
public import proofs.«01_k».proof.Proof.Comb.Math
public import Idealize.ShloMosaic.Lib.Pipeline.ValueKit
public import Idealize.ShloMosaic.Lib.Pointwise

@[expose] public section

set_option maxRecDepth 16384

noncomputable section

/-! One block's values, element by element, over the extended reals. -/

namespace Cert.Kernel3Ideal.Comb

open Idealize.ShloMosaic Idealize.ShloMosaic.TcCoe Idealize.ShloMosaic.Tactic
open Cert.Kernel3Ideal Cert.Kernel3Ideal.Gen Cert.Inproj Cert.Combine

theorem pay2_eq (w : Vec Ideal S256x1024 .f32) (k : Fin 256) (j : Fin 1024) : k0_pay2 (F := Ideal) w (ix2 k j) = w (ix2 k j) := by
  pointwise [k0_pay2]

theorem pay3_eq (w : Vec Ideal S1024x1024 .f32) (k j : Fin 1024) : k0_pay3 (F := Ideal) w (ix2 k j) = w (ix2 k j) := by
  pointwise [k0_pay3]

theorem pay4_apply (p : Vec Ideal S1024x256 .f32) (w : Vec Ideal S256x1024 .bf16) (g : Vec Ideal S1x1024 .f32) (r f : Fin 1024) :
    k0_pay4 (F := Ideal) p w g (ix2 r f)
      = rmsOf (Ideal.ofBits .f32 0x44800000#32) (fun j => colSum (fun k => p (ix2 r k)) (fun k => w (ix2 k j))) (fun i => g (ix2 0 i)) f := by
  pointwise [k0_pay4, rmsOf, colSum]

/-- Every fourth row of the words, from row `s`. -/
def every4 (B : Vec Ideal S4096x128 .i32) (s : Fin 4) : Vec Ideal S1024x128 .i32 := fun x => B (ix2 ⟨4 * (x 0).val + s.val, by have : (x 0).val < 1024 := (x 0).isLt; omega⟩ (x 1))

/-- The word of a block's row at a place. -/
def blockWord (B : Vec Ideal S4096x128 .i32) (r : Fin 1024) (q : Fin 512) : BitVec 32 := B (ix2 ⟨4 * r.val + q.val / 128, by omega⟩ ⟨q.val % 128, by omega⟩)

theorem pay5_apply (B : Vec Ideal S4096x128 .i32) (r : Fin 1024) (q : Fin 512) :
    k0_pay5 (F := Ideal) (every4 B 0) (every4 B 1) (every4 B 2) (every4 B 3) (ix2 r q) = blockWord B r q := by
  obtain ⟨s, l, rfl⟩ : ∃ (s : Fin 4) (l : Fin 128), q = ⟨s.val * 128 + l.val, by omega⟩ := ⟨⟨q.val / 128, by omega⟩, ⟨q.val % 128, by omega⟩, Fin.ext (by show q.val = q.val / 128 * 128 + q.val % 128; omega)⟩
  pointwise [k0_pay5, every4, blockWord]
  have hl := l.isLt
  split
  · exact congrArg B (by congr 2 <;> omega)
  · split
    · exact congrArg B (by congr 2 <;> omega)
    · split
      · exact congrArg B (by congr 2 <;> omega)
      · exact congrArg B (by congr 2 <;> omega)

theorem pay6_apply (B : Vec Ideal S4096x128 .i32) (r : Fin 1024) (q : Fin 512) :
    k0_pay6 (F := Ideal) (every4 B 0) (every4 B 1) (every4 B 2) (every4 B 3) (ix2 r q) = lowHalf (blockWord B r q) := by
  rw [← low_wide, ← pay5_apply]
  pointwise [k0_pay6]
  rfl

theorem pay7_apply (B : Vec Ideal S4096x128 .i32) (r : Fin 1024) (q : Fin 512) :
    k0_pay7 (F := Ideal) (every4 B 0) (every4 B 1) (every4 B 2) (every4 B 3) (ix2 r q) = highHalf (blockWord B r q) := by
  rw [← high_wide, ← pay5_apply]
  pointwise [k0_pay7]
  rfl

variable (H : Vec Ideal S1024x1024 .f32) (E : Vec Ideal S1024x128 .f32) (P : Vec Ideal S1024x256 .f32) (ge gg : Vec Ideal S1x1024 .f32)
  (wE : Vec Ideal S256x1024 .bf16) (wG : Vec Ideal S1024x1024 .bf16) (Y1 Y2 : Vec Ideal S4096x128 .i32)

/-- The mixed rows of a block. -/
def blockMix : FVec Ideal S1024x1024 .f32 :=
  k0_pay8 E (k0_pay6 (every4 Y1 0) (every4 Y1 1) (every4 Y1 2) (every4 Y1 3)) (k0_pay7 (every4 Y1 0) (every4 Y1 1) (every4 Y1 2) (every4 Y1 3))
    (every4 Y2 0) (every4 Y2 1) (every4 Y2 2) (every4 Y2 3) H

/-- The 1024 features of a row, of the low and the high halves. -/
theorem halves (lo hi : FVec Ideal S1024x512 .f32) (Y : Vec Ideal S4096x128 .i32) (r f : Fin 1024)
    (hlo : ∀ q : Fin 512, lo (ix2 r q) = lowHalf (blockWord Y r q)) (hhi : ∀ q : Fin 512, hi (ix2 r q) = highHalf (blockWord Y r q)) :
    (if h : f.val < 512 then lo (ix2 r ⟨f.val, h⟩) else hi (ix2 r ⟨f.val - 512, by omega⟩)) = feature (blockWord Y r) f := by
  unfold feature
  simp only [hlo, hhi]

theorem pay8_apply (a b : FVec Ideal S1024x512 .f32) (y0 y1 y2 y3 : Vec Ideal S1024x128 .i32) (r f : Fin 1024) :
    k0_pay8 (F := Ideal) E a b y0 y1 y2 y3 H (ix2 r f)
      = (H (ix2 r f) + E (ix2 r 4) * (if h : f.val < 512 then a (ix2 r ⟨f.val, h⟩) else b (ix2 r ⟨f.val - 512, by omega⟩)))
        + E (ix2 r 5) * (if h : f.val < 512 then k0_pay6 y0 y1 y2 y3 (ix2 r ⟨f.val, h⟩) else k0_pay7 y0 y1 y2 y3 (ix2 r ⟨f.val - 512, by omega⟩)) := by
  pointwise [k0_pay8, k0_pay6, k0_pay7, k0_pay5]

theorem blockMix_apply (r f : Fin 1024) :
    blockMix H E Y1 Y2 (ix2 r f) = mixed (fun i => H (ix2 r i)) (feature (blockWord Y1 r)) (feature (blockWord Y2 r)) (E (ix2 r 4)) (E (ix2 r 5)) f := by
  unfold blockMix mixed
  rw [pay8_apply, halves _ _ Y1 r f (pay6_apply Y1 r) (pay7_apply Y1 r), halves _ _ Y2 r f (pay6_apply Y2 r) (pay7_apply Y2 r)]
  exact add_assoc _ _ _

theorem pay9_apply (a b : FVec Ideal S1024x512 .f32) (y0 y1 y2 y3 : Vec Ideal S1024x128 .i32) (r f : Fin 1024) :
    k0_pay9 (F := Ideal) E a b y0 y1 y2 y3 H gg wG (ix2 r f)
      = colSum (rmsOf (Ideal.ofBits .f32 0x44800000#32) (fun i => k0_pay8 E a b y0 y1 y2 y3 H (ix2 r i)) (fun i => gg (ix2 0 i))) (fun k => wG (ix2 k f)) := by
  pointwise [k0_pay9, rmsOf, colSum]

theorem pay1_apply (e x z : FVec Ideal S1024x1024 .f32) (r f : Fin 1024) :
    k0_pay1 (F := Ideal) e x z (FloatOps.ofBits .f32 0#32) (ix2 r f) = x (ix2 r f) + e (ix2 r f) * gate (z (ix2 r f)) := by
  pointwise [k0_pay1, gate]
  rw [zero_sub]

/-- A block's result, of its arrays and the two blocks' every fourth rows. -/
def payOut (a0 a1 a2 a3 b0 b1 b2 b3 : Vec Ideal S1024x128 .i32) : FVec Ideal S1024x1024 .f32 :=
  k0_pay1 (k0_pay4 P wE ge) (k0_pay8 E (k0_pay6 a0 a1 a2 a3) (k0_pay7 a0 a1 a2 a3) b0 b1 b2 b3 H)
    (k0_pay9 E (k0_pay6 a0 a1 a2 a3) (k0_pay7 a0 a1 a2 a3) b0 b1 b2 b3 H gg wG) (FloatOps.ofBits .f32 0#32)

/-- A block's result. -/
def blockOut : FVec Ideal S1024x1024 .f32 :=
  payOut H E P ge gg wE wG (every4 Y1 0) (every4 Y1 1) (every4 Y1 2) (every4 Y1 3) (every4 Y2 0) (every4 Y2 1) (every4 Y2 2) (every4 Y2 3)

theorem blockOut_apply (r f : Fin 1024) :
    blockOut H E P ge gg wE wG Y1 Y2 (ix2 r f)
      = combined (mixed (fun i => H (ix2 r i)) (feature (blockWord Y1 r)) (feature (blockWord Y2 r)) (E (ix2 r 4)) (E (ix2 r 5)))
          (fun k => P (ix2 r k)) (fun k j => wE (ix2 k j)) (fun i => ge (ix2 0 i)) (fun i => gg (ix2 0 i)) (fun k j => wG (ix2 k j)) f := by
  unfold blockOut payOut combined
  rw [pay1_apply, pay4_apply, pay9_apply]
  have e : ∀ i : Fin 1024, k0_pay8 (F := Ideal) E (k0_pay6 (every4 Y1 0) (every4 Y1 1) (every4 Y1 2) (every4 Y1 3)) (k0_pay7 (every4 Y1 0) (every4 Y1 1) (every4 Y1 2) (every4 Y1 3))
      (every4 Y2 0) (every4 Y2 1) (every4 Y2 2) (every4 Y2 3) H (ix2 r i)
      = mixed (fun i => H (ix2 r i)) (feature (blockWord Y1 r)) (feature (blockWord Y2 r)) (E (ix2 r 4)) (E (ix2 r 5)) i := blockMix_apply H E Y1 Y2 r
  simp only [e]

end Cert.Kernel3Ideal.Comb

end
-- ==== Proof.Comb.Out.lean ====
module

public import proofs.«01_k».proof.Proof.Comb.Pay

@[expose] public section

set_option maxRecDepth 16384

noncomputable section

/-! One grid point's output block. -/

namespace Cert.Kernel3Ideal.Comb

open Idealize.ShloMosaic Idealize.ShloMosaic.TcCoe Idealize.ShloMosaic.Tactic
open Cert.Kernel3Ideal Cert.Kernel3Ideal.Gen Cert.Inproj Cert.Combine

variable (m : (ℓ : Loc nD τ sig) → Buf (Elt Ideal) ℓ) (c : Dev nD)

theorem embA (t : Fin cfg0.N) (h0 : t.val % 16 = 0) : (outsAt0 m c t.val t.isLt).2.1 = k0_pay2 (iblk m c 3 t) := by
  rw [outsAt0_A m c t h0]
  frame_out

theorem embB (t : Fin cfg0.N) (h0 : ¬ t.val % 16 = 0) : (outsAt0 m c t.val t.isLt).2.1 = (outsAt0 m c (t.val - 1) (Nat.lt_of_le_of_lt (Nat.sub_le _ _) t.isLt)).2.1 := by
  rw [outsAt0_B m c t h0]
  rfl

theorem gateA (t : Fin cfg0.N) (h0 : t.val % 16 = 0) : (outsAt0 m c t.val t.isLt).2.2 = k0_pay3 (iblk m c 6 t) := by
  rw [outsAt0_A m c t h0]
  frame_out

theorem gateB (t : Fin cfg0.N) (h0 : ¬ t.val % 16 = 0) : (outsAt0 m c t.val t.isLt).2.2 = (outsAt0 m c (t.val - 1) (Nat.lt_of_le_of_lt (Nat.sub_le _ _) t.isLt)).2.2 := by
  rw [outsAt0_B m c t h0]
  rfl

/-- A load of every fourth row of a block. -/
theorem load_every4 (M : Memref sig .tc .vmem S4096x128 .i32) (h : M.IsWhole) (B : Vec Ideal S4096x128 .i32) (s : Fin 4) (inb) :
    View.readAt (Elt Ideal) M.view ⟨![s.val, 0], ![1024, 128], ![4, 1], inb⟩ (h.unread B) = every4 B s := by
  funext x
  rw [View.readAt_apply, h.read_unread]
  refine congrArg B ?_
  funext b
  match b with
  | ⟨0, _⟩ => exact Fin.ext (by show s.val + 4 * (x 0).val = 4 * (x 0).val + s.val; omega)
  | ⟨1, _⟩ => exact Fin.ext (by show 0 + 1 * (x 1).val = (x 1).val; omega)

theorem congrOut {H : Vec Ideal S1024x1024 .f32} {E : Vec Ideal S1024x128 .f32} {P : Vec Ideal S1024x256 .f32} {ge gg : Vec Ideal S1x1024 .f32}
    {wE wE' : Vec Ideal S256x1024 .bf16} {wG wG' : Vec Ideal S1024x1024 .bf16} {a0 a1 a2 a3 b0 b1 b2 b3 a0' a1' a2' a3' b0' b1' b2' b3' : Vec Ideal S1024x128 .i32}
    (e : wE = wE') (g : wG = wG') (h0 : a0 = a0') (h1 : a1 = a1') (h2 : a2 = a2') (h3 : a3 = a3') (k0 : b0 = b0') (k1 : b1 = b1') (k2 : b2 = b2') (k3 : b3 = b3') :
    payOut H E P ge gg wE wG a0 a1 a2 a3 b0 b1 b2 b3 = payOut H E P ge gg wE' wG' a0' a1' a2' a3' b0' b1' b2' b3' := by
  subst e; subst g; subst h0; subst h1; subst h2; subst h3; subst k0; subst k1; subst k2; subst k3; rfl

/-- The result at a grid point whose weights, kept from the first one, are `wE` and `wG`. -/
def atPoint (t : Fin cfg0.N) (wE : Vec Ideal S256x1024 .bf16) (wG : Vec Ideal S1024x1024 .bf16) : FVec Ideal S1024x1024 .f32 :=
  blockOut (iblk m c 0 t) (iblk m c 1 t) (iblk m c 2 t) (iblk m c 4 t) (iblk m c 5 t) wE wG (iblk m c 7 t) (iblk m c 8 t)

theorem outA (t : Fin cfg0.N) (h0 : t.val % 16 = 0) :
    (outsAt0 m c t.val t.isLt).1 = atPoint m c t (outsAt0 m c t.val t.isLt).2.1 (outsAt0 m c t.val t.isLt).2.2 := by
  rw [embA m c t h0, gateA m c t h0, outsAt0_A m c t h0]
  frame_out
  exact congrOut rfl rfl (load_every4 _ _ _ 0 _) (load_every4 _ _ _ 1 _) (load_every4 _ _ _ 2 _) (load_every4 _ _ _ 3 _)
    (load_every4 _ _ _ 0 _) (load_every4 _ _ _ 1 _) (load_every4 _ _ _ 2 _) (load_every4 _ _ _ 3 _)

theorem outB (t : Fin cfg0.N) (h0 : ¬ t.val % 16 = 0) :
    (outsAt0 m c t.val t.isLt).1 = atPoint m c t (outsAt0 m c t.val t.isLt).2.1 (outsAt0 m c t.val t.isLt).2.2 := by
  rw [embB m c t h0, gateB m c t h0, outsAt0_B m c t h0]
  frame_out
  exact congrOut (Memref.IsWhole.read_unread _ _) (Memref.IsWhole.read_unread _ _) (load_every4 _ _ _ 0 _) (load_every4 _ _ _ 1 _) (load_every4 _ _ _ 2 _) (load_every4 _ _ _ 3 _)
    (load_every4 _ _ _ 0 _) (load_every4 _ _ _ 1 _) (load_every4 _ _ _ 2 _) (load_every4 _ _ _ 3 _)

/-- Every grid point finds the same weights. -/
theorem emb_eq (W : Vec Ideal S256x1024 .bf16) (hW : ∀ t : Fin cfg0.N, k0_pay2 (iblk m c 3 t) = W) :
    ∀ (n : Nat) (hn : n < cfg0.N), (outsAt0 m c n hn).2.1 = W
  | 0, hn => (embA m c ⟨0, hn⟩ rfl).trans (hW _)
  | n + 1, hn => by
    by_cases h0 : (n + 1) % 16 = 0
    · exact (embA m c ⟨n + 1, hn⟩ h0).trans (hW _)
    · exact (embB m c ⟨n + 1, hn⟩ h0).trans (emb_eq W hW n _)

theorem gate_eq (W : Vec Ideal S1024x1024 .bf16) (hW : ∀ t : Fin cfg0.N, k0_pay3 (iblk m c 6 t) = W) :
    ∀ (n : Nat) (hn : n < cfg0.N), (outsAt0 m c n hn).2.2 = W
  | 0, hn => (gateA m c ⟨0, hn⟩ rfl).trans (hW _)
  | n + 1, hn => by
    by_cases h0 : (n + 1) % 16 = 0
    · exact (gateA m c ⟨n + 1, hn⟩ h0).trans (hW _)
    · exact (gateB m c ⟨n + 1, hn⟩ h0).trans (gate_eq W hW n _)

theorem out_eq (wE : Vec Ideal S256x1024 .bf16) (hE : ∀ t : Fin cfg0.N, k0_pay2 (iblk m c 3 t) = wE) (wG : Vec Ideal S1024x1024 .bf16)
    (hG : ∀ t : Fin cfg0.N, k0_pay3 (iblk m c 6 t) = wG) (t : Fin cfg0.N) : (outsAt0 m c t.val t.isLt).1 = atPoint m c t wE wG := by
  by_cases h0 : t.val % 16 = 0
  · exact (outA m c t h0).trans (by rw [emb_eq m c wE hE, gate_eq m c wG hG])
  · exact (outB m c t h0).trans (by rw [emb_eq m c wE hE, gate_eq m c wG hG])

end Cert.Kernel3Ideal.Comb

end
-- ==== Proof.Comb.Window.lean ====
module

public import proofs.«01_k».proof.Proof.Comb.Out
public import Idealize.ShloMosaic.Lib.StableHlo.ReadAt

@[expose] public section

set_option maxRecDepth 16384

noncomputable section

/-! The blocks a grid point reads and writes, as places of the arguments and of the result. -/

namespace Cert.Kernel3Ideal.Comb

open Idealize.ShloMosaic Idealize.ShloMosaic.TcCoe
open Cert.Kernel3Ideal Cert.Kernel3Ideal.Gen Cert.Inproj Cert.Combine

variable (m : (ℓ : Loc nD τ sig) → Buf (Elt Ideal) ℓ) (c : Dev nD)

theorem entry_h (n : Fin 16384) (k : Fin 1024) :
    (V m c main_arg0 : FVec Ideal S16384x1024 .f32) (ix2 n k) = (m ((c.tc : Thread nD τ).loc main_arg0) : FVec Ideal S16384x1024 .f32) (ix2 n k) := by
  unfold V
  after_reads_at

theorem entry_meta (n : Fin 16384) (k : Fin 128) :
    (V m c main_arg1 : FVec Ideal S16384x128 .f32) (ix2 n k) = (m ((c.tc : Thread nD τ).loc main_arg1) : FVec Ideal S16384x128 .f32) (ix2 n k) := by
  unfold V
  after_reads_at

theorem entry_p (n : Fin 16384) (k : Fin 256) :
    (V m c main_v1 : FVec Ideal S16384x256 .f32) (ix2 n k)
      = (m ((c.tc : Thread nD τ).loc main_arg2) : FVec Ideal S1x4x4096x256 .f32) (ix4 0 ⟨n.val / 4096, by omega⟩ ⟨n.val % 4096, by omega⟩ k) := by
  unfold V
  after_reads_at

theorem entry_wp (k : Fin 256) (j : Fin 1024) :
    (V m c main_v2 : FVec Ideal S256x1024 .f32) (ix2 k j) = (m ((c.tc : Thread nD τ).loc main_arg3) : FVec Ideal S1x256x1024 .f32) (ix3 0 k j) := by
  unfold V
  after_reads_at

theorem entry_ge (k : Fin 1024) :
    (V m c main_v4 : FVec Ideal S1x1024 .f32) (ix2 0 k) = (m ((c.tc : Thread nD τ).loc main_arg4) : FVec Ideal S1x1024 .f32) (ix2 0 k) := by
  unfold V
  after_reads_at

theorem entry_gg (k : Fin 1024) :
    (V m c main_v6 : FVec Ideal S1x1024 .f32) (ix2 0 k) = (m ((c.tc : Thread nD τ).loc main_arg5) : FVec Ideal S1x1024 .f32) (ix2 0 k) := by
  unfold V
  after_reads_at

theorem entry_wg (k j : Fin 1024) :
    (V m c main_v7 : FVec Ideal S1024x1024 .f32) (ix2 k j) = (m ((c.tc : Thread nD τ).loc main_arg6) : FVec Ideal S1x1024x1024 .f32) (ix3 0 k j) := by
  unfold V
  after_reads_at

theorem entry_y (n : Fin 135168) (k : Fin 128) :
    (V m c main_arg7 : IVec S135168x128 32) (ix2 n k) = (m ((c.tc : Thread nD τ).loc main_arg7) : IVec S135168x128 32) (ix2 n k) := by
  unfold V
  after_reads_at

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![16 + t.val, 0] := (by decide +kernel : ∀ t : Fin grid0.N, _)
theorem index9 : ∀ t : Fin cfg0.N, win0_9.index t = ![t.val, 0] := (by decide +kernel : ∀ t : Fin grid0.N, _)

theorem point_lt (t : Fin cfg0.N) : t.val < 16 := lt_of_lt_of_eq t.isLt N_0

/-- The token of a grid point's row. -/
def token (t : Fin cfg0.N) (r : Fin 1024) : Fin 16384 := ⟨1024 * t.val + r.val, by have := point_lt t; omega⟩

theorem read_h (t : Fin cfg0.N) (r k : Fin 1024) : (iblk m c 0 t : Vec Ideal S1024x1024 .f32) (ix2 r k)
    = (m ((c.tc : Thread nD τ).loc main_arg0) : FVec Ideal S16384x1024 .f32) (ix2 (token t r) k) := by
  refine Eq.trans ?_ (entry_h m c (token t r) k)
  blk_simp [iblk]
  refine congrArg _ ?_
  blk_ext [index0, token]

theorem read_meta (t : Fin cfg0.N) (r : Fin 1024) (k : Fin 128) : (iblk m c 1 t : Vec Ideal S1024x128 .f32) (ix2 r k)
    = (m ((c.tc : Thread nD τ).loc main_arg1) : FVec Ideal S16384x128 .f32) (ix2 (token t r) k) := by
  refine Eq.trans ?_ (entry_meta m c (token t r) k)
  blk_simp [iblk]
  refine congrArg _ ?_
  blk_ext [index1, token]

theorem read_p (t : Fin cfg0.N) (r : Fin 1024) (k : Fin 256) : (iblk m c 2 t : Vec Ideal S1024x256 .f32) (ix2 r k)
    = (m ((c.tc : Thread nD τ).loc main_arg2) : FVec Ideal S1x4x4096x256 .f32) (ix4 0 ⟨(token t r).val / 4096, by omega⟩ ⟨(token t r).val % 4096, by omega⟩ k) := by
  refine Eq.trans ?_ (entry_p m c (token t r) k)
  blk_simp [iblk]
  refine congrArg _ ?_
  blk_ext [index2, token]

theorem read_wp (t : Fin cfg0.N) (k : Fin 256) (j : Fin 1024) : (iblk m c 3 t : Vec Ideal S256x1024 .f32) (ix2 k j)
    = (m ((c.tc : Thread nD τ).loc main_arg3) : FVec Ideal S1x256x1024 .f32) (ix3 0 k j) := by
  refine Eq.trans ?_ (entry_wp m c k j)
  blk_simp [iblk]
  refine congrArg _ ?_
  blk_ext [index3]

theorem read_ge (t : Fin cfg0.N) (k : Fin 1024) : (iblk m c 4 t : Vec Ideal S1x1024 .f32) (ix2 0 k)
    = (m ((c.tc : Thread nD τ).loc main_arg4) : FVec Ideal S1x1024 .f32) (ix2 0 k) := by
  refine Eq.trans ?_ (entry_ge m c k)
  blk_simp [iblk]
  refine congrArg _ ?_
  blk_ext [index4]

theorem read_gg (t : Fin cfg0.N) (k : Fin 1024) : (iblk m c 5 t : Vec Ideal S1x1024 .f32) (ix2 0 k)
    = (m ((c.tc : Thread nD τ).loc main_arg5) : FVec Ideal S1x1024 .f32) (ix2 0 k) := by
  refine Eq.trans ?_ (entry_gg m c k)
  blk_simp [iblk]
  refine congrArg _ ?_
  blk_ext [index5]

theorem read_wg (t : Fin cfg0.N) (k j : Fin 1024) : (iblk m c 6 t : Vec Ideal S1024x1024 .f32) (ix2 k j)
    = (m ((c.tc : Thread nD τ).loc main_arg6) : FVec Ideal S1x1024x1024 .f32) (ix3 0 k j) := by
  refine Eq.trans ?_ (entry_wg m c k j)
  blk_simp [iblk]
  refine congrArg _ ?_
  blk_ext [index6]

theorem read_y1 (t : Fin cfg0.N) (r : Fin 4096) (l : Fin 128) : (iblk m c 7 t : Vec Ideal S4096x128 .i32) (ix2 r l)
    = (m ((c.tc : Thread nD τ).loc main_arg7) : IVec S135168x128 32) (ix2 ⟨4096 * t.val + r.val, by have := point_lt t; omega⟩ l) := by
  refine Eq.trans ?_ (entry_y m c ⟨4096 * t.val + r.val, by have := point_lt t; omega⟩ l)
  blk_simp [iblk]
  refine congrArg _ ?_
  blk_ext [index7]

theorem read_y2 (t : Fin cfg0.N) (r : Fin 4096) (l : Fin 128) : (iblk m c 8 t : Vec Ideal S4096x128 .i32) (ix2 r l)
    = (m ((c.tc : Thread nD τ).loc main_arg7) : IVec S135168x128 32) (ix2 ⟨4096 * (16 + t.val) + r.val, by have := point_lt t; omega⟩ l) := by
  refine Eq.trans ?_ (entry_y m c ⟨4096 * (16 + t.val) + r.val, by have := point_lt t; omega⟩ l)
  blk_simp [iblk]
  refine congrArg _ ?_
  blk_ext [index8]

theorem out_cover (X : FVec Ideal S16384x1024 .f32) (h : ∀ (t : Fin cfg0.N) (r f : Fin 1024), (outsAt0 m c t.val t.isLt).1 (ix2 r f) = X (ix2 (token t r) f)) :
    (dats m 0 c).arrAt 9 cfg0.N = X := by
  refine (dats m 0 c).arrAt_eq_of_covers 9 _ (by decide +kernel) fun t hf y => ?_
  blk_simp
  rw [after0_9]
  have h0 : (y 0).val < 1024 := (y 0).isLt
  have h1 : (y 1).val < 1024 := (y 1).isLt
  have ey : (y : S1024x1024.Idx) = ix2 ⟨(y 0).val, h0⟩ ⟨(y 1).val, h1⟩ := by
    funext a
    match a with
    | ⟨0, _⟩ => rfl
    | ⟨1, _⟩ => rfl
  refine (congrArg (outsAt0 m c t.val t.isLt).1 ey).trans ((h t ⟨(y 0).val, h0⟩ ⟨(y 1).val, h1⟩).trans (congrArg X ?_))
  blk_ext [index9, token]

end Cert.Kernel3Ideal.Comb

end
-- ==== Proof.Comb.Ref.lean ====
module

public import proofs.«01_k».proof.Proof.Gen.Reference3Ideal.Run
public import proofs.«01_k».proof.Proof.Comb.Math
public import Idealize.ShloMosaic.Lib.Pointwise
public import Idealize.ShloMosaic.Lib.BitcastConvert

@[expose] public section

set_option maxRecDepth 16384

noncomputable section

/-! The plain last step's result over the extended reals, element by element. -/

namespace Cert.Reference3Ideal.Comb

open Idealize.ShloMosaic Idealize.ShloMosaic.TcCoe
open Cert.Reference3Ideal Cert.Reference3Ideal.Gen Cert.Inproj Cert.Combine

/-- The words of the experts' outputs, by choice and token. -/
def words (y : IVec S135168x128 32) : IVec S2x16384x512 32 :=
  shapeCast _ (extractStridedSlice S131072x128 ![0, 0] y slices_S135168x128_S131072x128_0_0) shapeCasts_S131072x128_S2x16384x512

/-- The experts' outputs, by choice and token. -/
def outs (y : IVec S135168x128 32) : FVec Ideal S2x16384x1024 .f32 :=
  extf .f32 (shapeCast _ (transpose S2x16384x2x512 [0, 1, 3, 2] (bitcastToFloat (F := Ideal) .bf16 (Host.bitcastConvertNarrow S2x16384x512x2 16 (words y) splits_S2x16384x512_w32_S2x16384x512x2_w16)) transposes_S2x16384x512x2_S2x16384x2x512_0_1_3_2) shapeCasts_S2x16384x2x512_S2x16384x1024) bitsLt_bf16_f32

/-- A choice's weight for each token, over the features. -/
def weight4 (e : FVec Ideal S16384x128 .f32) : FVec Ideal S16384x1024 .f32 :=
  broadcastInDim S16384x1024 ![0, 1] bcast_S16384x1_S16384x1024_0_1 (extractStridedSlice S16384x1 ![0, 4] e slices_S16384x128_S16384x1_0_4)
def weight5 (e : FVec Ideal S16384x128 .f32) : FVec Ideal S16384x1024 .f32 :=
  broadcastInDim S16384x1024 ![0, 1] bcast_S16384x1_S16384x1024_0_1 (extractStridedSlice S16384x1 ![0, 5] e slices_S16384x128_S16384x1_0_5)

/-- The mixed tokens. -/
def mix (h : FVec Ideal S16384x1024 .f32) (e : FVec Ideal S16384x128 .f32) (y : IVec S135168x128 32) : FVec Ideal S16384x1024 .f32 :=
  addf h (addf (mulf (weight4 e) (shapeCast _ (extractStridedSlice S1x16384x1024 ![0, 0, 0] (outs y) slices_S2x16384x1024_S1x16384x1024_0_0_0) shapeCasts_S1x16384x1024_S16384x1024))
    (mulf (weight5 e) (shapeCast _ (extractStridedSlice S1x16384x1024 ![1, 0, 0] (outs y) slices_S2x16384x1024_S1x16384x1024_1_0_0) shapeCasts_S1x16384x1024_S16384x1024)))

/-- The rows normed. -/
def normed (x : FVec Ideal S16384x1024 .f32) (g : FVec Ideal S1x1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ g shapeCasts_S1x1024_S1024)))

/-- The per-token embedding, projected. -/
def embed (p : FVec Ideal S1x4x4096x256 .f32) (w : FVec Ideal S1x256x1024 .f32) : FVec Ideal S16384x1024 .f32 :=
  Host.dotGeneral dot_S16384x256_S256x1024_S16384x1024_1_0_0_1_n_n none (shapeCast _ (shapeCast _ p shapeCasts_S1x4x4096x256_S4x4096x256 : FVec Ideal S4x4096x256 .f32) shapeCasts_S4x4096x256_S16384x256) (shapeCast _ w shapeCasts_S1x256x1024_S256x1024)

/-- The gate's argument. -/
def gated (x : FVec Ideal S16384x1024 .f32) (w : FVec Ideal S1x1024x1024 .f32) : FVec Ideal S16384x1024 .f32 :=
  Host.dotGeneral dot_S16384x1024_S1024x1024_S16384x1024_1_0_0_1_n_n none x (shapeCast _ w shapeCasts_S1x1024x1024_S1024x1024)

/-- The result, of the mixed tokens, the normed embeddings and the gate's argument. -/
def last (x e z : FVec Ideal S16384x1024 .f32) : FVec Ideal S16384x1024 .f32 :=
  addf x (mulf e (Host.divf (broadcastInDim S16384x1024 ![] bcast_S_S16384x1024 (constant S_ .f32 0x3F800000#32)) (addf (broadcastInDim S16384x1024 ![] bcast_S_S16384x1024 (constant S_ .f32 0x3F800000#32)) (Host.exp (Host.negf z)))))

/-- The result, of the arguments. -/
def out (h : FVec Ideal S16384x1024 .f32) (e : FVec Ideal S16384x128 .f32) (p : FVec Ideal S1x4x4096x256 .f32) (wp : FVec Ideal S1x256x1024 .f32)
    (ge gg : FVec Ideal S1x1024 .f32) (wg : FVec Ideal S1x1024x1024 .f32) (y : IVec S135168x128 32) : FVec Ideal S16384x1024 .f32 :=
  last (mix h e y) (normed (embed p wp) ge) (gated (normed (mix h e y) gg) wg)

theorem res_eq (m : (ℓ : Loc nD τ sig) → Buf (Elt Ideal) ℓ) (c : Dev nD) :
    Cert.Reference3Ideal.Value.res_main_v59 m c
      = out (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  unfold Cert.Reference3Ideal.Value.res_main_v59
  rfl

/-- The word a choice's token has at a place. -/
def wordAt (y : IVec S135168x128 32) (a : Fin 2) (n : Fin 16384) (q : Fin 512) : BitVec 32 :=
  y (ix2 ⟨a.val * 65536 + n.val * 4 + q.val / 128, by omega⟩ ⟨q.val % 128, by omega⟩)

theorem words_apply (y : IVec S135168x128 32) (a : Fin 2) (n : Fin 16384) (q : Fin 512) : words y (ix3 a n q) = wordAt y a n q := by
  pointwise [words, wordAt]

theorem outs_split (y : IVec S135168x128 32) (a : Fin 2) (n : Fin 16384) (s : Fin 2) (q : Fin 512) :
    outs y (ix3 a n ⟨s.val * 512 + q.val, by omega⟩) = Ideal.ofBits .bf16 ((wordAt y a n q).extractLsb' (s.val * 16) 16) := by
  rw [← words_apply]
  pointwise [outs]
  rfl

theorem outs_apply (y : IVec S135168x128 32) (a : Fin 2) (n : Fin 16384) (f : Fin 1024) : outs y (ix3 a n f) = feature (wordAt y a n) f := by
  unfold feature
  split
  · next h =>
    have e := outs_split y a n 0 ⟨f.val, h⟩
    have ef : (⟨(0 : Fin 2).val * 512 + f.val, by show 0 * 512 + f.val < 1024; omega⟩ : Fin 1024) = f := Fin.ext (by show 0 * 512 + f.val = f.val; omega)
    rw [ef] at e
    exact e
  · next h =>
    have e := outs_split y a n 1 ⟨f.val - 512, by omega⟩
    have ef : (⟨(1 : Fin 2).val * 512 + (f.val - 512), by show 1 * 512 + (f.val - 512) < 1024; omega⟩ : Fin 1024) = f := Fin.ext (by show 1 * 512 + (f.val - 512) = f.val; omega)
    rw [ef] at e
    exact e

theorem mix_apply (h : FVec Ideal S16384x1024 .f32) (e : FVec Ideal S16384x128 .f32) (y : IVec S135168x128 32) (n : Fin 16384) (f : Fin 1024) :
    mix h e y (ix2 n f) = mixed (fun i => h (ix2 n i)) (feature (wordAt y 0 n)) (feature (wordAt y 1 n)) (e (ix2 n 4)) (e (ix2 n 5)) f := by
  pointwise [mix, weight4, weight5, outs_apply, mixed]

theorem normed_apply (x : FVec Ideal S16384x1024 .f32) (g : FVec Ideal S1x1024 .f32) (n : Fin 16384) (f : Fin 1024) :
    normed x g (ix2 n f) = rmsOf (Ideal.ofBits .f32 0x44800000#32) (fun i => x (ix2 n i)) (fun i => g (ix2 0 i)) f := by
  pointwise [normed, rmsOf]

theorem embed_apply (p : FVec Ideal S1x4x4096x256 .f32) (w : FVec Ideal S1x256x1024 .f32) (n : Fin 16384) (j : Fin 1024) :
    embed p w (ix2 n j) = colSum (fun k => p (ix4 0 ⟨n.val / 4096, by omega⟩ ⟨n.val % 4096, by omega⟩ k)) (fun k => w (ix3 0 k j)) := by
  pointwise [embed, colSum]

theorem gated_apply (x : FVec Ideal S16384x1024 .f32) (w : FVec Ideal S1x1024x1024 .f32) (n : Fin 16384) (j : Fin 1024) :
    gated x w (ix2 n j) = colSum (fun k => x (ix2 n k)) (fun k => w (ix3 0 k j)) := by
  pointwise [gated, colSum]

theorem last_apply (x e z : FVec Ideal S16384x1024 .f32) (n : Fin 16384) (f : Fin 1024) :
    last x e z (ix2 n f) = x (ix2 n f) + e (ix2 n f) * gate (z (ix2 n f)) := by
  pointwise [last, gate]

theorem out_apply (h : FVec Ideal S16384x1024 .f32) (e : FVec Ideal S16384x128 .f32) (p : FVec Ideal S1x4x4096x256 .f32) (wp : FVec Ideal S1x256x1024 .f32)
    (ge gg : FVec Ideal S1x1024 .f32) (wg : FVec Ideal S1x1024x1024 .f32) (y : IVec S135168x128 32) (n : Fin 16384) (f : Fin 1024) :
    out h e p wp ge gg wg y (ix2 n f)
      = combined (mixed (fun i => h (ix2 n i)) (feature (wordAt y 0 n)) (feature (wordAt y 1 n)) (e (ix2 n 4)) (e (ix2 n 5)))
          (fun k => p (ix4 0 ⟨n.val / 4096, by omega⟩ ⟨n.val % 4096, by omega⟩ k)) (fun k j => wp (ix3 0 k j)) (fun i => ge (ix2 0 i)) (fun i => gg (ix2 0 i))
          (fun k j => wg (ix3 0 k j)) f := by
  unfold out
  rw [last_apply, normed_apply, gated_apply]
  simp only [normed_apply, embed_apply, mix_apply]
  rfl

end Cert.Reference3Ideal.Comb

end
-- ==== Proof.Comb.Value.lean ====
module

public import proofs.«01_k».proof.Proof.Comb.Window
public import proofs.«01_k».proof.Proof.Comb.Ref

@[expose] public section

set_option maxRecDepth 16384

noncomputable section

/-! The last step's result is the reference's. -/

namespace Cert.Kernel3Ideal.Comb

open Idealize.ShloMosaic Idealize.ShloMosaic.TcCoe
open Cert.Kernel3Ideal Cert.Kernel3Ideal.Gen Cert.Inproj Cert.Combine

variable (m : (ℓ : Loc nD τ sig) → Buf (Elt Ideal) ℓ) (c : Dev nD)

/-- The two weights, as every grid point keeps them. -/
def embWeights : Vec Ideal S256x1024 .bf16 := fun x => (m ((c.tc : Thread nD τ).loc main_arg3) : FVec Ideal S1x256x1024 .f32) (ix3 0 (x 0) (x 1))
def gateWeights : Vec Ideal S1024x1024 .bf16 := fun x => (m ((c.tc : Thread nD τ).loc main_arg6) : FVec Ideal S1x1024x1024 .f32) (ix3 0 (x 0) (x 1))

theorem embWeights_eq (t : Fin cfg0.N) : k0_pay2 (iblk m c 3 t) = embWeights m c := by
  funext x
  have ex : x = ix2 (x 0) (x 1) := by
    funext b
    match b with
    | ⟨0, _⟩ => rfl
    | ⟨1, _⟩ => rfl
  rw [ex]
  exact (pay2_eq (iblk m c 3 t) (x 0) (x 1)).trans (read_wp m c t (x 0) (x 1))

theorem gateWeights_eq (t : Fin cfg0.N) : k0_pay3 (iblk m c 6 t) = gateWeights m c := by
  funext x
  have ex : x = ix2 (x 0) (x 1) := by
    funext b
    match b with
    | ⟨0, _⟩ => rfl
    | ⟨1, _⟩ => rfl
  rw [ex]
  exact (pay3_eq (iblk m c 6 t) (x 0) (x 1)).trans (read_wg m c t (x 0) (x 1))

/-- The result, as the reference takes it of the arguments. -/
abbrev refOut : FVec Ideal S16384x1024 .f32 :=
  Cert.Reference3Ideal.Comb.out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7))

theorem word1 (t : Fin cfg0.N) (r : Fin 1024) : blockWord (iblk m c 7 t) r = Cert.Reference3Ideal.Comb.wordAt (m ((c.tc : Thread nD τ).loc main_arg7)) 0 (token t r) := by
  funext q
  refine (read_y1 m c t ⟨4 * r.val + q.val / 128, by omega⟩ ⟨q.val % 128, by omega⟩).trans ?_
  unfold Cert.Reference3Ideal.Comb.wordAt
  refine congrArg (fun i : Fin 135168 => (m ((c.tc : Thread nD τ).loc main_arg7) : IVec S135168x128 32) (ix2 i ⟨q.val % 128, by omega⟩)) (Fin.ext ?_)
  show 4096 * t.val + (4 * r.val + q.val / 128) = 0 * 65536 + (1024 * t.val + r.val) * 4 + q.val / 128
  omega

theorem word2 (t : Fin cfg0.N) (r : Fin 1024) : blockWord (iblk m c 8 t) r = Cert.Reference3Ideal.Comb.wordAt (m ((c.tc : Thread nD τ).loc main_arg7)) 1 (token t r) := by
  funext q
  refine (read_y2 m c t ⟨4 * r.val + q.val / 128, by omega⟩ ⟨q.val % 128, by omega⟩).trans ?_
  unfold Cert.Reference3Ideal.Comb.wordAt
  refine congrArg (fun i : Fin 135168 => (m ((c.tc : Thread nD τ).loc main_arg7) : IVec S135168x128 32) (ix2 i ⟨q.val % 128, by omega⟩)) (Fin.ext ?_)
  show 4096 * (16 + t.val) + (4 * r.val + q.val / 128) = 1 * 65536 + (1024 * t.val + r.val) * 4 + q.val / 128
  omega

theorem result_eq : (dats m 0 c).arrAt 9 cfg0.N = refOut m c := by
  refine out_cover m c _ fun t r f => ?_
  refine (congrFun (out_eq m c _ (embWeights_eq m c) _ (gateWeights_eq m c) t) (ix2 r f)).trans ?_
  refine (blockOut_apply _ _ _ _ _ _ _ _ _ r f).trans (Eq.trans ?_ (Cert.Reference3Ideal.Comb.out_apply _ _ _ _ _ _ _ _ (token t r) f).symm)
  rw [word1 m c t r, word2 m c t r]
  simp only [read_h m c t, read_meta m c t, read_p m c t, read_ge m c t, read_gg m c t]
  rfl

end Cert.Kernel3Ideal.Comb

end
-- ==== Proof.Near.Rows.lean ====
module

public import proofs.«01_k».proof.Proof.Gen.Kernel4Ideal.Value
public import Idealize.ShloMosaic.Lib.Pointwise

@[expose] public section

set_option maxRecDepth 16384

noncomputable section

/-! One grid point's output block, row by row of the grid of tokens. -/

namespace Cert.Kernel4Ideal.Near

open Idealize.ShloMosaic Idealize.ShloMosaic.TcCoe Idealize.ShloMosaic.Tactic
open Cert.Kernel4Ideal Cert.Kernel4Ideal.Gen

/-- One row's result, of its queries, its window of keys and values and four pieces of the bias. -/
def rowPay (q : Vec Ideal S1x64x128 .bf16) (k v : Vec Ideal S1x512x128 .bf16) (b0 b1 b2 b3 : Vec Ideal S1x1x256x128 .f32) : Vec Ideal S1x64x128 .bf16 :=
  k0_pay41 k0_pay2 (k0_pay38 (k0_pay36 k0_pay2 q) k v b0 b1 b2 b3) (k0_pay39 (k0_pay36 k0_pay2 q) k v b0 b1 b2 b3) k0_pay40

/-- The bias piece of a pair of a row's key rows. -/
def biasAt (arg2 : Memref sig .tc .vmem S1x14x256x128 .f32) (harg2 : arg2.IsWhole) (x0 : Vec Ideal S1x14x256x128 .f32) (r : Fin 64) (i : Fin 4) : Vec Ideal S1x1x256x128 .f32 :=
  View.readAt (Elt Ideal) arg2.view (Rect.unit (s := S1x14x256x128) (k0_off3 (BitVec.ofNat 32 r.val) (BitVec.ofNat 32 (2 * i.val))) S1x1x256x128.size (k0_off3_inb r i)).toLoadRect (harg2.unread x0)

/-- What is stored of one row. -/
def rowPiece (arg2 : Memref sig .tc .vmem S1x14x256x128 .f32) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole)
    (x0 : Vec Ideal S1x14x256x128 .f32) (x1 x2 x3 : Vec Ideal S1x4096x128 .bf16) (r : Fin 64) : View.Piece (Elt Ideal) S1x4096x128 .bf16 :=
  ⟨Rect.unit (s := S1x4096x128) (k0_off1 (BitVec.ofNat 32 r.val)) S1x64x128.size (k0_off1_inb r),
    rowPay (View.readAt (Elt Ideal) arg3.view (Rect.unit (s := S1x4096x128) (k0_off1 (BitVec.ofNat 32 r.val)) S1x64x128.size (k0_off1_inb r)).toLoadRect (harg3.unread x1))
      (View.readAt (Elt Ideal) arg4.view (Rect.unit (s := S1x4096x128) (k0_off2 (BitVec.ofNat 32 r.val)) S1x512x128.size (k0_off2_inb r)).toLoadRect (harg4.unread x2))
      (View.readAt (Elt Ideal) arg5.view (Rect.unit (s := S1x4096x128) (k0_off2 (BitVec.ofNat 32 r.val)) S1x512x128.size (k0_off2_inb r)).toLoadRect (harg5.unread x3))
      (biasAt arg2 harg2 x0 r 0) (biasAt arg2 harg2 x0 r 1) (biasAt arg2 harg2 x0 r 2) (biasAt arg2 harg2 x0 r 3)⟩

theorem pieces_eq (c : Dev nD) (i : grid0.Coords) (arg2 : Memref sig .tc .vmem S1x14x256x128 .f32) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole)
    (x0 : Vec Ideal S1x14x256x128 .f32) (x1 x2 x3 : Vec Ideal S1x4096x128 .bf16) :
    (kernelRun0_A c i arg2 harg2 arg3 harg3 arg4 harg4 arg5 harg5 arg6 harg6 x0 x1 x2 x3).1
      = (List.finRange 64).reverse.map (rowPiece arg2 harg2 arg3 harg3 arg4 harg4 arg5 harg5 x0 x1 x2 x3) := by
  sl_kernel_rfl

end Cert.Kernel4Ideal.Near

end
-- ==== Proof.Near.Out.lean ====
module

public import proofs.«01_k».proof.Proof.Near.Rows
public import Idealize.ShloMosaic.Lib.Pipeline.ValueKit.Tiles

@[expose] public section

set_option maxRecDepth 16384

noncomputable section

/-! One grid point's output block, read at a token. -/

namespace Cert.Kernel4Ideal.Near

open Idealize.ShloMosaic Idealize.ShloMosaic.TcCoe Idealize.ShloMosaic.Tactic
open Cert.Kernel4Ideal Cert.Kernel4Ideal.Gen

variable (m : (ℓ : Loc nD τ sig) → Buf (Elt Ideal) ℓ) (c : Dev nD)

/-- The first key row of a row's window. -/
def first (r : Fin 64) : ℕ := min 56 (r.val - 4)

theorem first_le (r : Fin 64) : first r ≤ 56 := Nat.min_le_left _ _

theorem off2_eq : ∀ r : Fin 64, k0_off2 (BitVec.ofNat 32 r.val) = ![0, 64 * first r, 0] := by decide +kernel

theorem off3_eq : ∀ (r : Fin 64) (i : Fin 4), k0_off3 (BitVec.ofNat 32 r.val) (BitVec.ofNat 32 (2 * i.val)) = ![0, first r + 7 - r.val + 2 * i.val, 0, 0] := by decide +kernel

theorem dist_lt (r : Fin 64) (i : Fin 4) : first r + 7 - r.val + 2 * i.val < 14 := by unfold first; omega

/-- The queries of a row. -/
def rowOf (x : Vec Ideal S1x4096x128 .bf16) (r : Fin 64) : Vec Ideal S1x64x128 .bf16 :=
  fun y => x (ix3 0 ⟨64 * r.val + (y 1).val, by have : (y 1).val < 64 := (y 1).isLt; omega⟩ ⟨(y 2).val, (y 2).isLt⟩)

/-- The window of a row. -/
def windowOf (x : Vec Ideal S1x4096x128 .bf16) (r : Fin 64) : Vec Ideal S1x512x128 .bf16 :=
  fun y => x (ix3 0 ⟨64 * first r + (y 1).val, by have : (y 1).val < 512 := (y 1).isLt; have := first_le r; omega⟩ ⟨(y 2).val, (y 2).isLt⟩)

/-- The bias piece of a pair of a row's key rows. -/
def biasOf (x : Vec Ideal S1x14x256x128 .f32) (r : Fin 64) (i : Fin 4) : Vec Ideal S1x1x256x128 .f32 :=
  fun y => x (ix4 0 ⟨first r + 7 - r.val + 2 * i.val, dist_lt r i⟩ ⟨(y 2).val, (y 2).isLt⟩ ⟨(y 3).val, (y 3).isLt⟩)

theorem load_row (M : Memref sig .tc .vmem S1x4096x128 .bf16) (h : M.IsWhole) (x : Vec Ideal S1x4096x128 .bf16) (r : Fin 64) :
    View.readAt (Elt Ideal) M.view (Rect.unit (s := S1x4096x128) (k0_off1 (BitVec.ofNat 32 r.val)) S1x64x128.size (k0_off1_inb r)).toLoadRect (h.unread x) = rowOf x r := by
  funext y
  rw [View.readAt_apply, h.read_unread]
  refine congrArg x ?_
  have e := k0_off1_eq r
  funext b
  refine Fin.ext ?_
  refine Eq.trans (congrArg (· + 1 * (y b).val) (congrFun e b)) ?_
  match b with
  | ⟨0, _⟩ => have : (y 0).val < 1 := (y 0).isLt; show 0 + 1 * (y 0).val = 0; omega
  | ⟨1, _⟩ => show 64 * r.val + 1 * (y 1).val = 64 * r.val + (y 1).val; omega
  | ⟨2, _⟩ => show 0 + 1 * (y 2).val = (y 2).val; omega

theorem load_window (M : Memref sig .tc .vmem S1x4096x128 .bf16) (h : M.IsWhole) (x : Vec Ideal S1x4096x128 .bf16) (r : Fin 64) :
    View.readAt (Elt Ideal) M.view (Rect.unit (s := S1x4096x128) (k0_off2 (BitVec.ofNat 32 r.val)) S1x512x128.size (k0_off2_inb r)).toLoadRect (h.unread x) = windowOf x r := by
  funext y
  rw [View.readAt_apply, h.read_unread]
  refine congrArg x ?_
  have e := off2_eq r
  funext b
  refine Fin.ext ?_
  refine Eq.trans (congrArg (· + 1 * (y b).val) (congrFun e b)) ?_
  match b with
  | ⟨0, _⟩ => have : (y 0).val < 1 := (y 0).isLt; show 0 + 1 * (y 0).val = 0; omega
  | ⟨1, _⟩ => show 64 * first r + 1 * (y 1).val = 64 * first r + (y 1).val; omega
  | ⟨2, _⟩ => show 0 + 1 * (y 2).val = (y 2).val; omega

theorem load_bias (M : Memref sig .tc .vmem S1x14x256x128 .f32) (h : M.IsWhole) (x : Vec Ideal S1x14x256x128 .f32) (r : Fin 64) (i : Fin 4) :
    biasAt M h x r i = biasOf x r i := by
  unfold biasAt
  funext y
  rw [View.readAt_apply, h.read_unread]
  refine congrArg x ?_
  have e := off3_eq r i
  funext b
  refine Fin.ext ?_
  refine Eq.trans (congrArg (· + 1 * (y b).val) (congrFun e b)) ?_
  match b with
  | ⟨0, _⟩ => have : (y 0).val < 1 := (y 0).isLt; show 0 + 1 * (y 0).val = 0; omega
  | ⟨1, _⟩ => have : (y 1).val < 1 := (y 1).isLt; show first r + 7 - r.val + 2 * i.val + 1 * (y 1).val = first r + 7 - r.val + 2 * i.val; omega
  | ⟨2, _⟩ => show 0 + 1 * (y 2).val = (y 2).val; omega
  | ⟨3, _⟩ => show 0 + 1 * (y 3).val = (y 3).val; omega

theorem congrPay {q q' : Vec Ideal S1x64x128 .bf16} {k k' v v' : Vec Ideal S1x512x128 .bf16} {b0 b1 b2 b3 b0' b1' b2' b3' : Vec Ideal S1x1x256x128 .f32}
    (hq : q = q') (hk : k = k') (hv : v = v') (h0 : b0 = b0') (h1 : b1 = b1') (h2 : b2 = b2') (h3 : b3 = b3') :
    rowPay q k v b0 b1 b2 b3 = rowPay q' k' v' b0' b1' b2' b3' := by
  subst hq; subst hk; subst hv; subst h0; subst h1; subst h2; subst h3; rfl

/-- The output block at a token: what its row's result has there. -/
theorem out_row (t : Fin cfg0.N) (r i : Fin 64) (l : Fin 128) :
    (outsAt0 m c t : Vec Ideal S1x4096x128 .bf16) (ix3 0 ⟨64 * r.val + i.val, by omega⟩ l)
      = rowPay (rowOf (iblk m c 1 t) r) (windowOf (iblk m c 2 t) r) (windowOf (iblk m c 3 t) r) (biasOf (iblk m c 0 t) r 0) (biasOf (iblk m c 0 t) r 1)
          (biasOf (iblk m c 0 t) r 2) (biasOf (iblk m c 0 t) r 3) (ix3 0 i l) := by
  unfold outsAt0 out0_A_4
  rw [View.read_writes_junk_eq_canon, pieces_eq]
  refine View.canon_eq_of_allAt _ _ _ ?_ ?_
  · refine ⟨_, List.mem_map.2 ⟨r, List.mem_reverse.2 (List.mem_finRange r), rfl⟩, ?_⟩
    show _ ∈ (Rect.unit (s := S1x4096x128) (k0_off1 (BitVec.ofNat 32 r.val)) S1x64x128.size (k0_off1_inb r)).set
    refine Rect.mem_set_unit.mpr fun a => ?_
    rw [k0_off1_eq r]
    match a with
    | ⟨0, _⟩ => exact ⟨Nat.zero_le _, Nat.one_pos⟩
    | ⟨1, _⟩ => exact ⟨Nat.le_add_right _ _, Nat.add_lt_add_left i.isLt _⟩
    | ⟨2, _⟩ => exact ⟨Nat.zero_le _, by show l.val < 0 + 128; omega⟩
  · intro p hp
    obtain ⟨r', -, rfl⟩ := List.mem_map.1 hp
    intro y hy
    have hv : ∀ a, k0_off1 (BitVec.ofNat 32 r'.val) a + 1 * (y a).val = ((ix3 0 ⟨64 * r.val + i.val, by omega⟩ l : S1x4096x128.Idx) a).val :=
      fun a => (congrArg Fin.val (congrFun hy a))
    rw [k0_off1_eq r'] at hv
    have h1 : 64 * r'.val + 1 * (y 1).val = 64 * r.val + i.val := hv 1
    have h2 : 0 + 1 * (y 2).val = l.val := hv 2
    have hy0 : (y 0).val < 1 := (y 0).isLt
    have hy1 : (y 1).val < 64 := (y 1).isLt
    have hr : r' = r := Fin.ext (by omega)
    subst hr
    have ey : y = (ix3 0 i l : S1x64x128.Idx) := by
      funext a
      refine Fin.ext ?_
      match a with
      | ⟨0, _⟩ => show (y 0).val = 0; omega
      | ⟨1, _⟩ => show (y 1).val = i.val; omega
      | ⟨2, _⟩ => show (y 2).val = l.val; omega
    rw [ey]
    exact congrFun (congrPay (load_row _ _ _ _) (load_window _ _ _ _) (load_window _ _ _ _) (load_bias _ _ _ _ 0) (load_bias _ _ _ _ 1)
      (load_bias _ _ _ _ 2) (load_bias _ _ _ _ 3)) _

end Cert.Kernel4Ideal.Near

end
-- ==== Proof.Near.Math.lean ====
module

public import proofs.«01_k».proof.Proof.Softmax

@[expose] public section

noncomputable section

/-! Attention over a neighbourhood of keys with a bias: the weighted sum of the values, the sum of the exponentials
dividing before or after it. -/

namespace Cert.Near

open Idealize.ShloMosaic Cert.Softmax

/-- A sum times a real number that is not negative, term by term. -/
theorem sum_mul_real {n : ℕ} (f : Fin n → EReal) (r : ℝ) (hr : 0 ≤ r) : (∑ j, f j) * (r : EReal) = ∑ j, f j * (r : EReal) := by
  refine map_sum (⟨⟨fun x : EReal => x * (r : EReal), zero_mul _⟩, fun x y => ?_⟩ : EReal →+ EReal) f Finset.univ
  exact EReal.right_distrib_of_nonneg_of_ne_top (EReal.coe_nonneg.2 hr) (EReal.coe_ne_top r) x y

/-- The weighted sum of the values, by exponentials less a shift, times the reciprocal of their sum. -/
theorem weighted_exp {n : ℕ} [NeZero n] (s : Fin n → ℝ) (v : Fin n → EReal) (M : ℝ) :
    (∑ j, Ideal.exp ((s j : EReal) - (M : EReal)) * v j) * Ideal.div 1 (∑ j, Ideal.exp ((s j : EReal) - (M : EReal)))
      = ∑ j, (soft s j : EReal) * v j := by
  simp only [← EReal.coe_sub, Ideal.exp_coe, coe_sum]
  have hp := sum_exp_pos fun j => s j - M
  rw [Ideal.div_coe hp.ne', one_mul, sum_mul_real _ _ (one_div_pos.2 hp).le]
  refine Finset.sum_congr rfl fun j _ => ?_
  rw [← soft_shift s M j, mul_right_comm, ← EReal.coe_mul, mul_one_div]

/-- Lane `d` of head `h` of a group of four. -/
def lane (h : Fin 4) (d : Fin 32) : Fin 128 := ⟨32 * h.val + d.val, by omega⟩

/-- A sum over the lanes of a group, of which one head's count. -/
theorem sum_lanes (h : Fin 4) (f g : Fin 128 → ℝ) : ∑ l, (if l.val / 32 = h.val then f l else 0) * g l = ∑ d : Fin 32, f (lane h d) * g (lane h d) := by
  have e : ∑ l, (if l.val / 32 = h.val then f l else 0) * g l
      = ∑ c : Fin 4, ∑ d : Fin 32, (if (lane c d).val / 32 = h.val then f (lane c d) else 0) * g (lane c d) := by
    rw [Fin.sum_univ_tiles 4 32 rfl]
    refine Finset.sum_congr rfl fun c _ => Finset.sum_congr rfl fun d _ => ?_
    refine congrArg (fun l : Fin 128 => (if l.val / 32 = h.val then f l else 0) * g l) (Fin.ext ?_)
    simp only [lane]; omega
  rw [e, Finset.sum_eq_single h]
  · refine Finset.sum_congr rfl fun d _ => ?_
    rw [if_pos (by simp only [lane]; omega)]
  · intro c _ hc
    refine Finset.sum_eq_zero fun d _ => ?_
    rw [if_neg (fun e => hc (Fin.ext (by simp only [lane] at e; omega))), zero_mul]
  · exact fun hn => absurd (Finset.mem_univ _) hn

end Cert.Near

end
-- ==== Proof.Near.Window.lean ====
module

public import proofs.«01_k».proof.Proof.Near.Out
public import proofs.«01_k».proof.Proof.Near.Math
public import Idealize.ShloMosaic.Lib.Pipeline.ValueKit.Geometry

@[expose] public section

set_option maxRecDepth 16384

noncomputable section

/-! The blocks a grid point reads and writes, as places of the arrays. -/

namespace Cert.Kernel4Ideal.Near

open Idealize.ShloMosaic Idealize.ShloMosaic.TcCoe
open Cert.Kernel4Ideal Cert.Kernel4Ideal.Gen Cert.Near

variable (m : (ℓ : Loc nD τ sig) → Buf (Elt Ideal) ℓ) (c : Dev nD)

theorem index0 : ∀ t : Fin cfg0.N, win0_0.index t = ![t.val % 4, 0, 0, 0] := (by decide +kernel : ∀ t : Fin grid0.N, _)
theorem index1 : ∀ t : Fin cfg0.N, win0_1.index t = ![t.val / 4, 0, 4 + t.val % 4] := (by decide +kernel : ∀ t : Fin grid0.N, _)
theorem index2 : ∀ t : Fin cfg0.N, win0_2.index t = ![t.val / 4, 0, 8 + t.val % 4] := (by decide +kernel : ∀ t : Fin grid0.N, _)
theorem index3 : ∀ t : Fin cfg0.N, win0_3.index t = ![t.val / 4, 0, 12 + t.val % 4] := (by decide +kernel : ∀ t : Fin grid0.N, _)
theorem index4 : ∀ t : Fin cfg0.N, win0_4.index t = ![t.val / 4, 0, t.val % 4] := (by decide +kernel : ∀ t : Fin grid0.N, _)

theorem point_lt (t : Fin cfg0.N) : t.val < 16 := lt_of_lt_of_eq t.isLt N_0

/-- The batch of a grid point. -/
def batch (t : Fin cfg0.N) : Fin 4 := ⟨t.val / 4, by have := point_lt t; omega⟩
/-- The group of heads of a grid point. -/
def group (t : Fin cfg0.N) : Fin 4 := ⟨t.val % 4, by omega⟩

theorem read_table (t : Fin cfg0.N) (o : Fin 14) (i : Fin 256) (j : Fin 128) : (iblk m c 0 t : Vec Ideal S1x14x256x128 .f32) (ix4 0 o i j)
    = (V m c main_v45 : FVec Ideal S4x14x256x128 .f32) (ix4 (group t) o i j) := by
  blk_simp [iblk]
  refine congrArg _ ?_
  blk_ext [index0, group]

theorem read_q (t : Fin cfg0.N) (n : Fin 4096) (l : Fin 128) : (iblk m c 1 t : Vec Ideal S1x4096x128 .bf16) (ix3 0 n l)
    = (V m c main_v6 : FVec Ideal S4x4096x2048 .bf16) (ix3 (batch t) n ⟨512 + (128 * (group t).val + l.val), by omega⟩) := by
  blk_simp [iblk]
  refine congrArg _ ?_
  blk_ext [index1, batch, group]

theorem read_k (t : Fin cfg0.N) (n : Fin 4096) (l : Fin 128) : (iblk m c 2 t : Vec Ideal S1x4096x128 .bf16) (ix3 0 n l)
    = (V m c main_v6 : FVec Ideal S4x4096x2048 .bf16) (ix3 (batch t) n ⟨1024 + (128 * (group t).val + l.val), by omega⟩) := by
  blk_simp [iblk]
  refine congrArg _ ?_
  blk_ext [index2, batch, group]

theorem read_v (t : Fin cfg0.N) (n : Fin 4096) (l : Fin 128) : (iblk m c 3 t : Vec Ideal S1x4096x128 .bf16) (ix3 0 n l)
    = (V m c main_v6 : FVec Ideal S4x4096x2048 .bf16) (ix3 (batch t) n ⟨1536 + (128 * (group t).val + l.val), by omega⟩) := by
  blk_simp [iblk]
  refine congrArg _ ?_
  blk_ext [index3, batch, group]

theorem out_cover (X : FVec Ideal S4x4096x512 .bf16) (h : ∀ (t : Fin cfg0.N) (n : Fin 4096) (l : Fin 128),
      (outsAt0 m c t : Vec Ideal S1x4096x128 .bf16) (ix3 0 n l) = X (ix3 (batch t) n ⟨128 * (group t).val + l.val, by omega⟩)) :
    (dats m 0 c).arrAt 4 cfg0.N = X := by
  refine (dats m 0 c).arrAt_eq_of_covers 4 _ (by decide +kernel) fun t hf y => ?_
  blk_simp
  rw [after0_4]
  have h0 : (y 0).val < 1 := (y 0).isLt
  have h1 : (y 1).val < 4096 := (y 1).isLt
  have h2 : (y 2).val < 128 := (y 2).isLt
  have ey : (y : S1x4096x128.Idx) = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  refine (congrArg (outsAt0 m c t) ey).trans ((h t ⟨(y 1).val, h1⟩ ⟨(y 2).val, h2⟩).trans (congrArg X ?_))
  blk_ext [index4, batch, group]

end Cert.Kernel4Ideal.Near

end
-- ==== Proof.Near.Ref.lean ====
module

public import proofs.«01_k».proof.Proof.Gen.Reference4Ideal.Run
public import proofs.«01_k».proof.Proof.Softmax
public import Idealize.ShloMosaic.Lib.Pointwise

@[expose] public section

set_option maxRecDepth 16384

noncomputable section

/-! The reference's neighbourhood attention over the extended reals, element by element. -/

namespace Cert.Reference4Ideal.Near

open Idealize.ShloMosaic Idealize.ShloMosaic.TcCoe
open Cert.Reference4Ideal Cert.Reference4Ideal.Gen Cert.Softmax

/-- The key rows of a row's window. -/
def keyRows : IVec S64x8 32 :=
  addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32)))))))
    (broadcastInDim S64x8 ![0, 1] bcast_S1x8_S64x8_0_1 (broadcastInDim S1x8 ![1] bcast_S8_S1x8_1 (iotaInDim S8 32 0)))

/-- The key rows, as places to pick from. -/
def rowPick : IVec S64x8x1 32 :=
  broadcastInDim S64x8x1 ![0, 1] bcast_S64x8_S64x8x1_0_1 (select (cmpi .slt keyRows (broadcastInDim S64x8 ![] bcast_S_S64x8 (constantI S_ 32 0#32))) (addi keyRows (broadcastInDim S64x8 ![] bcast_S_S64x8 (constantI S_ 32 64#32))) keyRows)

/-- The key rows less the row itself. -/
def rowOff : IVec S64x8 32 :=
  addi (subi keyRows (broadcastInDim S64x8 ![0, 1] bcast_S64x1_S64x8_0_1 (broadcastInDim S64x1 ![0] bcast_S64_S64x1_0 (iotaInDim S64 32 0)))) (broadcastInDim S64x8 ![] bcast_S_S64x8 (constantI S_ 32 7#32))

/-- The row distances, as places to pick from. -/
def offPick : IVec S64x8x1 32 :=
  broadcastInDim S64x8x1 ![0, 1] bcast_S64x8_S64x8x1_0_1 (select (cmpi .slt rowOff (broadcastInDim S64x8 ![] bcast_S_S64x8 (constantI S_ 32 0#32))) (addi rowOff (broadcastInDim S64x8 ![] bcast_S_S64x8 (constantI S_ 32 15#32))) rowOff)

/-- The window's first column of each query column. -/
def colFirst : IVec S64x1 32 :=
  broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))

/-- The key columns. -/
def keyCol : IVec S64x64 32 :=
  broadcastInDim S64x64 ![0, 1] bcast_S1x64_S64x64_0_1 (broadcastInDim S1x64 ![1] bcast_S64_S1x64_1 (iotaInDim S64 32 0))

/-- Whether a key column is in the window. -/
def inWindow : IVec S64x64 1 :=
  andi (cmpi .sge keyCol (broadcastInDim S64x64 ![0, 1] bcast_S64x1_S64x64_0_1 colFirst))
    (cmpi .slt keyCol (broadcastInDim S64x64 ![0, 1] bcast_S64x1_S64x64_0_1 (addi colFirst (broadcastInDim S64x1 ![] bcast_S_S64x1 (constantI S_ 32 16#32)))))

/-- The column distances. -/
def colOff : IVec S64x64 32 :=
  minsi (broadcastInDim S64x64 ![] bcast_S_S64x64 (id (constantI S_ 32 30#32))) (maxsi (broadcastInDim S64x64 ![] bcast_S_S64x64 (id (constantI S_ 32 0#32)))
    (addi (subi keyCol (broadcastInDim S64x64 ![0, 1] bcast_S64x1_S64x64_0_1 (broadcastInDim S64x1 ![0] bcast_S64_S64x1_0 (iotaInDim S64 32 0)))) (broadcastInDim S64x64 ![] bcast_S_S64x64 (constantI S_ 32 15#32))))

/-- The column distances, as places to pick from. -/
def colPick : IVec S64x64x1 32 :=
  broadcastInDim S64x64x1 ![0, 1] bcast_S64x64_S64x64x1_0_1 (select (cmpi .slt colOff (broadcastInDim S64x64 ![] bcast_S_S64x64 (constantI S_ 32 0#32))) (addi colOff (broadcastInDim S64x64 ![] bcast_S_S64x64 (constantI S_ 32 31#32))) colOff)

/-- The bias of a head, a row distance, a query column and a key column. -/
def picked (a4 : FVec Ideal S1x16x15x31 .f32) : FVec Ideal S16x15x64x64 .f32 :=
  select (broadcastInDim S16x15x64x64 ![2, 3] bcast_S64x64_S16x15x64x64_2_3 inWindow)
    (Host.gather gather_S16x15x31_S64x64x1_S16x15x64x64_01_2_n_n_2_2_16151 (shapeCast _ a4 shapeCasts_S1x16x15x31_S16x15x31) colPick)
    (broadcastInDim S16x15x64x64 ![] bcast_S_S16x15x64x64 (id (constant S_ .f32 0xF149F2CA#32)))

/-- The bias of every row's window. -/
def bias (t : FVec Ideal S16x15x64x64 .f32) : FVec Ideal S16x64x64x512 .f32 :=
  shapeCast _ (transpose S16x64x64x8x64 [0, 1, 3, 2, 4] (Host.gather gather_S16x15x64x64_S64x8x1_S16x64x8x64x64_034_1_n_n_1_2_1616464 t offPick) transposes_S16x64x8x64x64_S16x64x64x8x64_0_1_3_2_4) shapeCasts_S16x64x64x8x64_S16x64x64x512

/-- The tokens on the grid. -/
def onGrid (a : FVec Ideal S4x4096x16x32 .f32) : FVec Ideal S4x64x64x16x32 .f32 := shapeCast _ a shapeCasts_S4x4096x16x32_S4x64x64x16x32

/-- The tokens of every row's window. -/
def windowed (a : FVec Ideal S4x4096x16x32 .f32) : FVec Ideal S4x64x512x16x32 .f32 :=
  shapeCast _ (Host.gather gather_S4x64x64x16x32_S64x8x1_S4x64x8x64x16x32_0345_1_n_n_1_2_41641632 (onGrid a) rowPick) shapeCasts_S4x64x8x64x16x32_S4x64x512x16x32

/-- The scores. -/
def scores (q : FVec Ideal S4x64x64x16x32 .f32) (k : FVec Ideal S4x64x512x16x32 .f32) (b : FVec Ideal S16x64x64x512 .f32) : FVec Ideal S4x16x64x64x512 .f32 :=
  addf (mulf (Host.dotGeneral dot_S4x64x64x16x32_S4x64x512x16x32_S4x16x64x64x512_4_4_2_2_031_031 none q k) (broadcastInDim S4x16x64x64x512 ![] bcast_S_S4x16x64x64x512 (constant S_ .f32 0x3E3504F3#32)))
    (broadcastInDim S4x16x64x64x512 ![0, 1, 2, 3, 4] bcast_S1x16x64x64x512_S4x16x64x64x512_0_1_2_3_4 (broadcastInDim S1x16x64x64x512 ![1, 2, 3, 4] bcast_S16x64x64x512_S1x16x64x64x512_1_2_3_4 b))

/-- The greatest score of each query. -/
def top (s : FVec Ideal S4x16x64x64x512 .f32) : FVec Ideal S4x16x64x64 .f32 :=
  maximumf (broadcastInDim S4x16x64x64 ![] bcast_S_S4x16x64x64 (constant S_ .f32 0xFF800000#32))
    (Host.reduce FloatOps.maximumf s (constant S_ .f32 0xFF800000#32) reducesTo_S4x16x64x64x512_S4x16x64x64_d4 h_S_)

/-- The exponentials of the scores less the greatest. -/
def exps (s : FVec Ideal S4x16x64x64x512 .f32) : FVec Ideal S4x16x64x64x512 .f32 :=
  Host.exp (subf s (broadcastInDim S4x16x64x64x512 ![0, 1, 2, 3, 4] bcast_S4x16x64x64x1_S4x16x64x64x512_0_1_2_3_4
    (broadcastInDim S4x16x64x64x1 ![0, 1, 2, 3] bcast_S4x16x64x64_S4x16x64x64x1_0_1_2_3 (top s))))

/-- The softmax weights. -/
def weights (s : FVec Ideal S4x16x64x64x512 .f32) : FVec Ideal S4x16x64x64x512 .f32 :=
  Host.divf (exps s) (broadcastInDim S4x16x64x64x512 ![0, 1, 2, 3, 4] bcast_S4x16x64x64x1_S4x16x64x64x512_0_1_2_3_4
    (broadcastInDim S4x16x64x64x1 ![0, 1, 2, 3] bcast_S4x16x64x64_S4x16x64x64x1_0_1_2_3
      (Host.reduceAdd (exps s) (constant S_ .f32 0x00000000#32) reducesTo_S4x16x64x64x512_S4x16x64x64_d4 h_S_)))

/-- The weighted values. -/
def weighted (w : FVec Ideal S4x16x64x64x512 .f32) (v : FVec Ideal S4x64x512x16x32 .f32) : FVec Ideal S4x4096x512 .bf16 :=
  truncf .bf16 (shapeCast _ (transpose S4x64x64x16x32 [0, 1, 4, 2, 3] (Host.dotGeneral dot_S4x64x512x16x32_S4x16x64x64x512_S4x64x16x32x64_2_4_4_3_013_021 none v w)
    transposes_S4x64x16x32x64_S4x64x64x16x32_0_1_4_2_3) shapeCasts_S4x64x64x16x32_S4x4096x512 : FVec Ideal S4x4096x512 .f32) bitsLt_bf16_f32

/-- The reference's result, of its arguments. -/
def out (q k v : FVec Ideal S4x4096x16x32 .f32) (a4 : FVec Ideal S1x16x15x31 .f32) : FVec Ideal S4x4096x512 .bf16 :=
  weighted (weights (scores (onGrid q) (windowed k) (bias (picked a4)))) (windowed v)

theorem res_eq (m : (ℓ : Loc nD τ sig) → Buf (Elt Ideal) ℓ) (c : Dev nD) :
    Cert.Reference4Ideal.Value.res_main_v97 m c
      = out (m ((c.tc : Thread nD τ).loc main_arg1)) (m ((c.tc : Thread nD τ).loc main_arg2)) (m ((c.tc : Thread nD τ).loc main_arg3)) (m ((c.tc : Thread nD τ).loc main_arg4)) := by
  unfold Cert.Reference4Ideal.Value.res_main_v97
  rfl

/-- The first key row of a row's window. -/
def first (r : Fin 64) : ℕ := min 56 (r.val - 4)

theorem first_le (r : Fin 64) : first r ≤ 56 := Nat.min_le_left _ _

/-- The key row of a row's window. -/
def keyRow (r : Fin 64) (w : Fin 8) : Fin 64 := ⟨first r + w.val, by have := first_le r; omega⟩

/-- The row distance of a row's window. -/
def dist (r : Fin 64) (w : Fin 8) : Fin 15 := ⟨first r + 7 - r.val + w.val, by unfold first; omega⟩

theorem rowPick_int : ∀ (r : Fin 64) (w : Fin 8), (rowPick (ix3 r w 0)).toInt.toNat = first r + w.val := by decide +kernel

theorem offPick_int : ∀ (r : Fin 64) (w : Fin 8), (offPick (ix3 r w 0)).toInt.toNat = first r + 7 - r.val + w.val := by decide +kernel

/-- Rows picked from the grid of tokens. -/
theorem gather_rows_at (x : FVec Ideal S4x64x64x16x32 .f32) (p : IVec S64x8x1 32) (b : Fin 4) (r : Fin 64) (w : Fin 8) (j : Fin 64) (h : Fin 16) (d : Fin 32) :
    Host.gather gather_S4x64x64x16x32_S64x8x1_S4x64x8x64x16x32_0345_1_n_n_1_2_41641632 x p (ix6 b r w j h d)
      = x (ix5 b ⟨min (p (ix3 r w 0)).toInt.toNat 63, by omega⟩ j h d) := by
  unfold Host.gather
  refine congrArg x ?_
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ =>
    unfold GatherDims.start
    rw [dif_neg, Nat.zero_add]
    · rfl
    · exact fun hm => absurd (congrArg Fin.val (List.mem_singleton.mp hm)) (show ¬ (0 : ℕ) = 1 by decide)
  | ⟨1, _⟩ =>
    rw [GatherDims.offCoord_eq_zero _ _ _ (fun hn => ((GatherDims.mem_sKept _ _).mp hn).1 (List.mem_singleton.mpr rfl)), Nat.add_zero]
    unfold GatherDims.start
    rw [dif_pos]
    · refine congrArg (fun i => min (p i).toInt.toNat 63) ?_
      funext a
      match a with
      | ⟨0, _⟩ => rfl
      | ⟨1, _⟩ => rfl
      | ⟨2, _⟩ => rfl
    · exact List.mem_singleton.mpr rfl
  | ⟨2, _⟩ =>
    unfold GatherDims.start
    rw [dif_neg, Nat.zero_add]
    · rfl
    · exact fun hm => absurd (congrArg Fin.val (List.mem_singleton.mp hm)) (show ¬ (2 : ℕ) = 1 by decide)
  | ⟨3, _⟩ =>
    unfold GatherDims.start
    rw [dif_neg, Nat.zero_add]
    · rfl
    · exact fun hm => absurd (congrArg Fin.val (List.mem_singleton.mp hm)) (show ¬ (3 : ℕ) = 1 by decide)
  | ⟨4, _⟩ =>
    unfold GatherDims.start
    rw [dif_neg, Nat.zero_add]
    · rfl
    · exact fun hm => absurd (congrArg Fin.val (List.mem_singleton.mp hm)) (show ¬ (4 : ℕ) = 1 by decide)

theorem gather_rows (x : FVec Ideal S4x64x64x16x32 .f32) (b : Fin 4) (r : Fin 64) (w : Fin 8) (j : Fin 64) (h : Fin 16) (d : Fin 32) :
    Host.gather gather_S4x64x64x16x32_S64x8x1_S4x64x8x64x16x32_0345_1_n_n_1_2_41641632 x rowPick (ix6 b r w j h d) = x (ix5 b (keyRow r w) j h d) := by
  rw [gather_rows_at]
  refine congrArg (fun i => x (ix5 b i j h d)) (Fin.ext ?_)
  show min (rowPick (ix3 r w 0)).toInt.toNat 63 = first r + w.val
  rw [rowPick_int]
  have := first_le r
  omega

/-- Row distances picked from the table of biases. -/
theorem gather_dist_at (x : FVec Ideal S16x15x64x64 .f32) (p : IVec S64x8x1 32) (h : Fin 16) (r : Fin 64) (w : Fin 8) (i j : Fin 64) :
    Host.gather gather_S16x15x64x64_S64x8x1_S16x64x8x64x64_034_1_n_n_1_2_1616464 x p (ix5 h r w i j)
      = x (ix4 h ⟨min (p (ix3 r w 0)).toInt.toNat 14, by omega⟩ i j) := by
  unfold Host.gather
  refine congrArg x ?_
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ =>
    unfold GatherDims.start
    rw [dif_neg, Nat.zero_add]
    · rfl
    · exact fun hm => absurd (congrArg Fin.val (List.mem_singleton.mp hm)) (show ¬ (0 : ℕ) = 1 by decide)
  | ⟨1, _⟩ =>
    rw [GatherDims.offCoord_eq_zero _ _ _ (fun hn => ((GatherDims.mem_sKept _ _).mp hn).1 (List.mem_singleton.mpr rfl)), Nat.add_zero]
    unfold GatherDims.start
    rw [dif_pos]
    · refine congrArg (fun i => min (p i).toInt.toNat 14) ?_
      funext a
      match a with
      | ⟨0, _⟩ => rfl
      | ⟨1, _⟩ => rfl
      | ⟨2, _⟩ => rfl
    · exact List.mem_singleton.mpr rfl
  | ⟨2, _⟩ =>
    unfold GatherDims.start
    rw [dif_neg, Nat.zero_add]
    · rfl
    · exact fun hm => absurd (congrArg Fin.val (List.mem_singleton.mp hm)) (show ¬ (2 : ℕ) = 1 by decide)
  | ⟨3, _⟩ =>
    unfold GatherDims.start
    rw [dif_neg, Nat.zero_add]
    · rfl
    · exact fun hm => absurd (congrArg Fin.val (List.mem_singleton.mp hm)) (show ¬ (3 : ℕ) = 1 by decide)

theorem gather_dist (x : FVec Ideal S16x15x64x64 .f32) (h : Fin 16) (r : Fin 64) (w : Fin 8) (i j : Fin 64) :
    Host.gather gather_S16x15x64x64_S64x8x1_S16x64x8x64x64_034_1_n_n_1_2_1616464 x offPick (ix5 h r w i j) = x (ix4 h (dist r w) i j) := by
  rw [gather_dist_at]
  refine congrArg (fun y => x (ix4 h y i j)) (Fin.ext ?_)
  show min (offPick (ix3 r w 0)).toInt.toNat 14 = first r + 7 - r.val + w.val
  rw [offPick_int]
  unfold first
  omega

theorem onGrid_apply (a : FVec Ideal S4x4096x16x32 .f32) (b : Fin 4) (r i : Fin 64) (h : Fin 16) (d : Fin 32) :
    onGrid a (ix5 b r i h d) = a (ix4 b ⟨64 * r.val + i.val, by omega⟩ h d) := by
  pointwise [onGrid]
  exact congrArg (fun y => a (ix4 b y h d)) (Fin.ext (by show r.val * 64 + i.val = 64 * r.val + i.val; omega))

theorem windowed_apply (a : FVec Ideal S4x4096x16x32 .f32) (b : Fin 4) (r : Fin 64) (j : Fin 512) (h : Fin 16) (d : Fin 32) :
    windowed a (ix5 b r j h d) = a (ix4 b ⟨64 * first r + j.val, by have := first_le r; omega⟩ h d) := by
  refine Eq.trans (b := Host.gather gather_S4x64x64x16x32_S64x8x1_S4x64x8x64x16x32_0345_1_n_n_1_2_41641632 (onGrid a) rowPick (ix6 b r ⟨j.val / 64, by omega⟩ ⟨j.val % 64, by omega⟩ h d)) ?_ ?_
  · unfold windowed
    generalize Host.gather gather_S4x64x64x16x32_S64x8x1_S4x64x8x64x16x32_0345_1_n_n_1_2_41641632 (onGrid a) rowPick = g
    pointwise
  · rw [gather_rows, onGrid_apply]
    refine congrArg (fun i => a (ix4 b i h d)) (Fin.ext ?_)
    show 64 * (first r + j.val / 64) + j.val % 64 = 64 * first r + j.val
    omega

theorem bias_apply (t : FVec Ideal S16x15x64x64 .f32) (h : Fin 16) (r i : Fin 64) (j : Fin 512) :
    bias t (ix4 h r i j) = t (ix4 h (dist r ⟨j.val / 64, by omega⟩) i ⟨j.val % 64, by omega⟩) := by
  refine Eq.trans (b := Host.gather gather_S16x15x64x64_S64x8x1_S16x64x8x64x64_034_1_n_n_1_2_1616464 t offPick (ix5 h r ⟨j.val / 64, by omega⟩ i ⟨j.val % 64, by omega⟩)) ?_ (gather_dist ..)
  unfold bias
  generalize Host.gather gather_S16x15x64x64_S64x8x1_S16x64x8x64x64_034_1_n_n_1_2_1616464 t offPick = g
  pointwise

theorem scores_apply (q : FVec Ideal S4x64x64x16x32 .f32) (k : FVec Ideal S4x64x512x16x32 .f32) (t : FVec Ideal S16x64x64x512 .f32) (b : Fin 4) (h : Fin 16) (r i : Fin 64) (j : Fin 512) :
    scores q k t (ix5 b h r i j) = (∑ d : Fin 32, q (ix5 b r i h d) * k (ix5 b r j h d)) * Ideal.ofBits .f32 0x3E3504F3#32 + t (ix4 h r i j) := by
  pointwise [scores]

theorem exps_apply (s : FVec Ideal S4x16x64x64x512 .f32) (b : Fin 4) (h : Fin 16) (r i : Fin 64) (j : Fin 512) :
    exps s (ix5 b h r i j) = Ideal.exp (s (ix5 b h r i j) - top s (ix4 b h r i)) := by
  pointwise [exps]

theorem weights_apply (s : FVec Ideal S4x16x64x64x512 .f32) (b : Fin 4) (h : Fin 16) (r i : Fin 64) (j : Fin 512) :
    weights s (ix5 b h r i j) = Ideal.div (exps s (ix5 b h r i j)) (∑ x : Fin 512, exps s (ix5 b h r i x)) := by
  pointwise [weights]

theorem weighted_apply (w : FVec Ideal S4x16x64x64x512 .f32) (v : FVec Ideal S4x64x512x16x32 .f32) (b : Fin 4) (r i : Fin 64) (h : Fin 16) (x : Fin 32) :
    weighted w v (ix3 b ⟨64 * r.val + i.val, by omega⟩ ⟨32 * h.val + x.val, by omega⟩) = ∑ j : Fin 512, v (ix5 b r j h x) * w (ix5 b h r i j) := by
  pointwise [weighted]

/-- A greatest element along the last axis, of reals, is real. -/
theorem hostMax_real {n0 n1 n2 n3 n4 : ℕ} [NeZero n4] {t u : Shape} (h : (⟨5, ![n0, n1, n2, n3, n4]⟩ : Shape).ReducesTo [4] t) (hu : 0 < u.numel)
    (x : (⟨5, ![n0, n1, n2, n3, n4]⟩ : Shape).Idx → EReal) (init : u.Idx → EReal) (hi : init (Shape.Idx.first hu) = ⊥)
    (r : Fin n0 → Fin n1 → Fin n2 → Fin n3 → Fin n4 → ℝ) (hx : ∀ a b c d e, x (ix5 a b c d e) = (r a b c d e : EReal)) (j : t.Idx) :
    ∃ M : ℝ, Host.reduce (FloatOps.maximumf (F := Ideal) (φ := .f32)) x init h hu j = (M : EReal) := by
  have e := (Host.reduce_eq_fold (FloatOps.maximumf (F := Ideal) (φ := .f32)) x init h hu j).trans (h.fold_fiber_r5_a4 j _ _ _)
  simp only [hx, hi] at e
  obtain ⟨M, hM⟩ := fold_max_real fun k : Fin n4 => r ⟨(j ⟨0, h.lt_r5_a4_0⟩).val, Shape.coordLt (j ⟨0, h.lt_r5_a4_0⟩) h.size_r5_a4_0⟩ ⟨(j ⟨1, h.lt_r5_a4_1⟩).val, Shape.coordLt (j ⟨1, h.lt_r5_a4_1⟩) h.size_r5_a4_1⟩ ⟨(j ⟨2, h.lt_r5_a4_2⟩).val, Shape.coordLt (j ⟨2, h.lt_r5_a4_2⟩) h.size_r5_a4_2⟩ ⟨(j ⟨3, h.lt_r5_a4_3⟩).val, Shape.coordLt (j ⟨3, h.lt_r5_a4_3⟩) h.size_r5_a4_3⟩ k
  exact ⟨M, e.trans hM⟩

/-- The greater of two arrays at an index. -/
theorem maximumf_at {t : Shape} (x y : FVec Ideal t .f32) (j : t.Idx) : maximumf x y j = max (x j : EReal) (y j) := rfl

/-- A constant broadcast, at an index. -/
theorem broadcast_constant_at {t u : Shape} (dims : Fin u.rank → Fin t.rank) (h : u.BroadcastsInDim t dims) (b : BitVec 32) (j : t.Idx) :
    broadcastInDim t dims h (constant (F := Ideal) u .f32 b) j = Ideal.ofBits .f32 b := rfl

/-- The greatest of real scores is real. -/
theorem top_real (s : FVec Ideal S4x16x64x64x512 .f32) (sr : Fin 4 → Fin 16 → Fin 64 → Fin 64 → Fin 512 → ℝ)
    (hs : ∀ b h r i j, s (ix5 b h r i j) = (sr b h r i j : EReal)) (y : S4x16x64x64.Idx) : ∃ M : ℝ, top s y = (M : EReal) := by
  obtain ⟨M, hM⟩ := hostMax_real reducesTo_S4x16x64x64x512_S4x16x64x64_d4 h_S_ s (constant (F := Ideal) S_ .f32 0xFF800000#32) ofBits_neg_inf sr hs y
  refine ⟨M, ?_⟩
  unfold top
  rw [maximumf_at, broadcast_constant_at, ofBits_neg_inf, max_eq_right bot_le]
  exact hM

/-- The softmax weights of real scores. -/
theorem weights_real (s : FVec Ideal S4x16x64x64x512 .f32) (sr : Fin 4 → Fin 16 → Fin 64 → Fin 64 → Fin 512 → ℝ)
    (hs : ∀ b h r i j, s (ix5 b h r i j) = (sr b h r i j : EReal)) (b : Fin 4) (h : Fin 16) (r i : Fin 64) (j : Fin 512) :
    weights s (ix5 b h r i j) = ((soft (sr b h r i) j : ℝ) : EReal) := by
  obtain ⟨M, hM⟩ := top_real s sr hs (ix4 b h r i)
  rw [weights_apply]
  simp only [exps_apply, hs, hM]
  exact weight _ _ _

/-- The scale is real. -/
theorem scale_real : ∃ r : ℝ, Ideal.ofBits .f32 0x3E3504F3#32 = (r : EReal) := by
  refine ⟨11863283 / 67108864, ?_⟩
  simp [Ideal.ofBits, Ideal.ieee, -EReal.coe_mul]; norm_num

/-- The bias off the window is real. -/
theorem off_real : ∃ r : ℝ, Ideal.ofBits .f32 0xF149F2CA#32 = (r : EReal) := by
  refine ⟨-(13234890 * 2 ^ 76), ?_⟩
  simp [Ideal.ofBits, Ideal.ieee, -EReal.coe_mul]

/-- The table of a real bias is real. -/
theorem picked_real (a4 : FVec Ideal S1x16x15x31 .f32) (ar : S1x16x15x31.Idx → ℝ) (ha : ∀ i, a4 i = (ar i : EReal)) :
    ∃ t : S16x15x64x64.Idx → ℝ, ∀ i, picked a4 i = (t i : EReal) := by
  obtain ⟨n, hn⟩ := off_real
  have key : ∀ i, ∃ t : ℝ, picked a4 i = (t : EReal) := fun i => by
    unfold picked
    show ∃ t : ℝ, Scalar.select (broadcastInDim S16x15x64x64 ![2, 3] bcast_S64x64_S16x15x64x64_2_3 inWindow i) (a4 _) (Ideal.ofBits .f32 0xF149F2CA#32) = (t : EReal)
    unfold Scalar.select
    split
    · exact ⟨_, ha _⟩
    · exact ⟨n, hn⟩
  exact ⟨fun i => (key i).choose, fun i => (key i).choose_spec⟩

/-- The reference's result at real queries, keys and biases. -/
theorem out_apply (q k v : FVec Ideal S4x4096x16x32 .f32) (a4 : FVec Ideal S1x16x15x31 .f32) (qr kr : S4x4096x16x32.Idx → ℝ) (t : S16x15x64x64.Idx → ℝ) (c : ℝ)
    (hq : ∀ i, q i = (qr i : EReal)) (hk : ∀ i, k i = (kr i : EReal)) (ht : ∀ i, picked a4 i = (t i : EReal))
    (hc : Ideal.ofBits .f32 0x3E3504F3#32 = (c : EReal)) (b : Fin 4) (r i : Fin 64) (h : Fin 16) (x : Fin 32) :
    out q k v a4 (ix3 b ⟨64 * r.val + i.val, by omega⟩ ⟨32 * h.val + x.val, by omega⟩)
      = ∑ j : Fin 512, (soft (fun j : Fin 512 => (∑ d : Fin 32, qr (ix4 b ⟨64 * r.val + i.val, by omega⟩ h d) * kr (ix4 b ⟨64 * first r + j.val, by have := first_le r; omega⟩ h d)) * c
            + t (ix4 h (dist r ⟨j.val / 64, by omega⟩) i ⟨j.val % 64, by omega⟩)) j : EReal) * v (ix4 b ⟨64 * first r + j.val, by have := first_le r; omega⟩ h x) := by
  have hs : ∀ b h r i j, scores (onGrid q) (windowed k) (bias (picked a4)) (ix5 b h r i j)
      = (((∑ d : Fin 32, qr (ix4 b ⟨64 * r.val + i.val, by omega⟩ h d) * kr (ix4 b ⟨64 * first r + j.val, by have := first_le r; omega⟩ h d)) * c
            + t (ix4 h (dist r ⟨j.val / 64, by omega⟩) i ⟨j.val % 64, by omega⟩) : ℝ) : EReal) := fun b h r i j => by
    rw [scores_apply, bias_apply, hc, ht]
    simp only [onGrid_apply, windowed_apply, hq, hk, ← EReal.coe_mul, coe_sum, ← EReal.coe_add]
  rw [out, weighted_apply]
  simp only [weights_real _ _ hs, windowed_apply]
  exact Finset.sum_congr rfl fun j _ => mul_comm _ _

end Cert.Reference4Ideal.Near

end
-- ==== Proof.Near.Entry.lean ====
module

public import proofs.«01_k».proof.Proof.Gen.Kernel4Ideal.Frame
public import proofs.«01_k».proof.Proof.Near.Ref
public import Idealize.ShloMosaic.Lib.StableHlo.ReadAt

@[expose] public section

set_option maxRecDepth 16384

noncomputable section

/-! The arrays the neighbourhood attention reads, element by element, from the arguments. -/

namespace Cert.Kernel4Ideal.Near

open Idealize.ShloMosaic Idealize.ShloMosaic.TcCoe
open Cert.Kernel4Ideal Cert.Kernel4Ideal.Gen

variable (m : (ℓ : Loc nD τ sig) → Buf (Elt Ideal) ℓ) (c : Dev nD)

/-- The queries, the keys, the values and the biases, as the call takes them. -/
def argQ : FVec Ideal S4x4096x16x32 .f32 := m ((c.tc : Thread nD τ).loc main_arg1)
def argK : FVec Ideal S4x4096x16x32 .f32 := m ((c.tc : Thread nD τ).loc main_arg2)
def argV : FVec Ideal S4x4096x16x32 .f32 := m ((c.tc : Thread nD τ).loc main_arg3)
def argB : FVec Ideal S1x16x15x31 .f32 := m ((c.tc : Thread nD τ).loc main_arg4)

theorem entry_q (b : Fin 4) (n : Fin 4096) (h : Fin 16) (d : Fin 32) :
    (V m c main_v6 : FVec Ideal S4x4096x2048 .bf16) (ix3 b n ⟨512 + (32 * h.val + d.val), by omega⟩)
      = argQ m c (ix4 b n h d) * Ideal.ofBits .f32 0x3E3504F3#32 := by
  unfold V
  after_reads_at
  rw [dif_pos (by omega)]
  after_reads_at
  rfl

theorem entry_k (b : Fin 4) (n : Fin 4096) (h : Fin 16) (d : Fin 32) :
    (V m c main_v6 : FVec Ideal S4x4096x2048 .bf16) (ix3 b n ⟨1024 + (32 * h.val + d.val), by omega⟩)
      = argK m c (ix4 b n h d) := by
  unfold V
  after_reads_at
  rw [dif_neg (by omega), dif_neg (by omega), dif_pos (by omega)]
  after_reads_at
  exact congrArg₂ (fun x y => argK m c (ix4 b n x y)) (Fin.ext (by show (1024 + (32 * h.val + d.val) - 512 - 512) / 32 = h.val; omega))
    (Fin.ext (by show (1024 + (32 * h.val + d.val) - 512 - 512) % 32 = d.val; omega))

theorem entry_v (b : Fin 4) (n : Fin 4096) (h : Fin 16) (d : Fin 32) :
    (V m c main_v6 : FVec Ideal S4x4096x2048 .bf16) (ix3 b n ⟨1536 + (32 * h.val + d.val), by omega⟩)
      = argV m c (ix4 b n h d) := by
  unfold V
  after_reads_at
  rw [dif_neg (by omega), dif_neg (by omega), dif_neg (by omega)]
  after_reads_at
  exact congrArg₂ (fun x y => argV m c (ix4 b n x y)) (Fin.ext (by show (1536 + (32 * h.val + d.val) - 512 - 512 - 512) / 32 = h.val; omega))
    (Fin.ext (by show (1536 + (32 * h.val + d.val) - 512 - 512 - 512) % 32 = d.val; omega))

/-- The pieces whose first key row is at each row distance, from the table by row distance. -/
def firstHalf (x : FVec Ideal S16x15x64x64 .f32) : FVec Ideal S1x4x4x14x64x64 .f32 :=
  broadcastInDim S1x4x4x14x64x64 ![1, 2, 3, 4, 5] bcast_S4x4x14x64x64_S1x4x4x14x64x64_1_2_3_4_5
    (extractStridedSlice S4x4x14x64x64 ![0, 0, 0, 0, 0] (shapeCast S4x4x15x64x64 x shapeCasts_S16x15x64x64_S4x4x15x64x64) slices_S4x4x15x64x64_S4x4x14x64x64_0_0_0_0_0)

/-- The pieces whose second key row is at each row distance, from the table by row distance. -/
def secondHalf (x : FVec Ideal S16x15x64x64 .f32) : FVec Ideal S1x4x4x14x64x64 .f32 :=
  broadcastInDim S1x4x4x14x64x64 ![1, 2, 3, 4, 5] bcast_S4x4x14x64x64_S1x4x4x14x64x64_1_2_3_4_5
    (extractStridedSlice S4x4x14x64x64 ![0, 0, 1, 0, 0] (shapeCast S4x4x15x64x64 x shapeCasts_S16x15x64x64_S4x4x15x64x64) slices_S4x4x15x64x64_S4x4x14x64x64_0_0_1_0_0)

theorem firstHalf_apply (x : FVec Ideal S16x15x64x64 .f32) (g h : Fin 4) (o : Fin 14) (i j : Fin 64) (e : Fin 16) (f : Fin 15) (he : e.val = 4 * g.val + h.val) (hf : f.val = o.val) :
    firstHalf x (ix6 0 g h o i j) = x (ix4 e f i j) := by
  unfold firstHalf
  pointwise []
  exact congrArg₂ (fun a b => x (ix4 a b i j)) (Fin.ext (by rw [he]; first | rfl | exact congrArg (· + h.val) (Nat.mul_comm g.val 4))) (Fin.ext hf.symm)

theorem secondHalf_apply (x : FVec Ideal S16x15x64x64 .f32) (g h : Fin 4) (o : Fin 14) (i j : Fin 64) (e : Fin 16) (f : Fin 15) (he : e.val = 4 * g.val + h.val) (hf : f.val = 1 + o.val) :
    secondHalf x (ix6 0 g h o i j) = x (ix4 e f i j) := by
  unfold secondHalf
  pointwise []
  exact congrArg₂ (fun a b => x (ix4 a b i j)) (Fin.ext (by rw [he]; first | rfl | exact congrArg (· + h.val) (Nat.mul_comm g.val 4))) (Fin.ext hf.symm)

theorem entry_table (g : Fin 4) (o : Fin 14) (h : Fin 4) (i : Fin 64) (p : Fin 2) (j : Fin 64) :
    (V m c main_v45 : FVec Ideal S4x14x256x128 .f32) (ix4 g o ⟨64 * h.val + i.val, by omega⟩ ⟨64 * p.val + j.val, by omega⟩)
      = Cert.Reference4Ideal.Near.picked (argB m c) (ix4 ⟨4 * g.val + h.val, by omega⟩ ⟨o.val + p.val, by omega⟩ i j) := by
  unfold V
  after_reads_at
  obtain h0 | h1 : p.val = 0 ∨ p.val = 1 := by omega
  · rw [dif_pos (by omega)]
    refine (congrFun (?_ : _ = firstHalf (Cert.Reference4Ideal.Near.picked (argB m c))) _).trans ?_
    · after_reads_simp
      rfl
    · have e : (⟨p.val, by omega⟩ : Fin 1) = 0 := Fin.ext h0
      rw [e]
      exact firstHalf_apply _ g h o i j _ _ rfl (by show o.val + p.val = o.val; omega)
  · rw [dif_neg (by omega)]
    refine (congrFun (?_ : _ = secondHalf (Cert.Reference4Ideal.Near.picked (argB m c))) _).trans ?_
    · after_reads_simp
      rfl
    · have e : (⟨p.val - 1, by omega⟩ : Fin 1) = 0 := Fin.ext (by show p.val - 1 = 0; omega)
      rw [e]
      exact secondHalf_apply _ g h o i j _ _ rfl (by show o.val + p.val = 1 + o.val; omega)

end Cert.Kernel4Ideal.Near

end
-- ==== Proof.Near.Pay.lean ====
module

public import proofs.«01_k».proof.Proof.Near.Rows
public import proofs.«01_k».proof.Proof.Near.Math

@[expose] public section

set_option maxRecDepth 16384

noncomputable section

/-! One row of tokens over the extended reals: of real queries, keys, values and biases, each head's softmax-weighted
sum of the values. -/

namespace Cert.Kernel4Ideal.Near

open Idealize.ShloMosaic Idealize.ShloMosaic.TcCoe Idealize.ShloMosaic.Tactic
open Cert.Kernel4Ideal Cert.Kernel4Ideal.Gen Cert.Softmax Cert.Near

theorem lane_head_first : ∀ l : Fin 128, k0_pay2 (ix2 0 l) = BitVec.ofNat 32 (l.val / 32) := by
  intro l
  pointwise [k0_pay2]
  revert l
  decide +kernel

/-- The head of each lane. -/
theorem lane_head (q : Fin 64) (l : Fin 128) : k0_pay2 (ix2 q l) = BitVec.ofNat 32 (l.val / 32) := by
  rw [← lane_head_first l]
  pointwise [k0_pay2]

theorem same_head : ∀ (l : Fin 128) (h : Fin 4), IntOp.cmpi CmpIPredicate.eq (BitVec.ofNat 32 (l.val / 32)) (BitVec.ofNat 32 h.val) = if l.val / 32 = h.val then 1#1 else 0#1 := by
  decide +kernel

theorem select_ite {α : Type} (p : Prop) [Decidable p] (a b : α) : Scalar.select (if p then 1#1 else 0#1) a b = if p then a else b := by
  split <;> rfl

theorem same_head_select {α : Type} (l : Fin 128) (h : Fin 4) (a b : α) :
    Scalar.select (IntOp.cmpi CmpIPredicate.eq (BitVec.ofNat 32 (l.val / 32)) (BitVec.ofNat 32 h.val)) a b = if l.val / 32 = h.val then a else b := by
  rw [same_head, select_ite]

theorem four_heads : ∀ h : Fin 4, h = 0 ∨ h = 1 ∨ h = 2 ∨ h = 3 := by decide

/-- The row of the stacked queries for a head's query. -/
def qrow (h : Fin 4) (i : Fin 64) : Fin 256 := ⟨64 * h.val + i.val, by omega⟩

/-- A choice among four runs of places, by cases. -/
theorem four {α : Type} (f : Fin 4 → Fin 128 → α) (j : Fin 512) :
    f ⟨j.val / 128, by omega⟩ ⟨j.val % 128, by omega⟩
      = if h : j.val < 128 then f 0 ⟨j.val, h⟩ else if h : j.val - 128 < 128 then f 1 ⟨j.val - 128, h⟩
        else if h : j.val - 128 - 128 < 128 then f 2 ⟨j.val - 128 - 128, h⟩ else f 3 ⟨j.val - 128 - 128 - 128, by omega⟩ := by
  have g : ∀ (a b : Fin 4) (x y : Fin 128), a.val = b.val → x.val = y.val → f a x = f b y := fun a b x y h1 h2 => by
    rw [Fin.ext h1, Fin.ext h2]
  split
  · exact g _ _ _ _ (by show j.val / 128 = 0; omega) (by show j.val % 128 = j.val; omega)
  · split
    · exact g _ _ _ _ (by show j.val / 128 = 1; omega) (by show j.val % 128 = j.val - 128; omega)
    · split
      · exact g _ _ _ _ (by show j.val / 128 = 2; omega) (by show j.val % 128 = j.val - 128 - 128; omega)
      · exact g _ _ _ _ (by show j.val / 128 = 3; omega) (by show j.val % 128 = j.val - 128 - 128 - 128; omega)

theorem four64 {α : Type} (f : Fin 4 → Fin 64 → α) (j : Fin 256) :
    f ⟨j.val / 64, by omega⟩ ⟨j.val % 64, by omega⟩
      = if h : j.val < 64 then f 0 ⟨j.val, h⟩ else if h : j.val - 64 < 64 then f 1 ⟨j.val - 64, h⟩
        else if h : j.val - 64 - 64 < 64 then f 2 ⟨j.val - 64 - 64, h⟩ else f 3 ⟨j.val - 64 - 64 - 64, by omega⟩ := by
  have g : ∀ (a b : Fin 4) (x y : Fin 64), a.val = b.val → x.val = y.val → f a x = f b y := fun a b x y h1 h2 => by
    rw [Fin.ext h1, Fin.ext h2]
  split
  · exact g _ _ _ _ (by show j.val / 64 = 0; omega) (by show j.val % 64 = j.val; omega)
  · split
    · exact g _ _ _ _ (by show j.val / 64 = 1; omega) (by show j.val % 64 = j.val - 64; omega)
    · split
      · exact g _ _ _ _ (by show j.val / 64 = 2; omega) (by show j.val % 64 = j.val - 64 - 64; omega)
      · exact g _ _ _ _ (by show j.val / 64 = 3; omega) (by show j.val % 64 = j.val - 64 - 64 - 64; omega)

/-- The queries, spread over the heads. -/
theorem spread_row (q : Vec Ideal S1x64x128 .bf16) (r : Fin 256) (l : Fin 128) :
    k0_pay36 (F := Ideal) k0_pay2 q (ix2 r l) = if l.val / 32 = r.val / 64 then q (ix3 0 ⟨r.val % 64, by omega⟩ l) else 0 := by
  refine Eq.trans ?_ (same_head_select l ⟨r.val / 64, by omega⟩ _ _)
  refine Eq.trans ?_ (four64 (fun a x => Scalar.select (IntOp.cmpi CmpIPredicate.eq (BitVec.ofNat 32 (l.val / 32)) (BitVec.ofNat 32 a.val)) (q (ix3 0 x l)) (0 : EReal)) r).symm
  pointwise [k0_pay36, lane_head]

theorem spread_at (q : Vec Ideal S1x64x128 .bf16) (h : Fin 4) (i : Fin 64) (l : Fin 128) :
    k0_pay36 (F := Ideal) k0_pay2 q (ix2 (qrow h i) l) = if l.val / 32 = h.val then q (ix3 0 i l) else 0 := by
  rw [spread_row]
  have e : (qrow h i).val / 64 = h.val := by simp only [qrow]; omega
  have e' : (⟨(qrow h i).val % 64, by omega⟩ : Fin 64) = i := Fin.ext (by simp only [qrow]; omega)
  rw [e, e']

/-- The score of a key for a row of the stacked queries. -/
def score (q : FVec Ideal S256x128 .bf16) (k : Vec Ideal S1x512x128 .bf16) (b : Fin 4 → Vec Ideal S1x1x256x128 .f32) (i : Fin 256) (j : Fin 512) : EReal :=
  ∑ l, q (ix2 i l) * k (ix3 0 j l) + b ⟨j.val / 128, by omega⟩ (ix4 0 0 i ⟨j.val % 128, by omega⟩)

/-- The greatest score of a row. -/
def top (s : Fin 512 → EReal) : EReal := Finset.univ.fold max (Ideal.ofBits .f32 0xFF800000#32) s

variable (q : FVec Ideal S256x128 .bf16) (k v : Vec Ideal S1x512x128 .bf16) (b : Fin 4 → Vec Ideal S1x1x256x128 .f32)

theorem num_at (i : Fin 256) (l : Fin 128) : k0_pay38 (F := Ideal) q k v (b 0) (b 1) (b 2) (b 3) (ix2 i l)
    = ∑ j, Ideal.exp (score q k b i j - top (score q k b i)) * v (ix3 0 j l) := by
  have e : ∀ j, score q k b i j = _ := fun j => congrArg ((∑ l, q (ix2 i l) * k (ix3 0 j l)) + ·) (four (fun a x => b a (ix4 0 0 i x)) j)
  have ef := funext e
  simp only [ef]
  pointwise [k0_pay38, k0_pay37, top]

theorem den_at (i : Fin 256) (l : Fin 128) : k0_pay39 (F := Ideal) q k v (b 0) (b 1) (b 2) (b 3) (ix2 i l)
    = ∑ j, Ideal.exp (score q k b i j - top (score q k b i)) := by
  have e : ∀ j, score q k b i j = _ := fun j => congrArg ((∑ l, q (ix2 i l) * k (ix3 0 j l)) + ·) (four (fun a x => b a (ix4 0 0 i x)) j)
  have ef := funext e
  simp only [ef]
  pointwise [k0_pay39, k0_pay37, top]

theorem one_at (i : Fin 256) (l : Fin 128) : (k0_pay40 (F := Ideal)) (ix2 i l) = (1 : EReal) := by
  pointwise [k0_pay40]

theorem pick_at (a d c : FVec Ideal S256x128 .f32) (h : Fin 4) (i : Fin 64) (x : Fin 32) :
    k0_pay41 (F := Ideal) k0_pay2 a d c (ix3 0 i (lane h x)) = a (ix2 (qrow h i) (lane h x)) * Ideal.div (c (ix2 (qrow h i) (lane h x))) (d (ix2 (qrow h i) (lane h x))) := by
  have s0 := @same_head_select EReal (lane h x) 0
  have s1 := @same_head_select EReal (lane h x) 1
  have s2 := @same_head_select EReal (lane h x) 2
  have s3 := @same_head_select EReal (lane h x) 3
  have hl : (lane h x).val / 32 = h.val := by simp only [lane]; omega
  rw [hl] at s0 s1 s2 s3
  have hh := four_heads h
  pointwise [k0_pay41, lane_head]
  rw [hl]
  have t0 : ∀ a b : EReal, Scalar.select (IntOp.cmpi CmpIPredicate.eq (BitVec.ofNat 32 h.val) 0#32) a b = _ := s0
  have t1 : ∀ a b : EReal, Scalar.select (IntOp.cmpi CmpIPredicate.eq (BitVec.ofNat 32 h.val) 1#32) a b = _ := s1
  have t2 : ∀ a b : EReal, Scalar.select (IntOp.cmpi CmpIPredicate.eq (BitVec.ofNat 32 h.val) 2#32) a b = _ := s2
  have t3 : ∀ a b : EReal, Scalar.select (IntOp.cmpi CmpIPredicate.eq (BitVec.ofNat 32 h.val) 3#32) a b = _ := s3
  rw [t0, t1, t2, t3]
  unfold qrow
  rcases hh with rfl | rfl | rfl | rfl <;> simp

/-- The greatest of real scores is real. -/
theorem top_real (s : Fin 512 → ℝ) : ∃ M : ℝ, top (fun j => (s j : EReal)) = (M : EReal) := by
  unfold top
  rw [ofBits_neg_inf]
  exact fold_max_real s

/-- A row's result at real queries, keys and biases. -/
theorem row_real (q : Vec Ideal S1x64x128 .bf16) (k v : Vec Ideal S1x512x128 .bf16) (b : Fin 4 → Vec Ideal S1x1x256x128 .f32)
    (qr : Fin 64 → Fin 128 → ℝ) (kr : Fin 512 → Fin 128 → ℝ) (br : Fin 4 → Fin 64 → Fin 512 → ℝ)
    (hq : ∀ i l, q (ix3 0 i l) = (qr i l : EReal)) (hk : ∀ j l, k (ix3 0 j l) = (kr j l : EReal))
    (hb : ∀ (h : Fin 4) (i : Fin 64) (j : Fin 512), b ⟨j.val / 128, by omega⟩ (ix4 0 0 (qrow h i) ⟨j.val % 128, by omega⟩) = (br h i j : EReal))
    (h : Fin 4) (i : Fin 64) (x : Fin 32) :
    rowPay q k v (b 0) (b 1) (b 2) (b 3) (ix3 0 i (lane h x))
      = ∑ j, (soft (fun j => (∑ d, qr i (lane h d) * kr j (lane h d)) + br h i j) j : EReal) * v (ix3 0 j (lane h x)) := by
  have hs : score (k0_pay36 (F := Ideal) k0_pay2 q) k b (qrow h i) = fun j => (((∑ d, qr i (lane h d) * kr j (lane h d)) + br h i j : ℝ) : EReal) := by
    funext j
    rw [score, hb, EReal.coe_add, ← sum_lanes h (fun l => qr i l) (fun l => kr j l), ← coe_sum]
    refine congrArg (· + _) (Finset.sum_congr rfl fun l _ => ?_)
    rw [spread_at, hk, hq, EReal.coe_mul]
    split
    · rfl
    · rw [EReal.coe_zero]
  obtain ⟨M, hM⟩ := top_real fun j => (∑ d, qr i (lane h d) * kr j (lane h d)) + br h i j
  rw [rowPay, pick_at, num_at, den_at, one_at, hs, hM]
  exact weighted_exp _ _ M

end Cert.Kernel4Ideal.Near

end
-- ==== Proof.Near.Value.lean ====
module

public import proofs.«01_k».proof.Proof.Near.Window
public import proofs.«01_k».proof.Proof.Near.Entry
public import proofs.«01_k».proof.Proof.Near.Pay

@[expose] public section

set_option maxRecDepth 16384

noncomputable section

/-! The neighbourhood attention's result is the reference's. -/

namespace Cert.Kernel4Ideal.Near

open Idealize.ShloMosaic Idealize.ShloMosaic.TcCoe
open Cert.Kernel4Ideal Cert.Kernel4Ideal.Gen Cert.Near Cert.Softmax

variable (m : (ℓ : Loc nD τ sig) → Buf (Elt Ideal) ℓ) (c : Dev nD)

/-- The head of a lane of a grid point's group. -/
def headOf (t : Fin cfg0.N) (l : Fin 128) : Fin 16 := ⟨4 * (group t).val + l.val / 32, by omega⟩
/-- The place of a lane in its head. -/
def placeOf (l : Fin 128) : Fin 32 := ⟨l.val % 32, by omega⟩

theorem headOf_lane (t : Fin cfg0.N) (h : Fin 4) (d : Fin 32) : headOf t (lane h d) = ⟨4 * (group t).val + h.val, by omega⟩ :=
  Fin.ext (by show 4 * (group t).val + (32 * h.val + d.val) / 32 = 4 * (group t).val + h.val; omega)

theorem placeOf_lane (h : Fin 4) (d : Fin 32) : placeOf (lane h d) = d :=
  Fin.ext (by show (32 * h.val + d.val) % 32 = d.val; omega)

theorem lane_split (t : Fin cfg0.N) (l : Fin 128) : 128 * (group t).val + l.val = 32 * (headOf t l).val + (placeOf l).val := by
  show 128 * (group t).val + l.val = 32 * (4 * (group t).val + l.val / 32) + l.val % 32
  omega

theorem block_q (t : Fin cfg0.N) (n : Fin 4096) (l : Fin 128) : (iblk m c 1 t : Vec Ideal S1x4096x128 .bf16) (ix3 0 n l)
    = argQ m c (ix4 (batch t) n (headOf t l) (placeOf l)) * Ideal.ofBits .f32 0x3E3504F3#32 := by
  refine (read_q m c t n l).trans (Eq.trans ?_ (entry_q m c (batch t) n (headOf t l) (placeOf l)))
  exact congrArg (fun x : Fin 2048 => (V m c main_v6 : FVec Ideal S4x4096x2048 .bf16) (ix3 (batch t) n x)) (Fin.ext (congrArg (512 + ·) (lane_split t l)))

theorem block_k (t : Fin cfg0.N) (n : Fin 4096) (l : Fin 128) : (iblk m c 2 t : Vec Ideal S1x4096x128 .bf16) (ix3 0 n l)
    = argK m c (ix4 (batch t) n (headOf t l) (placeOf l)) := by
  refine (read_k m c t n l).trans (Eq.trans ?_ (entry_k m c (batch t) n (headOf t l) (placeOf l)))
  exact congrArg (fun x : Fin 2048 => (V m c main_v6 : FVec Ideal S4x4096x2048 .bf16) (ix3 (batch t) n x)) (Fin.ext (congrArg (1024 + ·) (lane_split t l)))

theorem block_v (t : Fin cfg0.N) (n : Fin 4096) (l : Fin 128) : (iblk m c 3 t : Vec Ideal S1x4096x128 .bf16) (ix3 0 n l)
    = argV m c (ix4 (batch t) n (headOf t l) (placeOf l)) := by
  refine (read_v m c t n l).trans (Eq.trans ?_ (entry_v m c (batch t) n (headOf t l) (placeOf l)))
  exact congrArg (fun x : Fin 2048 => (V m c main_v6 : FVec Ideal S4x4096x2048 .bf16) (ix3 (batch t) n x)) (Fin.ext (congrArg (1536 + ·) (lane_split t l)))

/-- The bias a row's scores take, from the table by row distance. -/
theorem block_bias (t : Fin cfg0.N) (r : Fin 64) (h : Fin 4) (i : Fin 64) (j : Fin 512) :
    biasOf (iblk m c 0 t) r ⟨j.val / 128, by omega⟩ (ix4 0 0 (qrow h i) ⟨j.val % 128, by omega⟩)
      = Cert.Reference4Ideal.Near.picked (argB m c)
          (ix4 ⟨4 * (group t).val + h.val, by omega⟩ (Cert.Reference4Ideal.Near.dist r ⟨j.val / 64, by omega⟩) i ⟨j.val % 64, by omega⟩) := by
  have ho := dist_lt r ⟨j.val / 128, by omega⟩
  refine (read_table m c t ⟨first r + 7 - r.val + 2 * (j.val / 128), ho⟩ (qrow h i) ⟨j.val % 128, by omega⟩).trans ?_
  have ej : (⟨j.val % 128, by omega⟩ : Fin 128) = ⟨64 * (⟨j.val % 128 / 64, by omega⟩ : Fin 2).val + (⟨j.val % 64, by omega⟩ : Fin 64).val, by show 64 * (j.val % 128 / 64) + j.val % 64 < 128; omega⟩ :=
    Fin.ext (by show j.val % 128 = 64 * (j.val % 128 / 64) + j.val % 64; omega)
  rw [ej]
  refine (entry_table m c (group t) ⟨first r + 7 - r.val + 2 * (j.val / 128), ho⟩ h i ⟨j.val % 128 / 64, by omega⟩ ⟨j.val % 64, by omega⟩).trans ?_
  refine congrArg (fun x : Fin 15 => Cert.Reference4Ideal.Near.picked (argB m c) (ix4 ⟨4 * (group t).val + h.val, by omega⟩ x i ⟨j.val % 64, by omega⟩)) (Fin.ext ?_)
  show first r + 7 - r.val + 2 * (j.val / 128) + j.val % 128 / 64 = first r + 7 - r.val + j.val / 64
  omega

variable (qr kr : S4x4096x16x32.Idx → ℝ) (ar : S1x16x15x31.Idx → ℝ) (hq : ∀ i, argQ m c i = (qr i : EReal)) (hk : ∀ i, argK m c i = (kr i : EReal))
  (ha : ∀ i, argB m c i = (ar i : EReal))

/-- The result, as the reference takes it of the arguments. -/
abbrev refOut : FVec Ideal S4x4096x512 .bf16 := Cert.Reference4Ideal.Near.out (argQ m c) (argK m c) (argV m c) (argB m c)

include hq hk ha in
theorem result_at (t : Fin cfg0.N) (r i : Fin 64) (h : Fin 4) (x : Fin 32) :
    (outsAt0 m c t : Vec Ideal S1x4096x128 .bf16) (ix3 0 ⟨64 * r.val + i.val, by omega⟩ (lane h x))
      = refOut m c (ix3 (batch t) ⟨64 * r.val + i.val, by omega⟩ ⟨32 * (⟨4 * (group t).val + h.val, by omega⟩ : Fin 16).val + x.val, by show 32 * (4 * (group t).val + h.val) + x.val < 512; omega⟩) := by
  obtain ⟨s, hs⟩ := Cert.Reference4Ideal.Near.scale_real
  obtain ⟨b, hb⟩ := Cert.Reference4Ideal.Near.picked_real (argB m c) ar ha
  refine (out_row m c t r i (lane h x)).trans ?_
  refine (row_real _ _ _ (biasOf (iblk m c 0 t) r)
    (fun i l => qr (ix4 (batch t) ⟨64 * r.val + i.val, by omega⟩ (headOf t l) (placeOf l)) * s)
    (fun j l => kr (ix4 (batch t) ⟨64 * first r + j.val, by have := first_le r; omega⟩ (headOf t l) (placeOf l)))
    (fun h i j => b (ix4 ⟨4 * (group t).val + h.val, by omega⟩ (Cert.Reference4Ideal.Near.dist r ⟨j.val / 64, by omega⟩) i ⟨j.val % 64, by omega⟩))
    (fun i l => ?_) (fun j l => ?_) (fun h i j => (block_bias m c t r h i j).trans (hb _)) h i x).trans ?_
  · refine (block_q m c t ⟨64 * r.val + i.val, by omega⟩ l).trans ?_
    rw [hq, hs, EReal.coe_mul]
  · exact (block_k m c t _ l).trans (hk _)
  · refine Eq.trans ?_ (Cert.Reference4Ideal.Near.out_apply (argQ m c) (argK m c) (argV m c) (argB m c) qr kr b s hq hk hb hs (batch t) r i
      ⟨4 * (group t).val + h.val, by omega⟩ x).symm
    simp only [headOf_lane, placeOf_lane]
    have e : ∀ j : Fin 512, (∑ d : Fin 32, qr (ix4 (batch t) ⟨64 * r.val + i.val, by omega⟩ ⟨4 * (group t).val + h.val, by omega⟩ d) * s
          * kr (ix4 (batch t) ⟨64 * first r + j.val, by have := first_le r; omega⟩ ⟨4 * (group t).val + h.val, by omega⟩ d))
        = (∑ d : Fin 32, qr (ix4 (batch t) ⟨64 * r.val + i.val, by omega⟩ ⟨4 * (group t).val + h.val, by omega⟩ d)
          * kr (ix4 (batch t) ⟨64 * first r + j.val, by have := first_le r; omega⟩ ⟨4 * (group t).val + h.val, by omega⟩ d)) * s := fun j => by
      rw [Finset.sum_mul]
      exact Finset.sum_congr rfl fun d _ => by ring
    simp only [e]
    refine Finset.sum_congr rfl fun j _ => ?_
    have ev : windowOf (iblk m c 3 t) r (ix3 0 j (lane h x)) = argV m c (ix4 (batch t) ⟨64 * first r + j.val, by have := first_le r; omega⟩ ⟨4 * (group t).val + h.val, by omega⟩ x) := by
      refine (block_v m c t ⟨64 * first r + j.val, by have := first_le r; omega⟩ (lane h x)).trans ?_
      rw [headOf_lane, placeOf_lane]
    rw [ev]
    rfl

include hq hk ha in
theorem result_eq : (dats m 0 c).arrAt 4 cfg0.N = refOut m c := by
  refine out_cover m c _ fun t n l => ?_
  have en : n = ⟨64 * (⟨n.val / 64, by omega⟩ : Fin 64).val + (⟨n.val % 64, by omega⟩ : Fin 64).val, by show 64 * (n.val / 64) + n.val % 64 < 4096; omega⟩ :=
    Fin.ext (by show n.val = 64 * (n.val / 64) + n.val % 64; omega)
  have el : l = lane ⟨l.val / 32, by omega⟩ ⟨l.val % 32, by omega⟩ := Fin.ext (by show l.val = 32 * (l.val / 32) + l.val % 32; omega)
  rw [en]
  refine (congrArg (fun x : Fin 128 => (outsAt0 m c t : Vec Ideal S1x4096x128 .bf16) (ix3 0 _ x)) el).trans ?_
  refine (result_at m c qr kr ar hq hk ha t ⟨n.val / 64, by omega⟩ ⟨n.val % 64, by omega⟩ ⟨l.val / 32, by omega⟩ ⟨l.val % 32, by omega⟩).trans ?_
  refine congrArg (fun x : Fin 512 => refOut m c (ix3 (batch t) _ x)) (Fin.ext ?_)
  show 32 * (4 * (group t).val + l.val / 32) + l.val % 32 = 128 * (group t).val + l.val
  omega

end Cert.Kernel4Ideal.Near

end
-- ==== Proof.Near.Finite.lean ====
module

public import proofs.«01_k».proof.Proof.Gen.Pre_finite4
public import proofs.«01_k».proof.Proof.Softmax
public import Idealize.ShloMosaic.Lib.ReduceAll
public import Idealize.ShloMosaic.Lib.Affine

@[expose] public section

set_option maxRecDepth 16384

noncomputable section

/-! What the precondition says: the queries, the keys, the values and the biases are real numbers. -/

namespace Cert.Pre_finite4

open Idealize.ShloMosaic Cert.Pre_finite4.Gen

/-- The pattern of plus infinity. -/
theorem ofBits_inf : Ideal.ofBits .f32 0x7F800000#32 = ⊤ := by
  simp [Ideal.ofBits, Ideal.ieee]

/-- An element less than infinity in absolute value is real. -/
theorem real_of_test {s : Shape} (hb : S_.BroadcastsInDim s ![]) (x : FVec Ideal s .f32) (i : s.Idx)
    (h : cmpf .olt (Host.absf x) (broadcastInDim s ![] hb (constant S_ .f32 0x7F800000#32)) i = 1#1) : ∃ r : ℝ, x i = (r : EReal) := by
  change Ideal.cmp .olt (max (x i : EReal) (-(x i))) (Ideal.ofBits .f32 0x7F800000#32) = 1#1 at h
  rw [ofBits_inf] at h
  have hlt : max (x i : EReal) (-(x i)) < ⊤ := by
    by_contra hn
    simp [Ideal.cmp, hn] at h
  have h1 : (x i : EReal) ≠ ⊤ := ((le_max_left _ _).trans_lt hlt).ne
  have h2 : (x i : EReal) ≠ ⊥ := fun e => by
    rw [e] at hlt
    simp at hlt
  exact ⟨_, (EReal.coe_toReal h1 h2).symm⟩

instance : Subsingleton S_.Idx := ⟨fun a b => funext fun i => i.elim0⟩

/-- Every element of an array that passes the test is real. -/
theorem all_real {s : Shape} {axes : List (Fin s.rank)} (hb : S_.BroadcastsInDim s ![]) (hr : s.ReducesTo axes S_) (x : FVec Ideal s .f32)
    (h : Host.reduce IntOp.andi (cmpf .olt (Host.absf x) (broadcastInDim s ![] hb (constant S_ .f32 0x7F800000#32))) (constantI S_ 1 1#1) hr Facts.h_S_ = fun _ => 1#1) :
    ∃ r : s.Idx → ℝ, ∀ i, x i = (r i : EReal) :=
  ⟨_, fun i => (real_of_test hb x i (Host.reduce_andi_all _ _ hr Facts.h_S_ ix0 (congrFun h ix0) i)).choose_spec⟩

theorem andi_split {s : Shape} (a b : IVec s 1) (h : andi a b = fun _ => 1#1) : (a = fun _ => 1#1) ∧ (b = fun _ => 1#1) :=
  ⟨funext fun i => (IntOp.andi_eq_one.1 (congrFun h i)).1, funext fun i => (IntOp.andi_eq_one.1 (congrFun h i)).2⟩

/-- The precondition, read. -/
theorem reals (nb : FVec Ideal S4x4096x512 .f32) (q k v : FVec Ideal S4x4096x16x32 .f32) (a4 : FVec Ideal S1x16x15x31 .f32)
    (h : fn (F := Ideal) nb q k v a4 = fun _ => 1#1) :
    (∃ r : S4x4096x16x32.Idx → ℝ, ∀ i, q i = (r i : EReal)) ∧ (∃ r : S4x4096x16x32.Idx → ℝ, ∀ i, k i = (r i : EReal))
      ∧ (∃ r : S1x16x15x31.Idx → ℝ, ∀ i, a4 i = (r i : EReal)) := by
  unfold fn at h
  obtain ⟨h, h2⟩ := andi_split _ _ h
  obtain ⟨h0, h1⟩ := andi_split _ _ h
  exact ⟨all_real _ _ q h0, all_real _ _ k h1, all_real _ _ a4 h2⟩

end Cert.Pre_finite4

end
-- ==== Proof.lean ====
module

public import proofs.«01_k».proof.Defs
public import proofs.«01_k».proof.Proof.Bit.Launch
public import proofs.«01_k».proof.Proof.Value
public import proofs.«01_k».proof.Proof.Finite
public import proofs.«01_k».proof.Proof.Gen.Kernel2.Frame
public import proofs.«01_k».proof.Proof.Gen.Kernel2Ideal.Value
public import proofs.«01_k».proof.Proof.Gen.Reference2Ideal.Run
public import proofs.«01_k».proof.Proof.In.Value
public import proofs.«01_k».proof.Proof.Gen.Kernel3.Frame
public import proofs.«01_k».proof.Proof.Gen.Kernel3Ideal.Value
public import proofs.«01_k».proof.Proof.Gen.Reference3Ideal.Run
public import proofs.«01_k».proof.Proof.Comb.Value
public import proofs.«01_k».proof.Proof.Gen.Kernel4.Frame
public import proofs.«01_k».proof.Proof.Gen.Kernel4Ideal.Value
public import proofs.«01_k».proof.Proof.Gen.Reference4Ideal.Run
public import proofs.«01_k».proof.Proof.Near.Value
public import proofs.«01_k».proof.Proof.Near.Finite

@[expose] public section

set_option maxRecDepth 16384

noncomputable section

namespace Cert.Proof

open Idealize.ShloMosaic Idealize.ShloMosaic.TcCoe Idealize.SL.Sem Cert.Softmax

/-- The weight of the difference is real where its four rows are. -/
theorem lam_real (a4 a5 a6 a7 : FVec Ideal Cert.ReferenceIdeal.S1x64 .f32) (r4 r5 r6 r7 : Cert.ReferenceIdeal.S1x64.Idx → ℝ)
    (h4 : ∀ i, a4 i = (r4 i : EReal)) (h5 : ∀ i, a5 i = (r5 i : EReal)) (h6 : ∀ i, a6 i = (r6 i : EReal)) (h7 : ∀ i, a7 i = (r7 i : EReal)) :
    ∃ lr : ℝ, Cert.ReferenceIdeal.Att.lamRef a4 a5 a6 a7 ix0 = (lr : EReal) := by
  obtain ⟨f, hf⟩ := ofBits_fifth
  rw [Cert.ReferenceIdeal.Att.lamRef_apply, hf]
  simp only [h4, h5, h6, h7, ← EReal.coe_mul, coe_sum, Ideal.exp_coe, ← EReal.coe_sub, ← EReal.coe_add]
  exact ⟨_, rfl⟩

/-- The idealized kernel's result is the reference's function of the arguments. -/
theorem kernel_result (m : (ℓ : Loc Cert.KernelIdeal.nD Cert.KernelIdeal.τ Cert.KernelIdeal.sig) → Buf (Elt Ideal) ℓ) (hpre : Cert.Pre_KernelIdeal_finite m)
    (c : Dev Cert.KernelIdeal.nD) : (Cert.KernelIdeal.Att.dat m 0 c).arrAt 5 Cert.KernelIdeal.cfg0.N = Cert.KernelIdeal.Att.refOut m c := by
  obtain ⟨⟨qr, hq⟩, ⟨kr, hk⟩, ⟨vr, hv⟩, ⟨r4, h4⟩, ⟨r5, h5⟩, ⟨r6, h6⟩, ⟨r7, h7⟩⟩ := Cert.Pre_finite.reals _ _ _ _ _ _ _ _ _ (hpre c)
  obtain ⟨lr, hl⟩ := lam_real _ _ _ _ r4 r5 r6 r7 h4 h5 h6 h7
  exact Cert.KernelIdeal.Att.result_eq m c qr kr vr lr hq hk hv hl

/-- The reference has no semaphore. -/
theorem sems_reference (s : MemSt Cert.ReferenceIdeal.nD Cert.ReferenceIdeal.τ Cert.ReferenceIdeal.sig (Elt Ideal)) : s.sem = fun _ => 0 :=
  sem_eq_zero_of_no_sems rfl s

theorem algebraic : Cert.algebraic_KernelIdeal_ReferenceIdeal_pre_finite := by
  intro m g m' g' hpre hagree
  refine ⟨fun c => Cert.KernelIdeal.Att.refOut m c, ?_, ?_⟩
  · refine θ_run_mono (θ_run_and (Cert.KernelIdeal.Att.run_named m g) (Cert.KernelIdeal.Att.frame_run m g)) fun r hr c => ?_
    exact ⟨(hr.1 c).trans (kernel_result m hpre c), hr.2.1 c⟩
  · refine θ_run_mono (Cert.ReferenceIdeal.Value.run m' g') fun r hr c => ?_
    obtain ⟨e, hargs⟩ := hr c
    refine ⟨e.trans ?_, hargs⟩
    obtain ⟨h0, h1, h2, h3, h4, h5, h6, h7, h8⟩ := hagree c
    rw [Cert.ReferenceIdeal.Att.res_eq, h0, h1, h2, h4, h5, h6, h7, h8]

/-- The second reference has no semaphore. -/
theorem sems_reference2 (s : MemSt Cert.Reference2Ideal.nD Cert.Reference2Ideal.τ Cert.Reference2Ideal.sig (Elt Ideal)) : s.sem = fun _ => 0 :=
  sem_eq_zero_of_no_sems rfl s

theorem algebraic2 : Cert.algebraic_Kernel2Ideal_Reference2Ideal := by
  intro m g m' g' _ hagree
  refine ⟨fun c => Cert.Kernel2Ideal.In.refRows m c, fun c => Cert.Kernel2Ideal.In.refCols m c, ?_, ?_⟩
  · refine θ_run_mono (Cert.Kernel2Ideal.Value.run_blocks m g) fun r hr c => ?_
    obtain ⟨e0, e1, hargs⟩ := hr c
    exact ⟨e0.trans (Cert.Kernel2Ideal.In.rows_eq m c), e1.trans (Cert.Kernel2Ideal.In.cols_eq m c), hargs⟩
  · refine θ_run_mono (Cert.Reference2Ideal.Value.run m' g') fun r hr c => ?_
    obtain ⟨e0, e1, hargs⟩ := hr c
    obtain ⟨h0, h1, h2, h3, h4, h5, h6⟩ := hagree c
    refine ⟨e0.trans ?_, e1.trans ?_, hargs⟩
    · rw [Cert.Reference2Ideal.In.res0_eq, h0, h1, h2, h4, h5, h6]
    · rw [Cert.Reference2Ideal.In.res1_eq, h0, h1, h2, h3]

/-- The third reference has no semaphore. -/
theorem sems_reference3 (s : MemSt Cert.Reference3Ideal.nD Cert.Reference3Ideal.τ Cert.Reference3Ideal.sig (Elt Ideal)) : s.sem = fun _ => 0 :=
  sem_eq_zero_of_no_sems rfl s

theorem algebraic3 : Cert.algebraic_Kernel3Ideal_Reference3Ideal := by
  intro m g m' g' _ hagree
  refine ⟨fun c => Cert.Kernel3Ideal.Comb.refOut m c, ?_, ?_⟩
  · refine θ_run_mono (Cert.Kernel3Ideal.Value.run_blocks m g) fun r hr c => ?_
    obtain ⟨e, hargs⟩ := hr c
    exact ⟨e.trans (Cert.Kernel3Ideal.Comb.result_eq m c), hargs⟩
  · refine θ_run_mono (Cert.Reference3Ideal.Value.run m' g') fun r hr c => ?_
    obtain ⟨e, hargs⟩ := hr c
    obtain ⟨h0, h1, h2, h3, h4, h5, h6, h7⟩ := hagree c
    refine ⟨e.trans ?_, hargs⟩
    rw [Cert.Reference3Ideal.Comb.res_eq, h0, h1, h2, h3, h4, h5, h6, h7]

/-- The neighbourhood attention's result is the reference's function of the arguments. -/
theorem kernel4_result (m : (ℓ : Loc Cert.Kernel4Ideal.nD Cert.Kernel4Ideal.τ Cert.Kernel4Ideal.sig) → Buf (Elt Ideal) ℓ) (hpre : Cert.Pre_Kernel4Ideal_finite4 m)
    (c : Dev Cert.Kernel4Ideal.nD) : (Cert.Kernel4Ideal.Gen.dats m 0 c).arrAt 4 Cert.Kernel4Ideal.cfg0.N = Cert.Kernel4Ideal.Near.refOut m c := by
  obtain ⟨⟨qr, hq⟩, ⟨kr, hk⟩, ⟨ar, ha⟩⟩ := Cert.Pre_finite4.reals _ _ _ _ _ (hpre c)
  exact Cert.Kernel4Ideal.Near.result_eq m c qr kr ar hq hk ha

/-- The fourth reference has no semaphore. -/
theorem sems_reference4 (s : MemSt Cert.Reference4Ideal.nD Cert.Reference4Ideal.τ Cert.Reference4Ideal.sig (Elt Ideal)) : s.sem = fun _ => 0 :=
  sem_eq_zero_of_no_sems rfl s

theorem algebraic4 : Cert.algebraic_Kernel4Ideal_Reference4Ideal_pre_finite4 := by
  intro m g m' g' hpre hagree
  refine ⟨fun c => Cert.Kernel4Ideal.Near.refOut m c, ?_, ?_⟩
  · refine θ_run_mono (Cert.Kernel4Ideal.Value.run_blocks m g) fun r hr c => ?_
    obtain ⟨e, hargs⟩ := hr c
    exact ⟨e.trans (kernel4_result m hpre c), hargs⟩
  · refine θ_run_mono (Cert.Reference4Ideal.Value.run m' g') fun r hr c => ?_
    obtain ⟨e, hargs⟩ := hr c
    obtain ⟨h0, h1, h2, h3, h4⟩ := hagree c
    refine ⟨e.trans ?_, hargs⟩
    rw [Cert.Reference4Ideal.Near.res_eq, h1, h2, h3, h4]
    rfl

theorem claim : Cert.Claim := by
  refine ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.facts, Cert.Pre_finite4.Gen.facts,
    fun m g _ => Cert.Kernel.Att.frame_run m g, fun m g _ => Cert.KernelIdeal.Att.frame_run m g, fun m g _ => Cert.KernelIdeal.Att.frame_run m g,
    fun m g _ => θ_run_mono (Cert.ReferenceIdeal.Value.run m g) fun r hr => ⟨fun c => (hr c).2, sems_reference r.2⟩,
    fun m g _ => θ_run_mono (Cert.ReferenceIdeal.Value.run m g) fun r hr => ⟨fun c => (hr c).2, sems_reference r.2⟩,
    fun m g _ => Cert.Kernel2.Gen.frame m g, fun m g _ => Cert.Kernel2Ideal.Gen.frame m g,
    fun m g _ => θ_run_mono (Cert.Reference2Ideal.Value.run m g) fun r hr => ⟨fun c => (hr c).2.2, sems_reference2 r.2⟩,
    fun m g _ => Cert.Kernel3.Gen.frame m g, fun m g _ => Cert.Kernel3Ideal.Gen.frame m g,
    fun m g _ => θ_run_mono (Cert.Reference3Ideal.Value.run m g) fun r hr => ⟨fun c => (hr c).2, sems_reference3 r.2⟩,
    fun m g _ => Cert.Kernel4.Gen.frame m g, fun m g _ => Cert.Kernel4Ideal.Gen.frame m g, fun m g _ => Cert.Kernel4Ideal.Gen.frame m g,
    fun m g _ => θ_run_mono (Cert.Reference4Ideal.Value.run m g) fun r hr => ⟨fun c => (hr c).2, sems_reference4 r.2⟩,
    fun m g _ => θ_run_mono (Cert.Reference4Ideal.Value.run m g) fun r hr => ⟨fun c => (hr c).2, sems_reference4 r.2⟩,
    IdealRules.named_const.statement Cert.KernelIdeal.κ "qscale" .f32 0x3E38AA3B#32 ((8⁻¹ * (Real.log 2)⁻¹ : ℝ) : EReal) rfl, algebraic,
    trivial, algebraic2, trivial, algebraic3, trivial, algebraic4⟩

end Cert.Proof

end
